-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxIdeal_finite_ffn [hPre_finite_ffn : Cert.Pre_finite_ffn.Facts] (m : (ℓ : Loc Cert.FfnDownDxIdeal.nD Cert.FfnDownDxIdeal.τ Cert.FfnDownDxIdeal.sig) → Buf (Elt Ideal) ℓ) : Prop :=
  ∀ c : Dev Cert.FfnDownDxIdeal.nD,
    (Cert.Pre_finite_ffn.fn (F := Ideal) (m ((c.tc : Thread Cert.FfnDownDxIdeal.nD Cert.FfnDownDxIdeal.τ).loc Cert.FfnDownDxIdeal.main_arg0)) (m ((c.tc : Thread Cert.FfnDownDxIdeal.nD Cert.FfnDownDxIdeal.τ).loc Cert.FfnDownDxIdeal.main_arg1)) (m ((c.tc : Thread Cert.FfnDownDxIdeal.nD Cert.FfnDownDxIdeal.τ).loc Cert.FfnDownDxIdeal.main_arg2)) (m ((c.tc : Thread Cert.FfnDownDxIdeal.nD Cert.FfnDownDxIdeal.τ).loc Cert.FfnDownDxIdeal.main_arg3)) (m ((c.tc : Thread Cert.FfnDownDxIdeal.nD Cert.FfnDownDxIdeal.τ).loc Cert.FfnDownDxIdeal.main_arg4))) = (fun _ => 1#1)

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDxRefIdeal_finite_ffn [hPre_finite_ffn : Cert.Pre_finite_ffn.Facts] (m : (ℓ : Loc Cert.FfnDownDxRefIdeal.nD Cert.FfnDownDxRefIdeal.τ Cert.FfnDownDxRefIdeal.sig) → Buf (Elt Ideal) ℓ) : Prop :=
  ∀ c : Dev Cert.FfnDownDxRefIdeal.nD,
    (Cert.Pre_finite_ffn.fn (F := Ideal) (m ((c.tc : Thread Cert.FfnDownDxRefIdeal.nD Cert.FfnDownDxRefIdeal.τ).loc Cert.FfnDownDxRefIdeal.main_arg0)) (m ((c.tc : Thread Cert.FfnDownDxRefIdeal.nD Cert.FfnDownDxRefIdeal.τ).loc Cert.FfnDownDxRefIdeal.main_arg1)) (m ((c.tc : Thread Cert.FfnDownDxRefIdeal.nD Cert.FfnDownDxRefIdeal.τ).loc Cert.FfnDownDxRefIdeal.main_arg2)) (m ((c.tc : Thread Cert.FfnDownDxRefIdeal.nD Cert.FfnDownDxRefIdeal.τ).loc Cert.FfnDownDxRefIdeal.main_arg3)) (m ((c.tc : Thread Cert.FfnDownDxRefIdeal.nD Cert.FfnDownDxRefIdeal.τ).loc Cert.FfnDownDxRefIdeal.main_arg4))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxRefIdeal (m : (ℓ : Loc Cert.ProjInDxRefIdeal.nD Cert.ProjInDxRefIdeal.τ Cert.ProjInDxRefIdeal.sig) → Buf (Elt Ideal) ℓ) : Prop :=
  True

def Pre_ProjInDw (m : (ℓ : Loc Cert.ProjInDw.nD Cert.ProjInDw.τ Cert.ProjInDw.sig) → Buf (Elt Bits) ℓ) : Prop :=
  True

def Pre_ProjInDwIdeal (m : (ℓ : Loc Cert.ProjInDwIdeal.nD Cert.ProjInDwIdeal.τ Cert.ProjInDwIdeal.sig) → Buf (Elt Ideal) ℓ) : Prop :=
  True

def Pre_ProjInDwRefIdeal (m : (ℓ : Loc Cert.ProjInDwRefIdeal.nD Cert.ProjInDwRefIdeal.τ Cert.ProjInDwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_GluGateRefIdeal (m : (ℓ : Loc Cert.GluGateRefIdeal.nD Cert.GluGateRefIdeal.τ Cert.GluGateRefIdeal.sig) → Buf (Elt Ideal) ℓ) : Prop :=
  True

def Pre_GluGateDx (m : (ℓ : Loc Cert.GluGateDx.nD Cert.GluGateDx.τ Cert.GluGateDx.sig) → Buf (Elt Bits) ℓ) : Prop :=
  True

def Pre_GluGateDxIdeal (m : (ℓ : Loc Cert.GluGateDxIdeal.nD Cert.GluGateDxIdeal.τ Cert.GluGateDxIdeal.sig) → Buf (Elt Ideal) ℓ) : Prop :=
  True

def Pre_GluGateDxRefIdeal (m : (ℓ : Loc Cert.GluGateDxRefIdeal.nD Cert.GluGateDxRefIdeal.τ Cert.GluGateDxRefIdeal.sig) → Buf (Elt Ideal) ℓ) : Prop :=
  True

def Pre_GluGateDw (m : (ℓ : Loc Cert.GluGateDw.nD Cert.GluGateDw.τ Cert.GluGateDw.sig) → Buf (Elt Bits) ℓ) : Prop :=
  True

def Pre_GluGateDwIdeal (m : (ℓ : Loc Cert.GluGateDwIdeal.nD Cert.GluGateDwIdeal.τ Cert.GluGateDwIdeal.sig) → Buf (Elt Ideal) ℓ) : Prop :=
  True

def Pre_GluGateDwRefIdeal (m : (ℓ : Loc Cert.GluGateDwRefIdeal.nD Cert.GluGateDwRefIdeal.τ Cert.GluGateDwRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1)
      ∧ r.2.mem ((c.tc : Thread Cert.FfnDownDx.nD Cert.FfnDownDx.τ).loc Cert.FfnDownDx.main_arg2) = m ((c.tc : Thread Cert.FfnDownDx.nD Cert.FfnDownDx.τ).loc Cert.FfnDownDx.main_arg2)
      ∧ r.2.mem ((c.tc : Thread Cert.FfnDownDx.nD Cert.FfnDownDx.τ).loc Cert.FfnDownDx.main_arg3) = m ((c.tc : Thread Cert.FfnDownDx.nD Cert.FfnDownDx.τ).loc Cert.FfnDownDx.main_arg3)
      ∧ r.2.mem ((c.tc : Thread Cert.FfnDownDx.nD Cert.FfnDownDx.τ).loc Cert.FfnDownDx.main_arg4) = m ((c.tc : Thread Cert.FfnDownDx.nD Cert.FfnDownDx.τ).loc Cert.FfnDownDx.main_arg4))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
      ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
      ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3)
      ∧ r.2.mem ((c.tc : Thread Cert.FfnDownDxIdeal.nD Cert.FfnDownDxIdeal.τ).loc Cert.FfnDownDxIdeal.main_arg4) = m ((c.tc : Thread Cert.FfnDownDxIdeal.nD Cert.FfnDownDxIdeal.τ).loc Cert.FfnDownDxIdeal.main_arg4))
      ∧ r.2.sem = fun _ => 0)

def quiescent_FfnDownDxIdeal_pre_finite_ffn [hFfnDownDxIdeal : Cert.FfnDownDxIdeal.Facts] [hPre_finite_ffn : Cert.Pre_finite_ffn.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal_finite_ffn m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
      ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
      ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3)
      ∧ r.2.mem ((c.tc : Thread Cert.FfnDownDxIdeal.nD Cert.FfnDownDxIdeal.τ).loc Cert.FfnDownDxIdeal.main_arg4) = m ((c.tc : Thread Cert.FfnDownDxIdeal.nD Cert.FfnDownDxIdeal.τ).loc Cert.FfnDownDxIdeal.main_arg4))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1)
      ∧ r.2.mem ((c.tc : Thread Cert.FfnDownDxRefIdeal.nD Cert.FfnDownDxRefIdeal.τ).loc Cert.FfnDownDxRefIdeal.main_arg2) = m ((c.tc : Thread Cert.FfnDownDxRefIdeal.nD Cert.FfnDownDxRefIdeal.τ).loc Cert.FfnDownDxRefIdeal.main_arg2)
      ∧ r.2.mem ((c.tc : Thread Cert.FfnDownDxRefIdeal.nD Cert.FfnDownDxRefIdeal.τ).loc Cert.FfnDownDxRefIdeal.main_arg3) = m ((c.tc : Thread Cert.FfnDownDxRefIdeal.nD Cert.FfnDownDxRefIdeal.τ).loc Cert.FfnDownDxRefIdeal.main_arg3)
      ∧ r.2.mem ((c.tc : Thread Cert.FfnDownDxRefIdeal.nD Cert.FfnDownDxRefIdeal.τ).loc Cert.FfnDownDxRefIdeal.main_arg4) = m ((c.tc : Thread Cert.FfnDownDxRefIdeal.nD Cert.FfnDownDxRefIdeal.τ).loc Cert.FfnDownDxRefIdeal.main_arg4))
      ∧ r.2.sem = fun _ => 0)

def quiescent_FfnDownDxRefIdeal_pre_finite_ffn [hFfnDownDxRefIdeal : Cert.FfnDownDxRefIdeal.Facts] [hPre_finite_ffn : Cert.Pre_finite_ffn.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal_finite_ffn m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1)
      ∧ r.2.mem ((c.tc : Thread Cert.FfnDownDxRefIdeal.nD Cert.FfnDownDxRefIdeal.τ).loc Cert.FfnDownDxRefIdeal.main_arg2) = m ((c.tc : Thread Cert.FfnDownDxRefIdeal.nD Cert.FfnDownDxRefIdeal.τ).loc Cert.FfnDownDxRefIdeal.main_arg2)
      ∧ r.2.mem ((c.tc : Thread Cert.FfnDownDxRefIdeal.nD Cert.FfnDownDxRefIdeal.τ).loc Cert.FfnDownDxRefIdeal.main_arg3) = m ((c.tc : Thread Cert.FfnDownDxRefIdeal.nD Cert.FfnDownDxRefIdeal.τ).loc Cert.FfnDownDxRefIdeal.main_arg3)
      ∧ r.2.mem ((c.tc : Thread Cert.FfnDownDxRefIdeal.nD Cert.FfnDownDxRefIdeal.τ).loc Cert.FfnDownDxRefIdeal.main_arg4) = m ((c.tc : Thread Cert.FfnDownDxRefIdeal.nD Cert.FfnDownDxRefIdeal.τ).loc Cert.FfnDownDxRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2)
      ∧ r.2.mem ((c.tc : Thread Cert.FfnInDx.nD Cert.FfnInDx.τ).loc Cert.FfnInDx.main_arg3) = m ((c.tc : Thread Cert.FfnInDx.nD Cert.FfnInDx.τ).loc Cert.FfnInDx.main_arg3))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
      ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2)
      ∧ r.2.mem ((c.tc : Thread Cert.FfnInDxRefIdeal.nD Cert.FfnInDxRefIdeal.τ).loc Cert.FfnInDxRefIdeal.main_arg3) = m ((c.tc : Thread Cert.FfnInDxRefIdeal.nD Cert.FfnInDxRefIdeal.τ).loc Cert.FfnInDxRefIdeal.main_arg3))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ r.2.sem = fun _ => 0)

def quiescent_ProjInDxRefIdeal [hProjInDxRefIdeal : Cert.ProjInDxRefIdeal.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1))
      ∧ r.2.sem = fun _ => 0)

def quiescent_ProjInDw [hProjInDw : Cert.ProjInDw.Facts] : Prop :=
  ∀ (m : (ℓ : Loc Cert.ProjInDw.nD Cert.ProjInDw.τ Cert.ProjInDw.sig) → Buf (Elt Bits) ℓ) (g : Dev Cert.ProjInDw.nD → PrngReg), Pre_ProjInDw m →
    θ_run (Cert.ProjInDw.defs (F := Bits)) (onTc (τ := Cert.ProjInDw.τ) (Cert.ProjInDw.main (F := Bits))) ⟨m, fun _ => 0, g⟩ (fun r => (∀ c : Dev Cert.ProjInDw.nD,
      r.2.mem ((c.tc : Thread Cert.ProjInDw.nD Cert.ProjInDw.τ).loc Cert.ProjInDw.main_arg0) = m ((c.tc : Thread Cert.ProjInDw.nD Cert.ProjInDw.τ).loc Cert.ProjInDw.main_arg0)
      ∧ r.2.mem ((c.tc : Thread Cert.ProjInDw.nD Cert.ProjInDw.τ).loc Cert.ProjInDw.main_arg1) = m ((c.tc : Thread Cert.ProjInDw.nD Cert.ProjInDw.τ).loc Cert.ProjInDw.main_arg1))
      ∧ r.2.sem = fun _ => 0)

def quiescent_ProjInDwIdeal [hProjInDwIdeal : Cert.ProjInDwIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg), Pre_ProjInDwIdeal m →
    θ_run (Cert.ProjInDwIdeal.defs (F := Ideal)) (onTc (τ := Cert.ProjInDwIdeal.τ) (Cert.ProjInDwIdeal.main (F := Ideal))) ⟨m, fun _ => 0, g⟩ (fun r => (∀ c : Dev Cert.ProjInDwIdeal.nD,
      r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
      ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ r.2.sem = fun _ => 0)

def quiescent_ProjInDwRefIdeal [hProjInDwRefIdeal : Cert.ProjInDwRefIdeal.Facts] : Prop :=
  ∀ (m : (ℓ : Loc Cert.ProjInDwRefIdeal.nD Cert.ProjInDwRefIdeal.τ Cert.ProjInDwRefIdeal.sig) → Buf (Elt Ideal) ℓ) (g : Dev Cert.ProjInDwRefIdeal.nD → PrngReg), Pre_ProjInDwRefIdeal m →
    θ_run (Cert.ProjInDwRefIdeal.defs (F := Ideal)) (onTc (τ := Cert.ProjInDwRefIdeal.τ) (Cert.ProjInDwRefIdeal.main (F := Ideal))) ⟨m, fun _ => 0, g⟩ (fun r => (∀ c : Dev Cert.ProjInDwRefIdeal.nD,
      r.2.mem ((c.tc : Thread Cert.ProjInDwRefIdeal.nD Cert.ProjInDwRefIdeal.τ).loc Cert.ProjInDwRefIdeal.main_arg0) = m ((c.tc : Thread Cert.ProjInDwRefIdeal.nD Cert.ProjInDwRefIdeal.τ).loc Cert.ProjInDwRefIdeal.main_arg0)
      ∧ r.2.mem ((c.tc : Thread Cert.ProjInDwRefIdeal.nD Cert.ProjInDwRefIdeal.τ).loc Cert.ProjInDwRefIdeal.main_arg1) = m ((c.tc : Thread Cert.ProjInDwRefIdeal.nD Cert.ProjInDwRefIdeal.τ).loc Cert.ProjInDwRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0)
      ∧ r.2.mem ((c.tc : Thread Cert.GluGate.nD Cert.GluGate.τ).loc Cert.GluGate.main_arg1) = m ((c.tc : Thread Cert.GluGate.nD Cert.GluGate.τ).loc Cert.GluGate.main_arg1))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1))
      ∧ r.2.sem = fun _ => 0)

def quiescent_GluGateRefIdeal [hGluGateRefIdeal : Cert.GluGateRefIdeal.Facts] : Prop :=
  ∀ (m : (ℓ : Loc Cert.GluGateRefIdeal.nD Cert.GluGateRefIdeal.τ Cert.GluGateRefIdeal.sig) → Buf (Elt Ideal) ℓ) (g : Dev Cert.GluGateRefIdeal.nD → PrngReg), Pre_GluGateRefIdeal m →
    θ_run (Cert.GluGateRefIdeal.defs (F := Ideal)) (onTc (τ := Cert.GluGateRefIdeal.τ) (Cert.GluGateRefIdeal.main (F := Ideal))) ⟨m, fun _ => 0, g⟩ (fun r => (∀ c : Dev Cert.GluGateRefIdeal.nD,
      r.2.mem ((c.tc : Thread Cert.GluGateRefIdeal.nD Cert.GluGateRefIdeal.τ).loc Cert.GluGateRefIdeal.main_arg0) = m ((c.tc : Thread Cert.GluGateRefIdeal.nD Cert.GluGateRefIdeal.τ).loc Cert.GluGateRefIdeal.main_arg0)
      ∧ r.2.mem ((c.tc : Thread Cert.GluGateRefIdeal.nD Cert.GluGateRefIdeal.τ).loc Cert.GluGateRefIdeal.main_arg1) = m ((c.tc : Thread Cert.GluGateRefIdeal.nD Cert.GluGateRefIdeal.τ).loc Cert.GluGateRefIdeal.main_arg1))
      ∧ r.2.sem = fun _ => 0)

def quiescent_GluGateDx [hGluGateDx : Cert.GluGateDx.Facts] : Prop :=
  ∀ (m : (ℓ : Loc Cert.GluGateDx.nD Cert.GluGateDx.τ Cert.GluGateDx.sig) → Buf (Elt Bits) ℓ) (g : Dev Cert.GluGateDx.nD → PrngReg), Pre_GluGateDx m →
    θ_run (Cert.GluGateDx.defs (F := Bits)) (onTc (τ := Cert.GluGateDx.τ) (Cert.GluGateDx.main (F := Bits))) ⟨m, fun _ => 0, g⟩ (fun r => (∀ c : Dev Cert.GluGateDx.nD,
      r.2.mem ((c.tc : Thread Cert.GluGateDx.nD Cert.GluGateDx.τ).loc Cert.GluGateDx.main_arg0) = m ((c.tc : Thread Cert.GluGateDx.nD Cert.GluGateDx.τ).loc Cert.GluGateDx.main_arg0)
      ∧ r.2.mem ((c.tc : Thread Cert.GluGateDx.nD Cert.GluGateDx.τ).loc Cert.GluGateDx.main_arg1) = m ((c.tc : Thread Cert.GluGateDx.nD Cert.GluGateDx.τ).loc Cert.GluGateDx.main_arg1))
      ∧ r.2.sem = fun _ => 0)

def quiescent_GluGateDxIdeal [hGluGateDxIdeal : Cert.GluGateDxIdeal.Facts] : Prop :=
  ∀ (m : (ℓ : Loc Cert.GluGateDxIdeal.nD Cert.GluGateDxIdeal.τ Cert.GluGateDxIdeal.sig) → Buf (Elt Ideal) ℓ) (g : Dev Cert.GluGateDxIdeal.nD → PrngReg), Pre_GluGateDxIdeal m →
    θ_run (Cert.GluGateDxIdeal.defs (F := Ideal)) (onTc (τ := Cert.GluGateDxIdeal.τ) (Cert.GluGateDxIdeal.main (F := Ideal))) ⟨m, fun _ => 0, g⟩ (fun r => (∀ c : Dev Cert.GluGateDxIdeal.nD,
      r.2.mem ((c.tc : Thread Cert.GluGateDxIdeal.nD Cert.GluGateDxIdeal.τ).loc Cert.GluGateDxIdeal.main_arg0) = m ((c.tc : Thread Cert.GluGateDxIdeal.nD Cert.GluGateDxIdeal.τ).loc Cert.GluGateDxIdeal.main_arg0)
      ∧ r.2.mem ((c.tc : Thread Cert.GluGateDxIdeal.nD Cert.GluGateDxIdeal.τ).loc Cert.GluGateDxIdeal.main_arg1) = m ((c.tc : Thread Cert.GluGateDxIdeal.nD Cert.GluGateDxIdeal.τ).loc Cert.GluGateDxIdeal.main_arg1))
      ∧ r.2.sem = fun _ => 0)

def quiescent_GluGateDxRefIdeal [hGluGateDxRefIdeal : Cert.GluGateDxRefIdeal.Facts] : Prop :=
  ∀ (m : (ℓ : Loc Cert.GluGateDxRefIdeal.nD Cert.GluGateDxRefIdeal.τ Cert.GluGateDxRefIdeal.sig) → Buf (Elt Ideal) ℓ) (g : Dev Cert.GluGateDxRefIdeal.nD → PrngReg), Pre_GluGateDxRefIdeal m →
    θ_run (Cert.GluGateDxRefIdeal.defs (F := Ideal)) (onTc (τ := Cert.GluGateDxRefIdeal.τ) (Cert.GluGateDxRefIdeal.main (F := Ideal))) ⟨m, fun _ => 0, g⟩ (fun r => (∀ c : Dev Cert.GluGateDxRefIdeal.nD,
      r.2.mem ((c.tc : Thread Cert.GluGateDxRefIdeal.nD Cert.GluGateDxRefIdeal.τ).loc Cert.GluGateDxRefIdeal.main_arg0) = m ((c.tc : Thread Cert.GluGateDxRefIdeal.nD Cert.GluGateDxRefIdeal.τ).loc Cert.GluGateDxRefIdeal.main_arg0)
      ∧ r.2.mem ((c.tc : Thread Cert.GluGateDxRefIdeal.nD Cert.GluGateDxRefIdeal.τ).loc Cert.GluGateDxRefIdeal.main_arg1) = m ((c.tc : Thread Cert.GluGateDxRefIdeal.nD Cert.GluGateDxRefIdeal.τ).loc Cert.GluGateDxRefIdeal.main_arg1))
      ∧ r.2.sem = fun _ => 0)

def quiescent_GluGateDw [hGluGateDw : Cert.GluGateDw.Facts] : Prop :=
  ∀ (m : (ℓ : Loc Cert.GluGateDw.nD Cert.GluGateDw.τ Cert.GluGateDw.sig) → Buf (Elt Bits) ℓ) (g : Dev Cert.GluGateDw.nD → PrngReg), Pre_GluGateDw m →
    θ_run (Cert.GluGateDw.defs (F := Bits)) (onTc (τ := Cert.GluGateDw.τ) (Cert.GluGateDw.main (F := Bits))) ⟨m, fun _ => 0, g⟩ (fun r => (∀ c : Dev Cert.GluGateDw.nD,
      r.2.mem ((c.tc : Thread Cert.GluGateDw.nD Cert.GluGateDw.τ).loc Cert.GluGateDw.main_arg0) = m ((c.tc : Thread Cert.GluGateDw.nD Cert.GluGateDw.τ).loc Cert.GluGateDw.main_arg0)
      ∧ r.2.mem ((c.tc : Thread Cert.GluGateDw.nD Cert.GluGateDw.τ).loc Cert.GluGateDw.main_arg1) = m ((c.tc : Thread Cert.GluGateDw.nD Cert.GluGateDw.τ).loc Cert.GluGateDw.main_arg1))
      ∧ r.2.sem = fun _ => 0)

def quiescent_GluGateDwIdeal [hGluGateDwIdeal : Cert.GluGateDwIdeal.Facts] : Prop :=
  ∀ (m : (ℓ : Loc Cert.GluGateDwIdeal.nD Cert.GluGateDwIdeal.τ Cert.GluGateDwIdeal.sig) → Buf (Elt Ideal) ℓ) (g : Dev Cert.GluGateDwIdeal.nD → PrngReg), Pre_GluGateDwIdeal m →
    θ_run (Cert.GluGateDwIdeal.defs (F := Ideal)) (onTc (τ := Cert.GluGateDwIdeal.τ) (Cert.GluGateDwIdeal.main (F := Ideal))) ⟨m, fun _ => 0, g⟩ (fun r => (∀ c : Dev Cert.GluGateDwIdeal.nD,
      r.2.mem ((c.tc : Thread Cert.GluGateDwIdeal.nD Cert.GluGateDwIdeal.τ).loc Cert.GluGateDwIdeal.main_arg0) = m ((c.tc : Thread Cert.GluGateDwIdeal.nD Cert.GluGateDwIdeal.τ).loc Cert.GluGateDwIdeal.main_arg0)
      ∧ r.2.mem ((c.tc : Thread Cert.GluGateDwIdeal.nD Cert.GluGateDwIdeal.τ).loc Cert.GluGateDwIdeal.main_arg1) = m ((c.tc : Thread Cert.GluGateDwIdeal.nD Cert.GluGateDwIdeal.τ).loc Cert.GluGateDwIdeal.main_arg1))
      ∧ r.2.sem = fun _ => 0)

def quiescent_GluGateDwRefIdeal [hGluGateDwRefIdeal : Cert.GluGateDwRefIdeal.Facts] : Prop :=
  ∀ (m : (ℓ : Loc Cert.GluGateDwRefIdeal.nD Cert.GluGateDwRefIdeal.τ Cert.GluGateDwRefIdeal.sig) → Buf (Elt Ideal) ℓ) (g : Dev Cert.GluGateDwRefIdeal.nD → PrngReg), Pre_GluGateDwRefIdeal m →
    θ_run (Cert.GluGateDwRefIdeal.defs (F := Ideal)) (onTc (τ := Cert.GluGateDwRefIdeal.τ) (Cert.GluGateDwRefIdeal.main (F := Ideal))) ⟨m, fun _ => 0, g⟩ (fun r => (∀ c : Dev Cert.GluGateDwRefIdeal.nD,
      r.2.mem ((c.tc : Thread Cert.GluGateDwRefIdeal.nD Cert.GluGateDwRefIdeal.τ).loc Cert.GluGateDwRefIdeal.main_arg0) = m ((c.tc : Thread Cert.GluGateDwRefIdeal.nD Cert.GluGateDwRefIdeal.τ).loc Cert.GluGateDwRefIdeal.main_arg0)
      ∧ r.2.mem ((c.tc : Thread Cert.GluGateDwRefIdeal.nD Cert.GluGateDwRefIdeal.τ).loc Cert.GluGateDwRefIdeal.main_arg1) = m ((c.tc : Thread Cert.GluGateDwRefIdeal.nD Cert.GluGateDwRefIdeal.τ).loc Cert.GluGateDwRefIdeal.main_arg1))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v249) = v0 c
          ∧ r.2.mem ((c.tc : Thread Cert.ReferenceIdeal.nD Cert.ReferenceIdeal.τ).loc Cert.ReferenceIdeal.main_v250) = v1 c
          ∧ r.2.mem ((c.tc : Thread Cert.ReferenceIdeal.nD Cert.ReferenceIdeal.τ).loc Cert.ReferenceIdeal.main_v251) = v2 c
          ∧ r.2.mem ((c.tc : Thread Cert.ReferenceIdeal.nD Cert.ReferenceIdeal.τ).loc Cert.ReferenceIdeal.main_v253) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)) →
    ∃ (v0 : (c : Dev Cert.FfnInIdeal.nD) → Buf (Elt Ideal) ((c.tc : Thread Cert.FfnInIdeal.nD Cert.FfnInIdeal.τ).loc Cert.FfnInIdeal.main_v4_0)) (v1 : (c : Dev Cert.FfnInIdeal.nD) → Buf (Elt Ideal) ((c.tc : Thread Cert.FfnInIdeal.nD Cert.FfnInIdeal.τ).loc Cert.FfnInIdeal.main_v4_1)) (v2 : (c : Dev Cert.FfnInIdeal.nD) → Buf (Elt Ideal) ((c.tc : Thread Cert.FfnInIdeal.nD Cert.FfnInIdeal.τ).loc Cert.FfnInIdeal.main_v4_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4_0) = v0 c
          ∧ r.2.mem ((c.tc : Thread Cert.FfnInIdeal.nD Cert.FfnInIdeal.τ).loc Cert.FfnInIdeal.main_v4_1) = v1 c
          ∧ r.2.mem ((c.tc : Thread Cert.FfnInIdeal.nD Cert.FfnInIdeal.τ).loc Cert.FfnInIdeal.main_v4_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v3) = v0 c
          ∧ r.2.mem ((c.tc : Thread Cert.FfnInRefIdeal.nD Cert.FfnInRefIdeal.τ).loc Cert.FfnInRefIdeal.main_v4) = v1 c
          ∧ r.2.mem ((c.tc : Thread Cert.FfnInRefIdeal.nD Cert.FfnInRefIdeal.τ).loc Cert.FfnInRefIdeal.main_v7) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2))

def preserves_FfnDownDx_FfnDownDxIdeal : Prop :=
  True

def algebraic_FfnDownDxIdeal_FfnDownDxRefIdeal_pre_finite_ffn [hFfnDownDxIdeal : Cert.FfnDownDxIdeal.Facts] [hFfnDownDxRefIdeal : Cert.FfnDownDxRefIdeal.Facts] [hPre_finite_ffn : Cert.Pre_finite_ffn.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal_finite_ffn m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)
      ∧ m' ((c.tc : Thread Cert.FfnDownDxRefIdeal.nD Cert.FfnDownDxRefIdeal.τ).loc Cert.FfnDownDxRefIdeal.main_arg2) = m ((c.tc : Thread Cert.FfnDownDxIdeal.nD Cert.FfnDownDxIdeal.τ).loc Cert.FfnDownDxIdeal.main_arg2)
      ∧ m' ((c.tc : Thread Cert.FfnDownDxRefIdeal.nD Cert.FfnDownDxRefIdeal.τ).loc Cert.FfnDownDxRefIdeal.main_arg3) = m ((c.tc : Thread Cert.FfnDownDxIdeal.nD Cert.FfnDownDxIdeal.τ).loc Cert.FfnDownDxIdeal.main_arg3)
      ∧ m' ((c.tc : Thread Cert.FfnDownDxRefIdeal.nD Cert.FfnDownDxRefIdeal.τ).loc Cert.FfnDownDxRefIdeal.main_arg4) = m ((c.tc : Thread Cert.FfnDownDxIdeal.nD Cert.FfnDownDxIdeal.τ).loc Cert.FfnDownDxIdeal.main_arg4)) →
    ∃ (v0 : (c : Dev Cert.FfnDownDxIdeal.nD) → Buf (Elt Ideal) ((c.tc : Thread Cert.FfnDownDxIdeal.nD Cert.FfnDownDxIdeal.τ).loc Cert.FfnDownDxIdeal.main_v6_0)) (v1 : (c : Dev Cert.FfnDownDxIdeal.nD) → Buf (Elt Ideal) ((c.tc : Thread Cert.FfnDownDxIdeal.nD Cert.FfnDownDxIdeal.τ).loc Cert.FfnDownDxIdeal.main_v6_1)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v6_0) = v0 c
          ∧ r.2.mem ((c.tc : Thread Cert.FfnDownDxIdeal.nD Cert.FfnDownDxIdeal.τ).loc Cert.FfnDownDxIdeal.main_v6_1) = v1 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
          ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
          ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3)
          ∧ r.2.mem ((c.tc : Thread Cert.FfnDownDxIdeal.nD Cert.FfnDownDxIdeal.τ).loc Cert.FfnDownDxIdeal.main_arg4) = m ((c.tc : Thread Cert.FfnDownDxIdeal.nD Cert.FfnDownDxIdeal.τ).loc Cert.FfnDownDxIdeal.main_arg4))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v11) = v0 c
          ∧ r.2.mem ((c.tc : Thread Cert.FfnDownDxRefIdeal.nD Cert.FfnDownDxRefIdeal.τ).loc Cert.FfnDownDxRefIdeal.main_v12) = v1 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1)
          ∧ r.2.mem ((c.tc : Thread Cert.FfnDownDxRefIdeal.nD Cert.FfnDownDxRefIdeal.τ).loc Cert.FfnDownDxRefIdeal.main_arg2) = m' ((c.tc : Thread Cert.FfnDownDxRefIdeal.nD Cert.FfnDownDxRefIdeal.τ).loc Cert.FfnDownDxRefIdeal.main_arg2)
          ∧ r.2.mem ((c.tc : Thread Cert.FfnDownDxRefIdeal.nD Cert.FfnDownDxRefIdeal.τ).loc Cert.FfnDownDxRefIdeal.main_arg3) = m' ((c.tc : Thread Cert.FfnDownDxRefIdeal.nD Cert.FfnDownDxRefIdeal.τ).loc Cert.FfnDownDxRefIdeal.main_arg3)
          ∧ r.2.mem ((c.tc : Thread Cert.FfnDownDxRefIdeal.nD Cert.FfnDownDxRefIdeal.τ).loc Cert.FfnDownDxRefIdeal.main_arg4) = m' ((c.tc : Thread Cert.FfnDownDxRefIdeal.nD Cert.FfnDownDxRefIdeal.τ).loc Cert.FfnDownDxRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)
      ∧ m' ((c.tc : Thread Cert.FfnInDxRefIdeal.nD Cert.FfnInDxRefIdeal.τ).loc Cert.FfnInDxRefIdeal.main_arg3) = m ((c.tc : Thread Cert.FfnInDxIdeal.nD Cert.FfnInDxIdeal.τ).loc Cert.FfnInDxIdeal.main_arg3)) →
    ∃ (v0 : (c : Dev Cert.FfnInDxIdeal.nD) → Buf (Elt Ideal) ((c.tc : Thread Cert.FfnInDxIdeal.nD Cert.FfnInDxIdeal.τ).loc Cert.FfnInDxIdeal.main_v4)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v4) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2)
          ∧ r.2.mem ((c.tc : Thread Cert.FfnInDxIdeal.nD Cert.FfnInDxIdeal.τ).loc Cert.FfnInDxIdeal.main_arg3) = m ((c.tc : Thread Cert.FfnInDxIdeal.nD Cert.FfnInDxIdeal.τ).loc Cert.FfnInDxIdeal.main_arg3))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v7) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2)
          ∧ r.2.mem ((c.tc : Thread Cert.FfnInDxRefIdeal.nD Cert.FfnInDxRefIdeal.τ).loc Cert.FfnInDxRefIdeal.main_arg3) = m' ((c.tc : Thread Cert.FfnInDxRefIdeal.nD Cert.FfnInDxRefIdeal.τ).loc Cert.FfnInDxRefIdeal.main_arg3))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v6) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v2)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v2) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v1) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjInDx_ProjInDxIdeal : Prop :=
  True

def algebraic_ProjInDxIdeal_ProjInDxRefIdeal [hProjInDxIdeal : Cert.ProjInDxIdeal.Facts] [hProjInDxRefIdeal : Cert.ProjInDxRefIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRefIdeal.nD Cert.ProjInDxRefIdeal.τ Cert.ProjInDxRefIdeal.sig) → Buf (Elt Ideal) ℓ) (g' : Dev Cert.ProjInDxRefIdeal.nD → PrngReg), Pre_ProjInDxIdeal m →
    (∀ c : Dev Cert.ProjInDxIdeal.nD,
      m' ((c.tc : Thread Cert.ProjInDxRefIdeal.nD Cert.ProjInDxRefIdeal.τ).loc Cert.ProjInDxRefIdeal.main_arg0) = m ((c.tc : Thread Cert.ProjInDxIdeal.nD Cert.ProjInDxIdeal.τ).loc Cert.ProjInDxIdeal.main_arg0)
      ∧ m' ((c.tc : Thread Cert.ProjInDxRefIdeal.nD Cert.ProjInDxRefIdeal.τ).loc Cert.ProjInDxRefIdeal.main_arg1) = m ((c.tc : Thread Cert.ProjInDxIdeal.nD Cert.ProjInDxIdeal.τ).loc Cert.ProjInDxIdeal.main_arg1)) →
    ∃ (v0 : (c : Dev Cert.ProjInDxIdeal.nD) → Buf (Elt Ideal) ((c.tc : Thread Cert.ProjInDxIdeal.nD Cert.ProjInDxIdeal.τ).loc Cert.ProjInDxIdeal.main_v2)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v2) = v0 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ θ_run (Cert.ProjInDxRefIdeal.defs (F := Ideal)) (onTc (τ := Cert.ProjInDxRefIdeal.τ) (Cert.ProjInDxRefIdeal.main (F := Ideal))) ⟨m', fun _ => 0, g'⟩ (fun r => ∀ c : Dev Cert.ProjInDxRefIdeal.nD,
          r.2.mem ((c.tc : Thread Cert.ProjInDxRefIdeal.nD Cert.ProjInDxRefIdeal.τ).loc Cert.ProjInDxRefIdeal.main_v3) = v0 c
          ∧ r.2.mem ((c.tc : Thread Cert.ProjInDxRefIdeal.nD Cert.ProjInDxRefIdeal.τ).loc Cert.ProjInDxRefIdeal.main_arg0) = m' ((c.tc : Thread Cert.ProjInDxRefIdeal.nD Cert.ProjInDxRefIdeal.τ).loc Cert.ProjInDxRefIdeal.main_arg0)
          ∧ r.2.mem ((c.tc : Thread Cert.ProjInDxRefIdeal.nD Cert.ProjInDxRefIdeal.τ).loc Cert.ProjInDxRefIdeal.main_arg1) = m' ((c.tc : Thread Cert.ProjInDxRefIdeal.nD Cert.ProjInDxRefIdeal.τ).loc Cert.ProjInDxRefIdeal.main_arg1))

def preserves_ProjInDw_ProjInDwIdeal : Prop :=
  True

def algebraic_ProjInDwIdeal_ProjInDwRefIdeal [hProjInDwIdeal : Cert.ProjInDwIdeal.Facts] [hProjInDwRefIdeal : Cert.ProjInDwRefIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg)
    (m' : (ℓ : Loc Cert.ProjInDwRefIdeal.nD Cert.ProjInDwRefIdeal.τ Cert.ProjInDwRefIdeal.sig) → Buf (Elt Ideal) ℓ) (g' : Dev Cert.ProjInDwRefIdeal.nD → PrngReg), Pre_ProjInDwIdeal m →
    (∀ c : Dev Cert.ProjInDwIdeal.nD,
      m' ((c.tc : Thread Cert.ProjInDwRefIdeal.nD Cert.ProjInDwRefIdeal.τ).loc Cert.ProjInDwRefIdeal.main_arg0) = m ((c.tc : Thread Cert.ProjInDwIdeal.nD Cert.ProjInDwIdeal.τ).loc Cert.ProjInDwIdeal.main_arg0)
      ∧ m' ((c.tc : Thread Cert.ProjInDwRefIdeal.nD Cert.ProjInDwRefIdeal.τ).loc Cert.ProjInDwRefIdeal.main_arg1) = m ((c.tc : Thread Cert.ProjInDwIdeal.nD Cert.ProjInDwIdeal.τ).loc Cert.ProjInDwIdeal.main_arg1)) →
    ∃ (v0 : (c : Dev Cert.ProjInDwIdeal.nD) → Buf (Elt Ideal) ((c.tc : Thread Cert.ProjInDwIdeal.nD Cert.ProjInDwIdeal.τ).loc Cert.ProjInDwIdeal.main_v0)),
      θ_run (Cert.ProjInDwIdeal.defs (F := Ideal)) (onTc (τ := Cert.ProjInDwIdeal.τ) (Cert.ProjInDwIdeal.main (F := Ideal))) ⟨m, fun _ => 0, g⟩ (fun r => ∀ c : Dev Cert.ProjInDwIdeal.nD,
          r.2.mem ((c.tc : Thread Cert.ProjInDwIdeal.nD Cert.ProjInDwIdeal.τ).loc Cert.ProjInDwIdeal.main_v0) = v0 c
          ∧ r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
          ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ θ_run (Cert.ProjInDwRefIdeal.defs (F := Ideal)) (onTc (τ := Cert.ProjInDwRefIdeal.τ) (Cert.ProjInDwRefIdeal.main (F := Ideal))) ⟨m', fun _ => 0, g'⟩ (fun r => ∀ c : Dev Cert.ProjInDwRefIdeal.nD,
          r.2.mem ((c.tc : Thread Cert.ProjInDwRefIdeal.nD Cert.ProjInDwRefIdeal.τ).loc Cert.ProjInDwRefIdeal.main_v7) = v0 c
          ∧ r.2.mem ((c.tc : Thread Cert.ProjInDwRefIdeal.nD Cert.ProjInDwRefIdeal.τ).loc Cert.ProjInDwRefIdeal.main_arg0) = m' ((c.tc : Thread Cert.ProjInDwRefIdeal.nD Cert.ProjInDwRefIdeal.τ).loc Cert.ProjInDwRefIdeal.main_arg0)
          ∧ r.2.mem ((c.tc : Thread Cert.ProjInDwRefIdeal.nD Cert.ProjInDwRefIdeal.τ).loc Cert.ProjInDwRefIdeal.main_arg1) = m' ((c.tc : Thread Cert.ProjInDwRefIdeal.nD Cert.ProjInDwRefIdeal.τ).loc Cert.ProjInDwRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v1)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v1) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v3) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_GluGate_GluGateIdeal : Prop :=
  True

def algebraic_GluGateIdeal_GluGateRefIdeal [hGluGateIdeal : Cert.GluGateIdeal.Facts] [hGluGateRefIdeal : Cert.GluGateRefIdeal.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.GluGateRefIdeal.nD Cert.GluGateRefIdeal.τ Cert.GluGateRefIdeal.sig) → Buf (Elt Ideal) ℓ) (g' : Dev Cert.GluGateRefIdeal.nD → PrngReg), Pre_GluGateIdeal m →
    (∀ c : Dev Cert.GluGateIdeal.nD,
      m' ((c.tc : Thread Cert.GluGateRefIdeal.nD Cert.GluGateRefIdeal.τ).loc Cert.GluGateRefIdeal.main_arg0) = m ((c.tc : Thread Cert.GluGateIdeal.nD Cert.GluGateIdeal.τ).loc Cert.GluGateIdeal.main_arg0)
      ∧ m' ((c.tc : Thread Cert.GluGateRefIdeal.nD Cert.GluGateRefIdeal.τ).loc Cert.GluGateRefIdeal.main_arg1) = m ((c.tc : Thread Cert.GluGateIdeal.nD Cert.GluGateIdeal.τ).loc Cert.GluGateIdeal.main_arg1)) →
    ∃ (v0 : (c : Dev Cert.GluGateIdeal.nD) → Buf (Elt Ideal) ((c.tc : Thread Cert.GluGateIdeal.nD Cert.GluGateIdeal.τ).loc Cert.GluGateIdeal.main_v1)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v1) = v0 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
          ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1))
      ∧ θ_run (Cert.GluGateRefIdeal.defs (F := Ideal)) (onTc (τ := Cert.GluGateRefIdeal.τ) (Cert.GluGateRefIdeal.main (F := Ideal))) ⟨m', fun _ => 0, g'⟩ (fun r => ∀ c : Dev Cert.GluGateRefIdeal.nD,
          r.2.mem ((c.tc : Thread Cert.GluGateRefIdeal.nD Cert.GluGateRefIdeal.τ).loc Cert.GluGateRefIdeal.main_v13) = v0 c
          ∧ r.2.mem ((c.tc : Thread Cert.GluGateRefIdeal.nD Cert.GluGateRefIdeal.τ).loc Cert.GluGateRefIdeal.main_arg0) = m' ((c.tc : Thread Cert.GluGateRefIdeal.nD Cert.GluGateRefIdeal.τ).loc Cert.GluGateRefIdeal.main_arg0)
          ∧ r.2.mem ((c.tc : Thread Cert.GluGateRefIdeal.nD Cert.GluGateRefIdeal.τ).loc Cert.GluGateRefIdeal.main_arg1) = m' ((c.tc : Thread Cert.GluGateRefIdeal.nD Cert.GluGateRefIdeal.τ).loc Cert.GluGateRefIdeal.main_arg1))

def preserves_GluGateDx_GluGateDxIdeal : Prop :=
  True

def algebraic_GluGateDxIdeal_GluGateDxRefIdeal [hGluGateDxIdeal : Cert.GluGateDxIdeal.Facts] [hGluGateDxRefIdeal : Cert.GluGateDxRefIdeal.Facts] : Prop :=
  ∀ (m : (ℓ : Loc Cert.GluGateDxIdeal.nD Cert.GluGateDxIdeal.τ Cert.GluGateDxIdeal.sig) → Buf (Elt Ideal) ℓ) (g : Dev Cert.GluGateDxIdeal.nD → PrngReg)
    (m' : (ℓ : Loc Cert.GluGateDxRefIdeal.nD Cert.GluGateDxRefIdeal.τ Cert.GluGateDxRefIdeal.sig) → Buf (Elt Ideal) ℓ) (g' : Dev Cert.GluGateDxRefIdeal.nD → PrngReg), Pre_GluGateDxIdeal m →
    (∀ c : Dev Cert.GluGateDxIdeal.nD,
      m' ((c.tc : Thread Cert.GluGateDxRefIdeal.nD Cert.GluGateDxRefIdeal.τ).loc Cert.GluGateDxRefIdeal.main_arg0) = m ((c.tc : Thread Cert.GluGateDxIdeal.nD Cert.GluGateDxIdeal.τ).loc Cert.GluGateDxIdeal.main_arg0)
      ∧ m' ((c.tc : Thread Cert.GluGateDxRefIdeal.nD Cert.GluGateDxRefIdeal.τ).loc Cert.GluGateDxRefIdeal.main_arg1) = m ((c.tc : Thread Cert.GluGateDxIdeal.nD Cert.GluGateDxIdeal.τ).loc Cert.GluGateDxIdeal.main_arg1)) →
    ∃ (v0 : (c : Dev Cert.GluGateDxIdeal.nD) → Buf (Elt Ideal) ((c.tc : Thread Cert.GluGateDxIdeal.nD Cert.GluGateDxIdeal.τ).loc Cert.GluGateDxIdeal.main_v1)),
      θ_run (Cert.GluGateDxIdeal.defs (F := Ideal)) (onTc (τ := Cert.GluGateDxIdeal.τ) (Cert.GluGateDxIdeal.main (F := Ideal))) ⟨m, fun _ => 0, g⟩ (fun r => ∀ c : Dev Cert.GluGateDxIdeal.nD,
          r.2.mem ((c.tc : Thread Cert.GluGateDxIdeal.nD Cert.GluGateDxIdeal.τ).loc Cert.GluGateDxIdeal.main_v1) = v0 c
          ∧ r.2.mem ((c.tc : Thread Cert.GluGateDxIdeal.nD Cert.GluGateDxIdeal.τ).loc Cert.GluGateDxIdeal.main_arg0) = m ((c.tc : Thread Cert.GluGateDxIdeal.nD Cert.GluGateDxIdeal.τ).loc Cert.GluGateDxIdeal.main_arg0)
          ∧ r.2.mem ((c.tc : Thread Cert.GluGateDxIdeal.nD Cert.GluGateDxIdeal.τ).loc Cert.GluGateDxIdeal.main_arg1) = m ((c.tc : Thread Cert.GluGateDxIdeal.nD Cert.GluGateDxIdeal.τ).loc Cert.GluGateDxIdeal.main_arg1))
      ∧ θ_run (Cert.GluGateDxRefIdeal.defs (F := Ideal)) (onTc (τ := Cert.GluGateDxRefIdeal.τ) (Cert.GluGateDxRefIdeal.main (F := Ideal))) ⟨m', fun _ => 0, g'⟩ (fun r => ∀ c : Dev Cert.GluGateDxRefIdeal.nD,
          r.2.mem ((c.tc : Thread Cert.GluGateDxRefIdeal.nD Cert.GluGateDxRefIdeal.τ).loc Cert.GluGateDxRefIdeal.main_v3) = v0 c
          ∧ r.2.mem ((c.tc : Thread Cert.GluGateDxRefIdeal.nD Cert.GluGateDxRefIdeal.τ).loc Cert.GluGateDxRefIdeal.main_arg0) = m' ((c.tc : Thread Cert.GluGateDxRefIdeal.nD Cert.GluGateDxRefIdeal.τ).loc Cert.GluGateDxRefIdeal.main_arg0)
          ∧ r.2.mem ((c.tc : Thread Cert.GluGateDxRefIdeal.nD Cert.GluGateDxRefIdeal.τ).loc Cert.GluGateDxRefIdeal.main_arg1) = m' ((c.tc : Thread Cert.GluGateDxRefIdeal.nD Cert.GluGateDxRefIdeal.τ).loc Cert.GluGateDxRefIdeal.main_arg1))

def preserves_GluGateDw_GluGateDwIdeal : Prop :=
  True

def algebraic_GluGateDwIdeal_GluGateDwRefIdeal [hGluGateDwIdeal : Cert.GluGateDwIdeal.Facts] [hGluGateDwRefIdeal : Cert.GluGateDwRefIdeal.Facts] : Prop :=
  ∀ (m : (ℓ : Loc Cert.GluGateDwIdeal.nD Cert.GluGateDwIdeal.τ Cert.GluGateDwIdeal.sig) → Buf (Elt Ideal) ℓ) (g : Dev Cert.GluGateDwIdeal.nD → PrngReg)
    (m' : (ℓ : Loc Cert.GluGateDwRefIdeal.nD Cert.GluGateDwRefIdeal.τ Cert.GluGateDwRefIdeal.sig) → Buf (Elt Ideal) ℓ) (g' : Dev Cert.GluGateDwRefIdeal.nD → PrngReg), Pre_GluGateDwIdeal m →
    (∀ c : Dev Cert.GluGateDwIdeal.nD,
      m' ((c.tc : Thread Cert.GluGateDwRefIdeal.nD Cert.GluGateDwRefIdeal.τ).loc Cert.GluGateDwRefIdeal.main_arg0) = m ((c.tc : Thread Cert.GluGateDwIdeal.nD Cert.GluGateDwIdeal.τ).loc Cert.GluGateDwIdeal.main_arg0)
      ∧ m' ((c.tc : Thread Cert.GluGateDwRefIdeal.nD Cert.GluGateDwRefIdeal.τ).loc Cert.GluGateDwRefIdeal.main_arg1) = m ((c.tc : Thread Cert.GluGateDwIdeal.nD Cert.GluGateDwIdeal.τ).loc Cert.GluGateDwIdeal.main_arg1)) →
    ∃ (v0 : (c : Dev Cert.GluGateDwIdeal.nD) → Buf (Elt Ideal) ((c.tc : Thread Cert.GluGateDwIdeal.nD Cert.GluGateDwIdeal.τ).loc Cert.GluGateDwIdeal.main_v0)),
      θ_run (Cert.GluGateDwIdeal.defs (F := Ideal)) (onTc (τ := Cert.GluGateDwIdeal.τ) (Cert.GluGateDwIdeal.main (F := Ideal))) ⟨m, fun _ => 0, g⟩ (fun r => ∀ c : Dev Cert.GluGateDwIdeal.nD,
          r.2.mem ((c.tc : Thread Cert.GluGateDwIdeal.nD Cert.GluGateDwIdeal.τ).loc Cert.GluGateDwIdeal.main_v0) = v0 c
          ∧ r.2.mem ((c.tc : Thread Cert.GluGateDwIdeal.nD Cert.GluGateDwIdeal.τ).loc Cert.GluGateDwIdeal.main_arg0) = m ((c.tc : Thread Cert.GluGateDwIdeal.nD Cert.GluGateDwIdeal.τ).loc Cert.GluGateDwIdeal.main_arg0)
          ∧ r.2.mem ((c.tc : Thread Cert.GluGateDwIdeal.nD Cert.GluGateDwIdeal.τ).loc Cert.GluGateDwIdeal.main_arg1) = m ((c.tc : Thread Cert.GluGateDwIdeal.nD Cert.GluGateDwIdeal.τ).loc Cert.GluGateDwIdeal.main_arg1))
      ∧ θ_run (Cert.GluGateDwRefIdeal.defs (F := Ideal)) (onTc (τ := Cert.GluGateDwRefIdeal.τ) (Cert.GluGateDwRefIdeal.main (F := Ideal))) ⟨m', fun _ => 0, g'⟩ (fun r => ∀ c : Dev Cert.GluGateDwRefIdeal.nD,
          r.2.mem ((c.tc : Thread Cert.GluGateDwRefIdeal.nD Cert.GluGateDwRefIdeal.τ).loc Cert.GluGateDwRefIdeal.main_v18) = v0 c
          ∧ r.2.mem ((c.tc : Thread Cert.GluGateDwRefIdeal.nD Cert.GluGateDwRefIdeal.τ).loc Cert.GluGateDwRefIdeal.main_arg0) = m' ((c.tc : Thread Cert.GluGateDwRefIdeal.nD Cert.GluGateDwRefIdeal.τ).loc Cert.GluGateDwRefIdeal.main_arg0)
          ∧ r.2.mem ((c.tc : Thread Cert.GluGateDwRefIdeal.nD Cert.GluGateDwRefIdeal.τ).loc Cert.GluGateDwRefIdeal.main_arg1) = m' ((c.tc : Thread Cert.GluGateDwRefIdeal.nD Cert.GluGateDwRefIdeal.τ).loc Cert.GluGateDwRefIdeal.main_arg1))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v1) = v0 c
          ∧ r.2.mem ((c.tc : Thread Cert.AdamFfnRefIdeal.nD Cert.AdamFfnRefIdeal.τ).loc Cert.AdamFfnRefIdeal.main_v25) = v1 c
          ∧ r.2.mem ((c.tc : Thread Cert.AdamFfnRefIdeal.nD Cert.AdamFfnRefIdeal.τ).loc Cert.AdamFfnRefIdeal.main_v6) = v2 c
          ∧ r.2.mem ((c.tc : Thread Cert.AdamFfnRefIdeal.nD Cert.AdamFfnRefIdeal.τ).loc Cert.AdamFfnRefIdeal.main_v12) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v1) = v0 c
          ∧ r.2.mem ((c.tc : Thread Cert.AdamORefIdeal.nD Cert.AdamORefIdeal.τ).loc Cert.AdamORefIdeal.main_v25) = v1 c
          ∧ r.2.mem ((c.tc : Thread Cert.AdamORefIdeal.nD Cert.AdamORefIdeal.τ).loc Cert.AdamORefIdeal.main_v6) = v2 c
          ∧ r.2.mem ((c.tc : Thread Cert.AdamORefIdeal.nD Cert.AdamORefIdeal.τ).loc Cert.AdamORefIdeal.main_v12) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v1) = v0 c
          ∧ r.2.mem ((c.tc : Thread Cert.AdamGluRefIdeal.nD Cert.AdamGluRefIdeal.τ).loc Cert.AdamGluRefIdeal.main_v25) = v1 c
          ∧ r.2.mem ((c.tc : Thread Cert.AdamGluRefIdeal.nD Cert.AdamGluRefIdeal.τ).loc Cert.AdamGluRefIdeal.main_v6) = v2 c
          ∧ r.2.mem ((c.tc : Thread Cert.AdamGluRefIdeal.nD Cert.AdamGluRefIdeal.τ).loc Cert.AdamGluRefIdeal.main_v12) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnDownDx : Cert.FfnDownDx.Facts) (hFfnDownDxIdeal : Cert.FfnDownDxIdeal.Facts) (hFfnDownDxRefIdeal : Cert.FfnDownDxRefIdeal.Facts) (hFfnDown : Cert.FfnDown.Facts) (hFfnDownIdeal : Cert.FfnDownIdeal.Facts) (hFfnDownRefIdeal : Cert.FfnDownRefIdeal.Facts) (hFfnInDx : Cert.FfnInDx.Facts) (hFfnInDxIdeal : Cert.FfnInDxIdeal.Facts) (hFfnInDxRefIdeal : Cert.FfnInDxRefIdeal.Facts) (hFfnDw : Cert.FfnDw.Facts) (hFfnDwIdeal : Cert.FfnDwIdeal.Facts) (hFfnDwRefIdeal : Cert.FfnDwRefIdeal.Facts) (hProjIn : Cert.ProjIn.Facts) (hProjInIdeal : Cert.ProjInIdeal.Facts) (hProjInRefIdeal : Cert.ProjInRefIdeal.Facts) (hProjInDx : Cert.ProjInDx.Facts) (hProjInDxIdeal : Cert.ProjInDxIdeal.Facts) (hProjInDxRefIdeal : Cert.ProjInDxRefIdeal.Facts) (hProjInDw : Cert.ProjInDw.Facts) (hProjInDwIdeal : Cert.ProjInDwIdeal.Facts) (hProjInDwRefIdeal : Cert.ProjInDwRefIdeal.Facts) (hMixOut : Cert.MixOut.Facts) (hMixOutIdeal : Cert.MixOutIdeal.Facts) (hMixOutRefIdeal : Cert.MixOutRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hGluGate : Cert.GluGate.Facts) (hGluGateIdeal : Cert.GluGateIdeal.Facts) (hGluGateRefIdeal : Cert.GluGateRefIdeal.Facts) (hGluGateDx : Cert.GluGateDx.Facts) (hGluGateDxIdeal : Cert.GluGateDxIdeal.Facts) (hGluGateDxRefIdeal : Cert.GluGateDxRefIdeal.Facts) (hGluGateDw : Cert.GluGateDw.Facts) (hGluGateDwIdeal : Cert.GluGateDwIdeal.Facts) (hGluGateDwRefIdeal : Cert.GluGateDwRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamO : Cert.AdamO.Facts) (hAdamOIdeal : Cert.AdamOIdeal.Facts) (hAdamORefIdeal : Cert.AdamORefIdeal.Facts) (hAdamGlu : Cert.AdamGlu.Facts) (hAdamGluIdeal : Cert.AdamGluIdeal.Facts) (hAdamGluRefIdeal : Cert.AdamGluRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnDownDx (hFfnDownDx := hFfnDownDx)
    ∧ quiescent_FfnDownDxIdeal (hFfnDownDxIdeal := hFfnDownDxIdeal)
    ∧ quiescent_FfnDownDxIdeal_pre_finite_ffn (hFfnDownDxIdeal := hFfnDownDxIdeal) (hPre_finite_ffn := hPre_finite_ffn)
    ∧ quiescent_FfnDownDxRefIdeal (hFfnDownDxRefIdeal := hFfnDownDxRefIdeal)
    ∧ quiescent_FfnDownDxRefIdeal_pre_finite_ffn (hFfnDownDxRefIdeal := hFfnDownDxRefIdeal) (hPre_finite_ffn := hPre_finite_ffn)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjInDx (hProjInDx := hProjInDx)
    ∧ quiescent_ProjInDxIdeal (hProjInDxIdeal := hProjInDxIdeal)
    ∧ quiescent_ProjInDxRefIdeal (hProjInDxRefIdeal := hProjInDxRefIdeal)
    ∧ quiescent_ProjInDw (hProjInDw := hProjInDw)
    ∧ quiescent_ProjInDwIdeal (hProjInDwIdeal := hProjInDwIdeal)
    ∧ quiescent_ProjInDwRefIdeal (hProjInDwRefIdeal := hProjInDwRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_GluGate (hGluGate := hGluGate)
    ∧ quiescent_GluGateIdeal (hGluGateIdeal := hGluGateIdeal)
    ∧ quiescent_GluGateRefIdeal (hGluGateRefIdeal := hGluGateRefIdeal)
    ∧ quiescent_GluGateDx (hGluGateDx := hGluGateDx)
    ∧ quiescent_GluGateDxIdeal (hGluGateDxIdeal := hGluGateDxIdeal)
    ∧ quiescent_GluGateDxRefIdeal (hGluGateDxRefIdeal := hGluGateDxRefIdeal)
    ∧ quiescent_GluGateDw (hGluGateDw := hGluGateDw)
    ∧ quiescent_GluGateDwIdeal (hGluGateDwIdeal := hGluGateDwIdeal)
    ∧ quiescent_GluGateDwRefIdeal (hGluGateDwRefIdeal := hGluGateDwRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnIn_FfnInIdeal
    ∧ algebraic_FfnInIdeal_FfnInRefIdeal (hFfnInIdeal := hFfnInIdeal) (hFfnInRefIdeal := hFfnInRefIdeal)
    ∧ preserves_FfnDownDx_FfnDownDxIdeal
    ∧ algebraic_FfnDownDxIdeal_FfnDownDxRefIdeal_pre_finite_ffn (hFfnDownDxIdeal := hFfnDownDxIdeal) (hFfnDownDxRefIdeal := hFfnDownDxRefIdeal) (hPre_finite_ffn := hPre_finite_ffn)
    ∧ preserves_FfnDown_FfnDownIdeal
    ∧ algebraic_FfnDownIdeal_FfnDownRefIdeal (hFfnDownIdeal := hFfnDownIdeal) (hFfnDownRefIdeal := hFfnDownRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnDw_FfnDwIdeal
    ∧ algebraic_FfnDwIdeal_FfnDwRefIdeal (hFfnDwIdeal := hFfnDwIdeal) (hFfnDwRefIdeal := hFfnDwRefIdeal)
    ∧ preserves_ProjIn_ProjInIdeal
    ∧ algebraic_ProjInIdeal_ProjInRefIdeal (hProjInIdeal := hProjInIdeal) (hProjInRefIdeal := hProjInRefIdeal)
    ∧ preserves_ProjInDx_ProjInDxIdeal
    ∧ algebraic_ProjInDxIdeal_ProjInDxRefIdeal (hProjInDxIdeal := hProjInDxIdeal) (hProjInDxRefIdeal := hProjInDxRefIdeal)
    ∧ preserves_ProjInDw_ProjInDwIdeal
    ∧ algebraic_ProjInDwIdeal_ProjInDwRefIdeal (hProjInDwIdeal := hProjInDwIdeal) (hProjInDwRefIdeal := hProjInDwRefIdeal)
    ∧ preserves_MixOut_MixOutIdeal
    ∧ algebraic_MixOutIdeal_MixOutRefIdeal (hMixOutIdeal := hMixOutIdeal) (hMixOutRefIdeal := hMixOutRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_GluGate_GluGateIdeal
    ∧ algebraic_GluGateIdeal_GluGateRefIdeal (hGluGateIdeal := hGluGateIdeal) (hGluGateRefIdeal := hGluGateRefIdeal)
    ∧ preserves_GluGateDx_GluGateDxIdeal
    ∧ algebraic_GluGateDxIdeal_GluGateDxRefIdeal (hGluGateDxIdeal := hGluGateDxIdeal) (hGluGateDxRefIdeal := hGluGateDxRefIdeal)
    ∧ preserves_GluGateDw_GluGateDwIdeal
    ∧ algebraic_GluGateDwIdeal_GluGateDwRefIdeal (hGluGateDwIdeal := hGluGateDwIdeal) (hGluGateDwRefIdeal := hGluGateDwRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamO_AdamOIdeal
    ∧ algebraic_AdamOIdeal_AdamORefIdeal (hAdamOIdeal := hAdamOIdeal) (hAdamORefIdeal := hAdamORefIdeal)
    ∧ preserves_AdamGlu_AdamGluIdeal
    ∧ algebraic_AdamGluIdeal_AdamGluRefIdeal (hAdamGluIdeal := hAdamGluIdeal) (hAdamGluRefIdeal := hAdamGluRefIdeal)
-- ==== Pre_finite.lean ====
abbrev S2048x2560 : Shape := ⟨2, ![2048, 2560]⟩
abbrev S2048 : Shape := ⟨1, ![2048]⟩
abbrev S1x16 : Shape := ⟨2, ![1, 16]⟩
abbrev S2048x1024 : Shape := ⟨2, ![2048, 1024]⟩
abbrev S_ : Shape := ⟨0, ![]⟩

class Facts : Prop where
  bcast_S_S2048x2560 : S_.BroadcastsInDim S2048x2560 (![] : Fin 0 → Fin S2048x2560.rank)
  reducesTo_S2048x2560_S_d0_1 : S2048x2560.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x2560 .f32) (main_arg1 : IVec S2048 32) (main_arg2 : FVec F S1x16 .f32) (main_arg3 : FVec F S2048x1024 .f32) : IVec S_ 1 :=
  let main_v0 : FVec F S2048x2560 .f32 := Host.absf main_arg0
  let main_cst : FVec F S_ .f32 := constant S_ .f32 0x7F800000#32
  let main_v1 : FVec F S2048x2560 .f32 := broadcastInDim S2048x2560 ![] bcast_S_S2048x2560 main_cst
  let main_v2 : IVec S2048x2560 1 := cmpf .olt main_v0 main_v1
  let main_c : IVec S_ 1 := constantI S_ 1 1#1
  let main_v3 : IVec S_ 1 := (fun x v => Host.reduce IntOp.andi x v reducesTo_S2048x2560_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_ffn.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S2048x2048 .bf16) (main_v14 : IVec S_ 1) (main_v15 : FVec F S5632x2048 .f32) (main_v16 : FVec F S5632x2048 .f32) : IVec S_ 1 :=
  let main_v17 : IVec S5632x2048 1 := cmpf .olt main_v15 main_v16
  let main_c_5 : IVec S_ 1 := constantI S_ 1 1#1
  let main_v18 : IVec S_ 1 := (fun x v => Host.reduce IntOp.andi x v reducesTo_S5632x2048_S_d0_1 h_S_) main_v17 main_c_5
  let main_v19 : IVec S_ 1 := andi main_v14 main_v18
  let main_v20 : FVec F S2048x2048 .f32 := (extf .f32 · bitsLt_bf16_f32) main_arg4
  let main_v21 : FVec F S2048x2048 .f32 := Host.absf main_v20
  let main_cst_6 : FVec F S_ .f32 := constant S_ .f32 0x7F800000#32
  let main_v22 : FVec F S2048x2048 .f32 := broadcastInDim S2048x2048 ![] bcast_S_S2048x2048 main_cst_6
  let main_v23 : IVec S2048x2048 1 := cmpf .olt main_v21 main_v22
  let main_c_7 : IVec S_ 1 := constantI S_ 1 1#1
  let main_v24 : IVec S_ 1 := (fun x v => Host.reduce IntOp.andi x v reducesTo_S2048x2048_S_d0_1 h_S_) main_v23 main_c_7
  let main_v25 : IVec S_ 1 := andi main_v19 main_v24
  main_v25

def fn {F : FTy → Type} [FloatOps F] (main_arg0 : FVec F S2048x2048 .bf16) (main_arg1 : FVec F S2048x5632 .f32) (main_arg2 : FVec F S2048x5632 .f32) (main_arg3 : FVec F S5632x2048 .f32) (main_arg4 : FVec F S2048x2048 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S2048x5632 .f32 := Host.absf main_arg1
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_c_1 : IVec S_ 1 := constantI S_ 1 1#1
  let main_v8 : IVec S_ 1 := (fun x v => Host.reduce IntOp.andi x v reducesTo_S2048x5632_S_d0_1 h_S_) main_v7 main_c_1
  let main_v9 : IVec S_ 1 := andi main_v4 main_v8
  let main_v10 : FVec F S2048x5632 .f32 := Host.absf main_arg2
  let main_cst_2 : FVec F S_ .f32 := constant S_ .f32 0x7F800000#32
  let main_v11 : FVec F S2048x5632 .f32 := broadcastInDim S2048x5632 ![] bcast_S_S2048x5632 main_cst_2
  let main_v12 : IVec S2048x5632 1 := cmpf .olt main_v10 main_v11
  let main_c_3 : IVec S_ 1 := constantI S_ 1 1#1
  let main_v13 : IVec S_ 1 := (fun x v => Host.reduce IntOp.andi x v reducesTo_S2048x5632_S_d0_1 h_S_) main_v12 main_c_3
  let main_v14 : IVec S_ 1 := andi main_v9 main_v13
  let main_v15 : FVec F S5632x2048 .f32 := Host.absf main_arg3
  let main_cst_4 : FVec F S_ .f32 := constant S_ .f32 0x7F800000#32
  let main_v16 : FVec F S5632x2048 .f32 := broadcastInDim S5632x2048 ![] bcast_S_S5632x2048 main_cst_4
  fn_part1 (F := F) main_arg4 main_v14 main_v15 main_v16
-- ==== Kernel.lean ====
abbrev S2048x2560 : Shape := ⟨2, ![2048, 2560]⟩
abbrev S2048 : Shape := ⟨1, ![2048]⟩
abbrev S1x16 : Shape := ⟨2, ![1, 16]⟩
abbrev S2048x1024 : Shape := ⟨2, ![2048, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S2048x1 : Shape := ⟨2, ![2048, 1]⟩
abbrev S2048x128 : Shape := ⟨2, ![2048, 128]⟩
abbrev S32x128x256 : Shape := ⟨3, ![32, 128, 256]⟩
abbrev S128x1024 : Shape := ⟨2, ![128, 1024]⟩
abbrev S128x256 : Shape := ⟨2, ![128, 256]⟩
abbrev S128x128 : Shape := ⟨2, ![128, 128]⟩
abbrev S2x128x256 : Shape := ⟨3, ![2, 128, 256]⟩
abbrev S512x256 : Shape := ⟨2, ![512, 256]⟩
abbrev S128x64 : Shape := ⟨2, ![128, 64]⟩
abbrev S256x64 : Shape := ⟨2, ![256, 64]⟩
abbrev S512x64 : Shape := ⟨2, ![512, 64]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S1 : Shape := ⟨1, ![1]⟩
abbrev S256x128 : Shape := ⟨2, ![256, 128]⟩
abbrev S1x128x128 : Shape := ⟨3, ![1, 128, 128]⟩

abbrev nBuf : Space → Nat
  | .hbm => 30
  | .vmem => 28
  | .smem => 0
  | _ => 0

abbrev bufTy : (tb : Table) → Fin (tcTables nBuf tb) → BufTy
  | .hbm, ⟨0, _⟩ => ⟨S2048x2560, .f32⟩
  | .hbm, ⟨1, _⟩ => ⟨S2048, .i32⟩
  | .hbm, ⟨2, _⟩ => ⟨S1x16, .f32⟩
  | .hbm, ⟨3, _⟩ => ⟨S2048x1024, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S1x32, .f32⟩
  | .hbm, ⟨13, _⟩ => ⟨S4x32, .f32⟩
  | .hbm, ⟨14, _⟩ => ⟨S128, .f32⟩
  | .hbm, ⟨15, _⟩ => ⟨S1x128, .f32⟩
  | .hbm, ⟨16, _⟩ => ⟨S2048x1, .i32⟩
  | .hbm, ⟨17, _⟩ => ⟨S2048x1, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S2048x1024, .f32⟩
  | .hbm, ⟨27, _⟩ => ⟨S32x128x256, .f32⟩
  | .hbm, ⟨28, _⟩ => ⟨S32x128x256, .f32⟩
  | .hbm, ⟨29, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S2x128x256, .f32⟩
  | .local _ .vmem, ⟨24, _⟩ => ⟨S2x128x256, .f32⟩
  | .local _ .vmem, ⟨25, _⟩ => ⟨S2x128x256, .f32⟩
  | .local _ .vmem, ⟨26, _⟩ => ⟨S2x128x256, .f32⟩
  | .local _ .vmem, ⟨27, _⟩ => ⟨S1x128, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x2560 : Shape := ⟨2, ![2048, 2560]⟩
abbrev S2048 : Shape := ⟨1, ![2048]⟩
abbrev S1x16 : Shape := ⟨2, ![1, 16]⟩
abbrev S2048x1024 : Shape := ⟨2, ![2048, 1024]⟩
abbrev S2048x256 : Shape := ⟨2, ![2048, 256]⟩
abbrev S16x128x256 : Shape := ⟨3, ![16, 128, 256]⟩
abbrev S1x128x256 : Shape := ⟨3, ![1, 128, 256]⟩
abbrev S_ : Shape := ⟨0, ![]⟩
abbrev S15x128x256 : Shape := ⟨3, ![15, 128, 256]⟩
abbrev S16x256x256 : Shape := ⟨3, ![16, 256, 256]⟩
abbrev S16 : Shape := ⟨1, ![16]⟩
abbrev S16x128x16x64 : Shape := ⟨4, ![16, 128, 16, 64]⟩
abbrev S16x128 : Shape := ⟨2, ![16, 128]⟩
abbrev S32 : Shape := ⟨1, ![32]⟩
abbrev S16x128x1 : Shape := ⟨3, ![16, 128, 1]⟩
abbrev S1x1x32 : Shape := ⟨3, ![1, 1, 32]⟩
abbrev S16x128x32 : Shape := ⟨3, ![16, 128, 32]⟩
abbrev S16x128x1x32 : Shape := ⟨4, ![16, 128, 1, 32]⟩
abbrev S16x128x16x32 : Shape := ⟨4, ![16, 128, 16, 32]⟩
abbrev S16x256x4x64 : Shape := ⟨4, ![16, 256, 4, 64]⟩
abbrev S1x128 : Shape := ⟨2, ![1, 128]⟩
abbrev S15x128 : Shape := ⟨2, ![15, 128]⟩
abbrev S16x256 : Shape := ⟨2, ![16, 256]⟩
abbrev S16x256x1 : Shape := ⟨3, ![16, 256, 1]⟩
abbrev S16x256x32 : Shape := ⟨3, ![16, 256, 32]⟩
abbrev S16x256x1x32 : Shape := ⟨4, ![16, 256, 1, 32]⟩
abbrev S16x256x4x32 : Shape := ⟨4, ![16, 256, 4, 32]⟩
abbrev S16x128x4x4x64 : Shape := ⟨5, ![16, 128, 4, 4, 64]⟩
abbrev S16x4x256x128x4 : Shape := ⟨5, ![16, 4, 256, 128, 4]⟩
abbrev S16x4x4x128x256 : Shape := ⟨5, ![16, 4, 4, 128, 256]⟩
abbrev S16x1 : Shape := ⟨2, ![16, 1]⟩
abbrev S128 : Shape := ⟨1, ![128]⟩
abbrev S256 : Shape := ⟨1, ![256]⟩
abbrev S1x256 : Shape := ⟨2, ![1, 256]⟩
abbrev S16x1x256 : Shape := ⟨3, ![16, 1, 256]⟩
abbrev S16x1x1x128x256 : Shape := ⟨5, ![16, 1, 1, 128, 256]⟩
abbrev S4x4 : Shape := ⟨2, ![4, 4]⟩
abbrev S1x4x4x1x1 : Shape := ⟨5, ![1, 4, 4, 1, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩
abbrev S16x4x64x256 : Shape := ⟨4, ![16, 4, 64, 256]⟩
abbrev S4x4x1 : Shape := ⟨3, ![4, 4, 1]⟩
abbrev S16x4x128x4x64 : Shape := ⟨5, ![16, 4, 128, 4, 64]⟩
abbrev S16x4x256x64 : Shape := ⟨4, ![16, 4, 256, 64]⟩
abbrev S32x128x256 : Shape := ⟨3, ![32, 128, 256]⟩

abbrev nBuf : Space → Nat
  | .hbm => 303
  | .vmem => 0
  | .smem => 0
  | _ => 0

abbrev hbmTy0_0 (i : Nat) : BufTy := match i % 128 with
  | 0 => ⟨S2048x2560, .f32⟩
  | 1 => ⟨S2048, .i32⟩
  | 2 => ⟨S1x16, .f32⟩
  | 3 => ⟨S2048x1024, .f32⟩
  | 4 => ⟨S2048x1024, .f32⟩
  | 5 => ⟨S2048x256, .f32⟩
  | 6 => ⟨S2048x256, .f32⟩
  | 7 => ⟨S2048x1024, .f32⟩
  | 8 => ⟨S16x128x256, .f32⟩
  | 9 => ⟨S1x128x256, .f32⟩
  | 10 => ⟨S_, .f32⟩
  | 11 => ⟨S1x128x256, .f32⟩
  | 12 => ⟨S15x128x256, .f32⟩
  | 13 => ⟨S16x128x256, .f32⟩
  | 14 => ⟨S16x256x256, .f32⟩
  | 15 => ⟨S16x128x256, .f32⟩
  | 16 => ⟨S1x128x256, .f32⟩
  | 17 => ⟨S_, .f32⟩
  | 18 => ⟨S1x128x256, .f32⟩
  | 19 => ⟨S15x128x256, .f32⟩
  | 20 => ⟨S16x128x256, .f32⟩
  | 21 => ⟨S16x256x256, .f32⟩
  | 22 => ⟨S16, .f32⟩
  | 23 => ⟨S16x128x16x64, .f32⟩
  | 24 => ⟨S16x128, .i32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S16x128, .f32⟩
  | 34 => ⟨S16x128x1, .f32⟩
  | 35 => ⟨S1x1x32, .f32⟩
  | 36 => ⟨S16x128x32, .f32⟩
  | 37 => ⟨S16x128x32, .f32⟩
  | 38 => ⟨S16x128x32, .f32⟩
  | 39 => ⟨S16x128x32, .f32⟩
  | 40 => ⟨S16x128x1x32, .f32⟩
  | 41 => ⟨S16x128x32, .f32⟩
  | 42 => ⟨S16x128x1x32, .f32⟩
  | 43 => ⟨S16x128x16x32, .f32⟩
  | 44 => ⟨S16x128x16x32, .f32⟩
  | 45 => ⟨S16x128x16x32, .f32⟩
  | 46 => ⟨S16x128x16x32, .f32⟩
  | 47 => ⟨S16x128x16x32, .f32⟩
  | 48 => ⟨S16x128x16x32, .f32⟩
  | 49 => ⟨S16x128x16x32, .f32⟩
  | 50 => ⟨S16x128x16x32, .f32⟩
  | 51 => ⟨S16x128x16x32, .f32⟩
  | 52 => ⟨S16x128x16x32, .f32⟩
  | 53 => ⟨S16x128x16x32, .f32⟩
  | 54 => ⟨S16x128x16x32, .f32⟩
  | 55 => ⟨S16x128x16x64, .f32⟩
  | 56 => ⟨S16x256x4x64, .f32⟩
  | 57 => ⟨S16x128, .i32⟩
  | 58 => ⟨S1x128, .i32⟩
  | 59 => ⟨S_, .i32⟩
  | 60 => ⟨S1x128, .i32⟩
  | 61 => ⟨S15x128, .i32⟩
  | 62 => ⟨S16x128, .i32⟩
  | 63 => ⟨S16x256, .i32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S16x256, .f32⟩
  | 73 => ⟨S16x256x1, .f32⟩
  | 74 => ⟨S1x1x32, .f32⟩
  | 75 => ⟨S16x256x32, .f32⟩
  | 76 => ⟨S16x256x32, .f32⟩
  | 77 => ⟨S16x256x32, .f32⟩
  | 78 => ⟨S16x256x32, .f32⟩
  | 79 => ⟨S16x256x1x32, .f32⟩
  | 80 => ⟨S16x256x32, .f32⟩
  | 81 => ⟨S16x256x1x32, .f32⟩
  | 82 => ⟨S16x256x4x32, .f32⟩
  | 83 => ⟨S16x256x4x32, .f32⟩
  | 84 => ⟨S16x256x4x32, .f32⟩
  | 85 => ⟨S16x256x4x32, .f32⟩
  | 86 => ⟨S16x256x4x32, .f32⟩
  | 87 => ⟨S16x256x4x32, .f32⟩
  | 88 => ⟨S16x256x4x32, .f32⟩
  | 89 => ⟨S16x256x4x32, .f32⟩
  | 90 => ⟨S16x256x4x32, .f32⟩
  | 91 => ⟨S16x256x4x32, .f32⟩
  | 92 => ⟨S16x256x4x32, .f32⟩
  | 93 => ⟨S16x256x4x32, .f32⟩
  | 94 => ⟨S16x256x4x64, .f32⟩
  | 95 => ⟨S16x256x4x64, .f32⟩
  | 96 => ⟨S16x128x4x4x64, .f32⟩
  | 97 => ⟨S16x4x256x128x4, .f32⟩
  | 98 => ⟨S16x4x4x128x256, .f32⟩
  | 99 => ⟨S_, .f32⟩
  | 100 => ⟨S16x4x4x128x256, .f32⟩
  | 101 => ⟨S16x4x4x128x256, .f32⟩
  | 102 => ⟨S16, .i32⟩
  | 103 => ⟨S16x1, .i32⟩
  | 104 => ⟨S_, .i32⟩
  | 105 => ⟨S16x1, .i32⟩
  | 106 => ⟨S16x1, .i32⟩
  | 107 => ⟨S128, .i32⟩
  | 108 => ⟨S1x128, .i32⟩
  | 109 => ⟨S16x128, .i32⟩
  | 110 => ⟨S16x128, .i32⟩
  | 111 => ⟨S16x128, .i32⟩
  | 112 => ⟨S_, .i32⟩
  | 113 => ⟨S16x1, .i32⟩
  | 114 => ⟨S16x1, .i32⟩
  | 115 => ⟨S256, .i32⟩
  | 116 => ⟨S1x256, .i32⟩
  | 117 => ⟨S16x256, .i32⟩
  | 118 => ⟨S16x256, .i32⟩
  | 119 => ⟨S16x256, .i32⟩
  | 120 => ⟨S16x128x1, .i32⟩
  | 121 => ⟨S16x1x256, .i32⟩
  | 122 => ⟨S16x128x256, .i32⟩
  | 123 => ⟨S16x128x256, .i32⟩
  | 124 => ⟨S16x128x256, .i32⟩
  | 125 => ⟨S_, .i32⟩
  | 126 => ⟨S16x128x256, .i32⟩
  | 127 => ⟨S16x128x256, .i1⟩
  | _ => ⟨S2048x2560, .f32⟩

abbrev hbmTy0_1 (i : Nat) : BufTy := match i % 128 with
  | 0 => ⟨S_, .i32⟩
  | 1 => ⟨S16x128x256, .i32⟩
  | 2 => ⟨S16x128x256, .i1⟩
  | 3 => ⟨S16x128x256, .i1⟩
  | 4 => ⟨S16x1x256, .i32⟩
  | 5 => ⟨S_, .i32⟩
  | 6 => ⟨S16x1x256, .i32⟩
  | 7 => ⟨S16x1x256, .i1⟩
  | 8 => ⟨S16x128x256, .i1⟩
  | 9 => ⟨S16x128x256, .i1⟩
  | 10 => ⟨S16x1x1x128x256, .i1⟩
  | 11 => ⟨S_, .f32⟩
  | 12 => ⟨S_, .f32⟩
  | 13 => ⟨S16x4x4x128x256, .i1⟩
  | 14 => ⟨S16x4x4x128x256, .f32⟩
  | 15 => ⟨S16x4x4x128x256, .f32⟩
  | 16 => ⟨S_, .f32⟩
  | 17 => ⟨S16x4x4x128x256, .f32⟩
  | 18 => ⟨S4x4, .f32⟩
  | 19 => ⟨S1x4x4x1x1, .f32⟩
  | 20 => ⟨S_, .f32⟩
  | 21 => ⟨S16x4x4x128, .f32⟩
  | 22 => ⟨S16x4x4x128x1, .f32⟩
  | 23 => ⟨S16x4x4x128x256, .f32⟩
  | 24 => ⟨S16x4x4x128x256, .i1⟩
  | 25 => ⟨S16x4x4x128x256, .f32⟩
  | 26 => ⟨S_, .f32⟩
  | 27 => ⟨S16x4x4x128, .f32⟩
  | 28 => ⟨S16x4x4x128x1, .f32⟩
  | 29 => ⟨S16x4x4x128x1, .f32⟩
  | 30 => ⟨S16x4x4x128x1, .f32⟩
  | 31 => ⟨S16x4x4x128x1, .f32⟩
  | 32 => ⟨S16x4x4x128x1, .i1⟩
  | 33 => ⟨S16x4x4x128x1, .f32⟩
  | 34 => ⟨S16x4x4x128x1, .i1⟩
  | 35 => ⟨S_, .f32⟩
  | 36 => ⟨S16x4x4x128x1, .f32⟩
  | 37 => ⟨S_, .f32⟩
  | 38 => ⟨S16x4x4x128x1, .f32⟩
  | 39 => ⟨S_, .f32⟩
  | 40 => ⟨S16x4x4x128x1, .f32⟩
  | 41 => ⟨S16x4x4x128x1, .f32⟩
  | 42 => ⟨S16x4x4x128x1, .f32⟩
  | 43 => ⟨S16x4x4x128x1, .f32⟩
  | 44 => ⟨S16x4x4x128x1, .i1⟩
  | 45 => ⟨S16x4x4x128x1, .f32⟩
  | 46 => ⟨S16x4x4x128x1, .i1⟩
  | 47 => ⟨S_, .f32⟩
  | 48 => ⟨S16x4x4x128x1, .f32⟩
  | 49 => ⟨S_, .f32⟩
  | 50 => ⟨S16x4x4x128x1, .f32⟩
  | 51 => ⟨S_, .f32⟩
  | 52 => ⟨S16x4x4x128x1, .f32⟩
  | 53 => ⟨S16x4x4x128x1, .f32⟩
  | 54 => ⟨S16x4x4x128x1, .f32⟩
  | 55 => ⟨S16x4x4x128x256, .f32⟩
  | 56 => ⟨S16x4x4x128x256, .f32⟩
  | 57 => ⟨S16x4x4x128x256, .f32⟩
  | 58 => ⟨S_, .f32⟩
  | 59 => ⟨S16x4x4x128, .f32⟩
  | 60 => ⟨S16x4x4x128x1, .f32⟩
  | 61 => ⟨S16x4x4x128x1, .f32⟩
  | 62 => ⟨S16x4x4x128x1, .f32⟩
  | 63 => ⟨S16x4x4x128x1, .f32⟩
  | 64 => ⟨S16x4x4x128x1, .f32⟩
  | 65 => ⟨S16x4x4x128x256, .f32⟩
  | 66 => ⟨S16x4x4x128x256, .f32⟩
  | 67 => ⟨S16x4x4x128x1, .f32⟩
  | 68 => ⟨S_, .f32⟩
  | 69 => ⟨S16x4x4x128x1, .f32⟩
  | 70 => ⟨S16x4x4x128x1, .f32⟩
  | 71 => ⟨S16x4x64x4x128, .f32⟩
  | 72 => ⟨S16x128x4x4x64, .f32⟩
  | 73 => ⟨S2048x1024, .f32⟩
  | 74 => ⟨S16x128x4x4x64, .f32⟩
  | 75 => ⟨S16x4x64x4x128, .f32⟩
  | 76 => ⟨S16x4x4x128x256, .f32⟩
  | 77 => ⟨S16x4x64x256, .f32⟩
  | 78 => ⟨S16x256x4x64, .f32⟩
  | 79 => ⟨S16x4x4x128x256, .f32⟩
  | 80 => ⟨S16x4x4x128x256, .f32⟩
  | 81 => ⟨S16x4x4x128x256, .f32⟩
  | 82 => ⟨S_, .f32⟩
  | 83 => ⟨S16x4x4x128, .f32⟩
  | 84 => ⟨S16x4x4x128x1, .f32⟩
  | 85 => ⟨S16x4x4x128x1, .f32⟩
  | 86 => ⟨S16x4x4x128x256, .f32⟩
  | 87 => ⟨S16x4x4x128x256, .f32⟩
  | 88 => ⟨S16x4x4x128x1, .f32⟩
  | 89 => ⟨S_, .f32⟩
  | 90 => ⟨S4x4x1, .f32⟩
  | 91 => ⟨S1x4x4x1x1, .f32⟩
  | 92 => ⟨S16x4x4x128x1, .f32⟩
  | 93 => ⟨S_, .f32⟩
  | 94 => ⟨S16x4x4x128, .f32⟩
  | 95 => ⟨S16x4x4x128x256, .f32⟩
  | 96 => ⟨S16x4x4x128x256, .f32⟩
  | 97 => ⟨S16x4x4x128x256, .f32⟩
  | 98 => ⟨S16x4x4x128x256, .f32⟩
  | 99 => ⟨S_, .f32⟩
  | 100 => ⟨S16x4x4x128, .f32⟩
  | 101 => ⟨S16x4x4x128x1, .f32⟩
  | 102 => ⟨S16x4x4x128x1, .f32⟩
  | 103 => ⟨S16x4x4x128x1, .f32⟩
  | 104 => ⟨S_, .f32⟩
  | 105 => ⟨S4x4x1, .f32⟩
  | 106 => ⟨S1x4x4x1x1, .f32⟩
  | 107 => ⟨S1x4x4x1x1, .f32⟩
  | 108 => ⟨S16x4x4x128x1, .f32⟩
  | 109 => ⟨S_, .f32⟩
  | 110 => ⟨S16x4x4x128, .f32⟩
  | 111 => ⟨S16x4x4x128, .f32⟩
  | 112 => ⟨S16x4x4x128x256, .f32⟩
  | 113 => ⟨S16x4x4x128x256, .f32⟩
  | 114 => ⟨S16x4x4x128x256, .f32⟩
  | 115 => ⟨S_, .f32⟩
  | 116 => ⟨S4x4, .f32⟩
  | 117 => ⟨S16, .f32⟩
  | 118 => ⟨S_, .f32⟩
  | 119 => ⟨S16x4x4x128x256, .f32⟩
  | 120 => ⟨S16x4x4x128x256, .f32⟩
  | 121 => ⟨S_, .f32⟩
  | 122 => ⟨S16x4x4x128x256, .f32⟩
  | 123 => ⟨S16x4x4x128x256, .f32⟩
  | 124 => ⟨S16x4x256x128x4, .f32⟩
  | 125 => ⟨S16x4x128x4x64, .f32⟩
  | 126 => ⟨S16x128x4x4x64, .f32⟩
  | 127 => ⟨S16x4x256x64, .f32⟩
  | _ => ⟨S2048x2560, .f32⟩

abbrev hbmTy0_2 (i : Nat) : BufTy := match i % 128 with
  | 0 => ⟨S16x256x4x64, .f32⟩
  | 1 => ⟨S16x128x16x64, .f32⟩
  | 2 => ⟨S16x256x256, .f32⟩
  | 3 => ⟨S16x256x4x32, .f32⟩
  | 4 => ⟨S16x256x4x32, .f32⟩
  | 5 => ⟨S16x256x4x32, .f32⟩
  | 6 => ⟨S16x256x4x32, .f32⟩
  | 7 => ⟨S16x256x4x32, .f32⟩
  | 8 => ⟨S16x256x4x32, .f32⟩
  | 9 => ⟨S16x256x4x32, .f32⟩
  | 10 => ⟨S16x256x4x32, .f32⟩
  | 11 => ⟨S16x256x4x32, .f32⟩
  | 12 => ⟨S16x256x4x32, .f32⟩
  | 13 => ⟨S16x256x4x32, .f32⟩
  | 14 => ⟨S16x256x4x32, .f32⟩
  | 15 => ⟨S16x256x4x32, .f32⟩
  | 16 => ⟨S_, .f32⟩
  | 17 => ⟨S16x256x4x64, .f32⟩
  | 18 => ⟨S_, .f32⟩
  | 19 => ⟨S16x256x4x64, .f32⟩
  | 20 => ⟨S16x256x4x64, .f32⟩
  | 21 => ⟨S16x256x256, .f32⟩
  | 22 => ⟨S16x128x16x32, .f32⟩
  | 23 => ⟨S16x128x16x32, .f32⟩
  | 24 => ⟨S16x128x16x32, .f32⟩
  | 25 => ⟨S16x128x16x32, .f32⟩
  | 26 => ⟨S16x128x16x32, .f32⟩
  | 27 => ⟨S16x128x16x32, .f32⟩
  | 28 => ⟨S16x128x16x32, .f32⟩
  | 29 => ⟨S16x128x16x32, .f32⟩
  | 30 => ⟨S16x128x16x32, .f32⟩
  | 31 => ⟨S16x128x16x32, .f32⟩
  | 32 => ⟨S16x128x16x32, .f32⟩
  | 33 => ⟨S16x128x16x32, .f32⟩
  | 34 => ⟨S16x128x16x32, .f32⟩
  | 35 => ⟨S_, .f32⟩
  | 36 => ⟨S16x128x16x64, .f32⟩
  | 37 => ⟨S_, .f32⟩
  | 38 => ⟨S16x128x16x64, .f32⟩
  | 39 => ⟨S16x128x16x64, .f32⟩
  | 40 => ⟨S2048x1024, .f32⟩
  | 41 => ⟨S32x128x256, .f32⟩
  | 42 => ⟨S32x128x256, .f32⟩
  | 43 => ⟨S1x16, .f32⟩
  | 44 => ⟨S_, .i32⟩
  | 45 => ⟨S_, .f32⟩
  | 46 => ⟨S1x128, .f32⟩
  | _ => ⟨S2048x2560, .f32⟩

abbrev hbmTy (i : Nat) : BufTy := match i / 128 with
  | 0 => hbmTy0_0 i
  | 1 => hbmTy0_1 i
  | 2 => hbmTy0_2 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_c : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_3 : Ref sig .tc := ⟨.hbm, 66, rfl⟩
abbrev main_v57 : Ref sig .tc := ⟨.hbm, 67, rfl⟩
abbrev main_v58 : Ref sig .tc := ⟨.hbm, 68, rfl⟩
abbrev main_cst_4 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_5 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_c_6 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_c_7 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_c_8 : Ref sig .tc := ⟨.hbm, 125, rfl⟩
abbrev main_v111 : Ref sig .tc := ⟨.hbm, 126, rfl⟩
abbrev main_v112 : Ref sig .tc := ⟨.hbm, 127, rfl⟩
abbrev main_c_9 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_c_10 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_cst_11 : Ref sig .tc := ⟨.hbm, 139, rfl⟩
abbrev main_call0_v0 : Ref sig .tc := ⟨.hbm, 140, rfl⟩
abbrev main_v122_1 : Ref sig .tc := ⟨.hbm, 141, rfl⟩
abbrev main_call0_v2 : Ref sig .tc := ⟨.hbm, 142, rfl⟩
abbrev main_v122_0 : Ref sig .tc := ⟨.hbm, 143, rfl⟩
abbrev main_call0_cst : Ref sig .tc := ⟨.hbm, 144, rfl⟩
abbrev main_v122_2 : Ref sig .tc := ⟨.hbm, 145, rfl⟩
abbrev main_v123 : Ref sig .tc := ⟨.hbm, 146, rfl⟩
abbrev main_v124 : Ref sig .tc := ⟨.hbm, 147, rfl⟩
abbrev main_cst_12 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_13 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_14 : Ref sig .tc := ⟨.hbm, 163, rfl⟩
abbrev main_v138 : Ref sig .tc := ⟨.hbm, 164, rfl⟩
abbrev main_cst_15 : Ref sig .tc := ⟨.hbm, 165, rfl⟩
abbrev main_v139 : Ref sig .tc := ⟨.hbm, 166, rfl⟩
abbrev main_cst_16 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_cst_17 : Ref sig .tc := ⟨.hbm, 175, rfl⟩
abbrev main_v147 : Ref sig .tc := ⟨.hbm, 176, rfl⟩
abbrev main_cst_18 : Ref sig .tc := ⟨.hbm, 177, rfl⟩
abbrev main_v148 : Ref sig .tc := ⟨.hbm, 178, rfl⟩
abbrev main_cst_19 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_20 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_21 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_cst_22 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_cst_23 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_cst_24 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_cst_25 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_cst_26 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_cst_27 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_cst_28 : Ref sig .tc := ⟨.hbm, 243, rfl⟩
abbrev main_v204 : Ref sig .tc := ⟨.hbm, 244, rfl⟩
abbrev main_v205 : Ref sig .tc := ⟨.hbm, 245, rfl⟩
abbrev main_call1_cst : Ref sig .tc := ⟨.hbm, 246, rfl⟩
abbrev main_call1_v0 : Ref sig .tc := ⟨.hbm, 247, rfl⟩
abbrev main_v206 : Ref sig .tc := ⟨.hbm, 248, rfl⟩
abbrev main_cst_29 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_cst_30 : Ref sig .tc := ⟨.hbm, 272, rfl⟩
abbrev main_v229 : Ref sig .tc := ⟨.hbm, 273, rfl⟩
abbrev main_cst_31 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_cst_32 : Ref sig .tc := ⟨.hbm, 291, rfl⟩
abbrev main_v246 : Ref sig .tc := ⟨.hbm, 292, rfl⟩
abbrev main_cst_33 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_c_34 : Ref sig .tc := ⟨.hbm, 300, rfl⟩
abbrev main_call2_v0 : Ref sig .tc := ⟨.hbm, 301, rfl⟩
abbrev main_v253 : Ref sig .tc := ⟨.hbm, 302, rfl⟩

abbrev nD : Nat := 1
abbrev τ : Topo := Topo.v7x

variable {F : FTy → Type} [FloatOps F]
-- ==== FfnIn.lean ====
abbrev S2048x2048 : Shape := ⟨2, ![2048, 2048]⟩
abbrev S2048x5632 : Shape := ⟨2, ![2048, 5632]⟩
abbrev S5632x2048 : Shape := ⟨2, ![5632, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .bf16⟩
  | .hbm, ⟨5, _⟩ => ⟨S5632x2048, .f32⟩
  | .hbm, ⟨6, _⟩ => ⟨S5632x2048, .bf16⟩
  | .hbm, ⟨7, _⟩ => ⟨S2048x5632, .bf16⟩
  | .hbm, ⟨8, _⟩ => ⟨S2048x5632, .bf16⟩
  | .hbm, ⟨9, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .bf16⟩
  | .hbm, ⟨7, _⟩ => ⟨S2048x5632, .bf16⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDownDx.lean ====
abbrev S2048x2048 : Shape := ⟨2, ![2048, 2048]⟩
abbrev S2048x5632 : Shape := ⟨2, ![2048, 5632]⟩
abbrev S5632x2048 : Shape := ⟨2, ![5632, 2048]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 13
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .bf16⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S5632x2048, .bf16⟩
  | .hbm, ⟨9, _⟩ => ⟨S2048x5632, .bf16⟩
  | .hbm, ⟨10, _⟩ => ⟨S2048x5632, .bf16⟩
  | .hbm, ⟨11, _⟩ => ⟨S2048x5632, .bf16⟩
  | .hbm, ⟨12, _⟩ => ⟨S2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDownDxRefIdeal.lean ====
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048x2048, .bf16⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S2048x2048, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .bf16⟩
  | .hbm, ⟨32, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S5632x2048, .bf16⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x5632, .f32⟩
  | .hbm, ⟨3, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnInDx.lean ====
abbrev S2048x5632 : Shape := ⟨2, ![2048, 5632]⟩
abbrev S2048x2048 : Shape := ⟨2, ![2048, 2048]⟩
abbrev S5632x2048 : Shape := ⟨2, ![5632, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 9
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S2048x5632, .f32⟩
  | .hbm, ⟨5, _⟩ => ⟨S2048x2048, .f32⟩
  | .hbm, ⟨6, _⟩ => ⟨S5632x2048, .f32⟩
  | .hbm, ⟨7, _⟩ => ⟨S5632x2048, .bf16⟩
  | .hbm, ⟨8, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDxRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x2048, .f32⟩
  | .hbm, ⟨11, _⟩ => ⟨S2048x2048, .f32⟩
  | .hbm, ⟨12, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== FfnDw.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjIn.lean ====
abbrev S2048x2048 : Shape := ⟨2, ![2048, 2048]⟩
abbrev S2048x2560 : Shape := ⟨2, ![2048, 2560]⟩
abbrev S2560x2048 : Shape := ⟨2, ![2560, 2048]⟩
abbrev S512x2048 : Shape := ⟨2, ![512, 2048]⟩
abbrev S512x2560 : Shape := ⟨2, ![512, 2560]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .f32⟩
  | .hbm, ⟨2, _⟩ => ⟨S2560x2048, .f32⟩
  | .hbm, ⟨3, _⟩ => ⟨S2560x2048, .bf16⟩
  | .hbm, ⟨4, _⟩ => ⟨S2048x2560, .f32⟩
  | .local _ .vmem, ⟨0, _⟩ => ⟨S512x2048, .bf16⟩
  | .local _ .vmem, ⟨1, _⟩ => ⟨S512x2048, .bf16⟩
  | .local _ .vmem, ⟨2, _⟩ => ⟨S2560x2048, .bf16⟩
  | .local _ .vmem, ⟨3, _⟩ => ⟨S512x2560, .f32⟩
  | .local _ .vmem, ⟨4, _⟩ => ⟨S512x2560, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2560x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S2048x2048 : Shape := ⟨2, ![2048, 2048]⟩
abbrev S2048x2560 : Shape := ⟨2, ![2048, 2560]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2560, .f32⟩
  | .hbm, ⟨2, _⟩ => ⟨S2048x2048, .f32⟩
  | .hbm, ⟨3, _⟩ => ⟨S2048x2560, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjInDx.lean ====
abbrev S2048x2560 : Shape := ⟨2, ![2048, 2560]⟩
abbrev S2560x2048 : Shape := ⟨2, ![2560, 2048]⟩
abbrev S2048x2048 : Shape := ⟨2, ![2048, 2048]⟩
abbrev S512x2560 : Shape := ⟨2, ![512, 2560]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .f32⟩
  | .hbm, ⟨2, _⟩ => ⟨S2560x2048, .f32⟩
  | .hbm, ⟨3, _⟩ => ⟨S2560x2048, .bf16⟩
  | .hbm, ⟨4, _⟩ => ⟨S2048x2048, .f32⟩
  | .local _ .vmem, ⟨0, _⟩ => ⟨S512x2560, .bf16⟩
  | .local _ .vmem, ⟨1, _⟩ => ⟨S512x2560, .bf16⟩
  | .local _ .vmem, ⟨2, _⟩ => ⟨S2560x2048, .bf16⟩
  | .local _ .vmem, ⟨3, _⟩ => ⟨S512x2048, .f32⟩
  | .local _ .vmem, ⟨4, _⟩ => ⟨S512x2048, .f32⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2560x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDxRefIdeal.lean ====
abbrev S2048x2560 : Shape := ⟨2, ![2048, 2560]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2560, .f32⟩
  | .hbm, ⟨2, _⟩ => ⟨S_, .f32⟩
  | .hbm, ⟨3, _⟩ => ⟨S2048x2048, .f32⟩
  | .hbm, ⟨4, _⟩ => ⟨S2048x2560, .f32⟩
  | .hbm, ⟨5, _⟩ => ⟨S2048x2560, .f32⟩
  | .hbm, ⟨6, _⟩ => ⟨S2048x2048, .f32⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjInDw.lean ====
abbrev S2048x2560 : Shape := ⟨2, ![2048, 2560]⟩
abbrev S2048x2048 : Shape := ⟨2, ![2048, 2048]⟩
abbrev S2560x2048 : Shape := ⟨2, ![2560, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2560, .bf16⟩
  | .hbm, ⟨1, _⟩ => ⟨S2048x2048, .bf16⟩
  | .hbm, ⟨2, _⟩ => ⟨S2560x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDwRefIdeal.lean ====
abbrev S2048x2560 : Shape := ⟨2, ![2048, 2560]⟩
abbrev S2048x2048 : Shape := ⟨2, ![2048, 2048]⟩
abbrev S_ : Shape := ⟨0, ![]⟩
abbrev S2560x2048 : Shape := ⟨2, ![2560, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2560, .bf16⟩
  | .hbm, ⟨1, _⟩ => ⟨S2048x2048, .bf16⟩
  | .hbm, ⟨2, _⟩ => ⟨S_, .f32⟩
  | .hbm, ⟨3, _⟩ => ⟨S2048x2560, .f32⟩
  | .hbm, ⟨4, _⟩ => ⟨S2048x2048, .f32⟩
  | .hbm, ⟨5, _⟩ => ⟨S2048x2560, .f32⟩
  | .hbm, ⟨6, _⟩ => ⟨S2048x2560, .f32⟩
  | .hbm, ⟨7, _⟩ => ⟨S2560x2048, .f32⟩
  | .hbm, ⟨8, _⟩ => ⟨S2048x2560, .f32⟩
  | .hbm, ⟨9, _⟩ => ⟨S2560x2048, .f32⟩
  | .hbm, ⟨10, _⟩ => ⟨S2560x2048, .bf16⟩
  | _, _ => ⟨S2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixOut.lean ====
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOutDx.lean ====
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixOutDw.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluGate.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluGateRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== GluGateDx.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1024x1024, .bf16⟩
  | .hbm, ⟨3, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluGateDxRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GluGateDw.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluGateDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== AdamFfn.lean ====
abbrev S4x704x2048 : Shape := ⟨3, ![4, 704, 2048]⟩
abbrev S704x2048 : Shape := ⟨2, ![704, 2048]⟩
abbrev S4x176x2048 : Shape := ⟨3, ![4, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S4x176x2048, .bf16⟩
  | .local _ .vmem, ⟨1, _⟩ => ⟨S4x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S4x704x2048 : Shape := ⟨3, ![4, 704, 2048]⟩
abbrev S704x2048 : Shape := ⟨2, ![704, 2048]⟩
abbrev S4x176x2048 : Shape := ⟨3, ![4, 176, 2048]⟩
abbrev S176x2048 : Shape := ⟨2, ![176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S4x176x2048, .bf16⟩
  | .local _ .vmem, ⟨1, _⟩ => ⟨S4x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S4x704x2048 : Shape := ⟨3, ![4, 704, 2048]⟩
abbrev S704x2048 : Shape := ⟨2, ![704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S4x320x2048 : Shape := ⟨3, ![4, 320, 2048]⟩
abbrev S320x2048 : Shape := ⟨2, ![320, 2048]⟩
abbrev S4x160x2048 : Shape := ⟨3, ![4, 160, 2048]⟩
abbrev S160x2048 : Shape := ⟨2, ![160, 2048]⟩
abbrev S1x160x2048 : Shape := ⟨3, ![1, 160, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x320x2048, .bf16⟩
  | .hbm, ⟨1, _⟩ => ⟨S320x2048, .f32⟩
  | .hbm, ⟨2, _⟩ => ⟨S320x2048, .f32⟩
  | .hbm, ⟨3, _⟩ => ⟨S320x2048, .f32⟩
  | .hbm, ⟨4, _⟩ => ⟨S320x2048, .f32⟩
  | .hbm, ⟨5, _⟩ => ⟨S320x2048, .f32⟩
  | .hbm, ⟨6, _⟩ => ⟨S320x2048, .f32⟩
  | .hbm, ⟨7, _⟩ => ⟨S320x2048, .f32⟩
  | .local _ .vmem, ⟨0, _⟩ => ⟨S4x160x2048, .bf16⟩
  | .local _ .vmem, ⟨1, _⟩ => ⟨S4x160x2048, .bf16⟩
  | .local _ .vmem, ⟨2, _⟩ => ⟨S160x2048, .f32⟩
  | .local _ .vmem, ⟨3, _⟩ => ⟨S160x2048, .f32⟩
  | .local _ .vmem, ⟨4, _⟩ => ⟨S160x2048, .f32⟩
  | .local _ .vmem, ⟨5, _⟩ => ⟨S160x2048, .f32⟩
  | .local _ .vmem, ⟨6, _⟩ => ⟨S160x2048, .f32⟩
  | .local _ .vmem, ⟨7, _⟩ => ⟨S160x2048, .f32⟩
  | .local _ .vmem, ⟨8, _⟩ => ⟨S160x2048, .f32⟩
  | .local _ .vmem, ⟨9, _⟩ => ⟨S160x2048, .f32⟩
  | .local _ .vmem, ⟨10, _⟩ => ⟨S160x2048, .f32⟩
  | .local _ .vmem, ⟨11, _⟩ => ⟨S160x2048, .f32⟩
  | .local _ .vmem, ⟨12, _⟩ => ⟨S160x2048, .f32⟩
  | .local _ .vmem, ⟨13, _⟩ => ⟨S160x2048, .f32⟩
  | .local _ .vmem, ⟨14, _⟩ => ⟨S160x2048, .f32⟩
  | .local _ .vmem, ⟨15, _⟩ => ⟨S160x2048, .f32⟩
  | _, _ => ⟨S4x320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x160x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x320x2048 : Shape := ⟨3, ![4, 320, 2048]⟩
abbrev S320x2048 : Shape := ⟨2, ![320, 2048]⟩
abbrev S4x160x2048 : Shape := ⟨3, ![4, 160, 2048]⟩
abbrev S160x2048 : Shape := ⟨2, ![160, 2048]⟩
abbrev S1x160x2048 : Shape := ⟨3, ![1, 160, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x320x2048, .bf16⟩
  | .hbm, ⟨1, _⟩ => ⟨S320x2048, .f32⟩
  | .hbm, ⟨2, _⟩ => ⟨S320x2048, .f32⟩
  | .hbm, ⟨3, _⟩ => ⟨S320x2048, .f32⟩
  | .hbm, ⟨4, _⟩ => ⟨S320x2048, .f32⟩
  | .hbm, ⟨5, _⟩ => ⟨S320x2048, .f32⟩
  | .hbm, ⟨6, _⟩ => ⟨S320x2048, .f32⟩
  | .hbm, ⟨7, _⟩ => ⟨S320x2048, .f32⟩
  | .local _ .vmem, ⟨0, _⟩ => ⟨S4x160x2048, .bf16⟩
  | .local _ .vmem, ⟨1, _⟩ => ⟨S4x160x2048, .bf16⟩
  | .local _ .vmem, ⟨2, _⟩ => ⟨S160x2048, .f32⟩
  | .local _ .vmem, ⟨3, _⟩ => ⟨S160x2048, .f32⟩
  | .local _ .vmem, ⟨4, _⟩ => ⟨S160x2048, .f32⟩
  | .local _ .vmem, ⟨5, _⟩ => ⟨S160x2048, .f32⟩
  | .local _ .vmem, ⟨6, _⟩ => ⟨S160x2048, .f32⟩
  | .local _ .vmem, ⟨7, _⟩ => ⟨S160x2048, .f32⟩
  | .local _ .vmem, ⟨8, _⟩ => ⟨S160x2048, .f32⟩
  | .local _ .vmem, ⟨9, _⟩ => ⟨S160x2048, .f32⟩
  | .local _ .vmem, ⟨10, _⟩ => ⟨S160x2048, .f32⟩
  | .local _ .vmem, ⟨11, _⟩ => ⟨S160x2048, .f32⟩
  | .local _ .vmem, ⟨12, _⟩ => ⟨S160x2048, .f32⟩
  | .local _ .vmem, ⟨13, _⟩ => ⟨S160x2048, .f32⟩
  | .local _ .vmem, ⟨14, _⟩ => ⟨S160x2048, .f32⟩
  | .local _ .vmem, ⟨15, _⟩ => ⟨S160x2048, .f32⟩
  | _, _ => ⟨S4x320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x160x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x320x2048 : Shape := ⟨3, ![4, 320, 2048]⟩
abbrev S320x2048 : Shape := ⟨2, ![320, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x320x2048, .bf16⟩
  | .hbm, ⟨1, _⟩ => ⟨S320x2048, .f32⟩
  | .hbm, ⟨2, _⟩ => ⟨S320x2048, .f32⟩
  | .hbm, ⟨3, _⟩ => ⟨S320x2048, .f32⟩
  | .hbm, ⟨4, _⟩ => ⟨S4x320x2048, .f32⟩
  | .hbm, ⟨5, _⟩ => ⟨S_, .f32⟩
  | .hbm, ⟨6, _⟩ => ⟨S320x2048, .f32⟩
  | .hbm, ⟨7, _⟩ => ⟨S_, .f32⟩
  | .hbm, ⟨8, _⟩ => ⟨S320x2048, .f32⟩
  | .hbm, ⟨9, _⟩ => ⟨S320x2048, .f32⟩
  | .hbm, ⟨10, _⟩ => ⟨S_, .f32⟩
  | .hbm, ⟨11, _⟩ => ⟨S320x2048, .f32⟩
  | .hbm, ⟨12, _⟩ => ⟨S320x2048, .f32⟩
  | .hbm, ⟨13, _⟩ => ⟨S320x2048, .f32⟩
  | .hbm, ⟨14, _⟩ => ⟨S_, .f32⟩
  | .hbm, ⟨15, _⟩ => ⟨S320x2048, .f32⟩
  | .hbm, ⟨16, _⟩ => ⟨S320x2048, .f32⟩
  | .hbm, ⟨17, _⟩ => ⟨S320x2048, .f32⟩
  | .hbm, ⟨18, _⟩ => ⟨S_, .f32⟩
  | .hbm, ⟨19, _⟩ => ⟨S320x2048, .f32⟩
  | .hbm, ⟨20, _⟩ => ⟨S320x2048, .f32⟩
  | .hbm, ⟨21, _⟩ => ⟨S320x2048, .f32⟩
  | .hbm, ⟨22, _⟩ => ⟨S_, .f32⟩
  | .hbm, ⟨23, _⟩ => ⟨S320x2048, .f32⟩
  | .hbm, ⟨24, _⟩ => ⟨S320x2048, .f32⟩
  | .hbm, ⟨25, _⟩ => ⟨S_, .f32⟩
  | .hbm, ⟨26, _⟩ => ⟨S320x2048, .f32⟩
  | .hbm, ⟨27, _⟩ => ⟨S320x2048, .f32⟩
  | .hbm, ⟨28, _⟩ => ⟨S320x2048, .f32⟩
  | .hbm, ⟨29, _⟩ => ⟨S_, .f32⟩
  | .hbm, ⟨30, _⟩ => ⟨S320x2048, .f32⟩
  | .hbm, ⟨31, _⟩ => ⟨S320x2048, .f32⟩
  | .hbm, ⟨32, _⟩ => ⟨S320x2048, .f32⟩
  | .hbm, ⟨33, _⟩ => ⟨S_, .f32⟩
  | .hbm, ⟨34, _⟩ => ⟨S320x2048, .f32⟩
  | .hbm, ⟨35, _⟩ => ⟨S320x2048, .f32⟩
  | .hbm, ⟨36, _⟩ => ⟨S320x2048, .f32⟩
  | .hbm, ⟨37, _⟩ => ⟨S_, .f32⟩
  | .hbm, ⟨38, _⟩ => ⟨S320x2048, .f32⟩
  | .hbm, ⟨39, _⟩ => ⟨S320x2048, .f32⟩
  | _, _ => ⟨S4x320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamO.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOIdeal.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamORefIdeal.lean ====
abbrev S4x256x2048 : Shape := ⟨3, ![4, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGlu.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S4x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGluRefIdeal.lean ====
abbrev S4x128x1024 : Shape := ⟨3, ![4, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Block.lean ====
/- What one grid point of the attention gradient computes, as functions of its eleven input blocks: the sixteen
   query heads in four groups of four, each group with its own key and value head over the window of the block
   before and the block itself. Everything here is uniform in the head and in the group. -/
module

public import Idealize.ShloMosaic.Lib.Pipeline.ValueKit
public import proofs.«01_k».proof.Proof.Gen.KernelIdeal

@[expose] public section

set_option maxRecDepth 16384

noncomputable section

namespace Attn

open Cert.KernelIdeal Cert.KernelIdeal.Gen Idealize.ShloMosaic

variable {F : FTy → Type} [FloatOps F] [Named F]

/-- The input blocks of one grid point. -/
structure Ins (F : FTy → Type) where
  q : Vec F S128x1024 .f32
  kc : Vec F S128x256 .f32
  vc : Vec F S128x256 .f32
  kp : Vec F S128x256 .f32
  vp : Vec F S128x256 .f32
  cq : Vec F S128x128 .f32
  sq : Vec F S128x128 .f32
  cp : Vec F S128x128 .f32
  sp : Vec F S128x128 .f32
  sink : Vec F S1x128 .f32
  gout : Vec F S128x1024 .f32

/-! ## The rotation of two heads side by side -/

/-- The lane within its head, as the kernel counts it. -/
def laneOf : IVec S128x128 32 :=
  remsi (iota .tc S128x128 32 [1] iota_S128x128_d1_w32) (broadcast S128x128 (Scalar.select (Scalar.cmpi .eq 64#32 0#32) 1#32 64#32))

/-- The lanes of the first half of a head. -/
def laneLow : IVec S128x128 1 :=
  cmpi .slt
    (select
      (andi (xori (cmpi .slt laneOf (broadcast S128x128 0#32))
          (broadcastTo S128x128 (broadcast S128x128 (Scalar.cmpi .slt (Scalar.select (Scalar.cmpi .eq 64#32 0#32) 1#32 64#32) 0#32)) broadcasts_S128x128_S128x128))
        (cmpi .ne laneOf (broadcast S128x128 0#32)))
      (addi laneOf (broadcast S128x128 (Scalar.select (Scalar.cmpi .eq 64#32 0#32) 1#32 64#32))) laneOf)
    (broadcast S128x128 32#32)

/-- The two halves of each head exchanged, the new first half negated. -/
def swap (x : FVec F S128x128 .f32) : FVec F S128x128 .f32 :=
  select laneLow (subf (broadcast S128x128 (Scalar.ofBits .f32 0x00000000#32)) (dynamicRotate 1 96#32 none x rotates_S128x128_d1))
    (dynamicRotate 1 32#32 none x rotates_S128x128_d1)

def rope (c s x : FVec F S128x128 .f32) : FVec F S128x128 .f32 := addf (mulf x c) (mulf (swap x) s)
def unrope (c s x : FVec F S128x128 .f32) : FVec F S128x128 .f32 := subf (mulf x c) (mulf (swap x) s)

/-- A table block as the kernel reads it. -/
def tab (x : Vec F S128x128 .f32) : FVec F S128x128 .f32 := shapeCast S128x128 x shapeCasts_S128x128_S128x128

/-! ## Loads -/

theorem inb_q (j : Fin 8) : ∀ a, (![0, 128 * j.val] : Fin 2 → Nat) a + S128x128.size a ≤ S128x1024.size a := by
  revert j; decide
theorem inb_k (j : Fin 2) : ∀ a, (![0, 128 * j.val] : Fin 2 → Nat) a + S128x128.size a ≤ S128x256.size a := by
  revert j; decide
theorem inb_o (h : Fin 16) : ∀ a, (![0, 64 * h.val] : Fin 2 → Nat) a + S128x64.size a ≤ S128x1024.size a := by
  revert h; decide
theorem inb_s (h : Fin 16) : ∀ a, (![0, h.val] : Fin 2 → Nat) a + S1x1.size a ≤ S1x128.size a := by
  revert h; decide

def ldQ (x : Vec F S128x1024 .f32) (j : Fin 8) : Vec F S128x128 .f32 :=
  View.ld x (Rect.unit (s := S128x1024) ![0, 128 * j.val] S128x128.size (inb_q j))
def ldK (x : Vec F S128x256 .f32) (j : Fin 2) : Vec F S128x128 .f32 :=
  View.ld x (Rect.unit (s := S128x256) ![0, 128 * j.val] S128x128.size (inb_k j))
def ldO (x : Vec F S128x1024 .f32) (h : Fin 16) : Vec F S128x64 .f32 :=
  View.ld x (Rect.unit (s := S128x1024) ![0, 64 * h.val] S128x64.size (inb_o h))
def ldS (x : Vec F S1x128 .f32) (h : Fin 16) : Vec F S1x1 .f32 :=
  View.ld x (Rect.unit (s := S1x128) ![0, h.val] S1x1.size (inb_s h))

/-! ## Heads -/

theorem slices_half (b : Fin 2) : S128x128.Slices ![0, 64 * b.val] S128x64 := by revert b; decide
theorem slices_head (r : Fin 4) : S512x64.Slices ![128 * r.val, 0] S128x64 := by revert r; decide
theorem slices_col (r : Fin 4) : S512x1.Slices ![128 * r.val, 0] S128x1 := by revert r; decide
theorem slices_win (i : Fin 2) : S256x128.Slices ![128 * i.val, 0] S128x128 := by revert i; decide

theorem slices_val (g : Fin 4) : S128x256.Slices ![0, 64 * g.val] S128x64 := by revert g; decide

/-- The values of a group. -/
def ldV (x : Vec F S128x256 .f32) (g : Fin 4) : FVec F S128x64 .f32 := extractStridedSlice S128x64 ![0, 64 * g.val] x (slices_val g)

/-- One head of a pair. -/
def half (x : FVec F S128x128 .f32) (b : Fin 2) : FVec F S128x64 .f32 :=
  extractStridedSlice S128x64 ![0, 64 * b.val] x (slices_half b)

def hi (h : Fin 16) : Fin 8 := ⟨h.val / 2, by omega⟩
def lo (h : Fin 16) : Fin 2 := ⟨h.val % 2, by omega⟩
def ghi (g : Fin 4) : Fin 2 := ⟨g.val / 2, by omega⟩
def glo (g : Fin 4) : Fin 2 := ⟨g.val % 2, by omega⟩
/-- Head `r` of group `g`. -/
def hd (g r : Fin 4) : Fin 16 := ⟨4 * g.val + r.val, by omega⟩
def grp (h : Fin 16) : Fin 4 := ⟨h.val / 4, by omega⟩
def pos (h : Fin 16) : Fin 4 := ⟨h.val % 4, by omega⟩
/-- The two halves of pair `j`. -/
def pr8 (j : Fin 8) (b : Fin 2) : Fin 16 := ⟨2 * j.val + b.val, by omega⟩
def pr2 (j b : Fin 2) : Fin 4 := ⟨2 * j.val + b.val, by omega⟩

variable (I : Ins F)

/-- The rotated queries of a head. -/
def qHead (h : Fin 16) : FVec F S128x64 .bf16 :=
  truncf .bf16 (half (rope (tab I.cq) (tab I.sq) (ldQ I.q (hi h))) (lo h)) bitsLt_bf16_f32

/-- The rotated keys of a group over its window. -/
def kk (g : Fin 4) : FVec F S256x64 .bf16 :=
  truncf .bf16 (concatenate S256x64 0 [⟨S128x64, half (rope (tab I.cp) (tab I.sp) (ldK I.kp (ghi g))) (glo g)⟩,
    ⟨S128x64, half (rope (tab I.cq) (tab I.sq) (ldK I.kc (ghi g))) (glo g)⟩] concatenates_S128x64_S128x64_S256x64_d0) bitsLt_bf16_f32

/-- The values of a group over its window. -/
def vv (g : Fin 4) : FVec F S256x64 .bf16 :=
  truncf .bf16 (concatenate S256x64 0 [⟨S128x64, ldV I.vp g⟩, ⟨S128x64, ldV I.vc g⟩] concatenates_S128x64_S128x64_S256x64_d0) bitsLt_bf16_f32

/-- The queries of a group's four heads. -/
def qa (g : Fin 4) : FVec F S512x64 .bf16 :=
  concatenate S512x64 0 [⟨S128x64, qHead I (hd g 0)⟩, ⟨S128x64, qHead I (hd g 1)⟩, ⟨S128x64, qHead I (hd g 2)⟩, ⟨S128x64, qHead I (hd g 3)⟩]
    concatenates_S128x64_S128x64_S128x64_S128x64_S512x64_d0

/-- The output's gradient at a group's four heads. -/
def da (g : Fin 4) : FVec F S512x64 .bf16 :=
  truncf .bf16 (concatenate S512x64 0 [⟨S128x64, ldO I.gout (hd g 0)⟩, ⟨S128x64, ldO I.gout (hd g 1)⟩, ⟨S128x64, ldO I.gout (hd g 2)⟩,
    ⟨S128x64, ldO I.gout (hd g 3)⟩] concatenates_S128x64_S128x64_S128x64_S128x64_S512x64_d0) bitsLt_bf16_f32

/-- A sink down a column. -/
def sinkCol (h : Fin 16) : FVec F S128x1 .f32 :=
  broadcastTo S128x1 (shapeCast S1x1 (shapeCast S1x1 (ldS I.sink h) shapeCasts_S1x1_S1x1) shapeCasts_S1x1_S1x1) broadcasts_S1x1_S128x1

/-- The sinks of a group's four heads. -/
def sa (g : Fin 4) : FVec F S512x1 .f32 :=
  concatenate S512x1 0 [⟨S128x1, sinkCol I (hd g 0)⟩, ⟨S128x1, sinkCol I (hd g 1)⟩, ⟨S128x1, sinkCol I (hd g 2)⟩, ⟨S128x1, sinkCol I (hd g 3)⟩]
    concatenates_S128x1_S128x1_S128x1_S128x1_S512x1_d0

/-! ## A group -/

section Group

variable (mask : IVec S512x256 1) (g : Fin 4)

def scores : FVec F S512x256 .f32 :=
  select mask
    (mulf (matmul dot_S512x64_S256x64_S512x256_1_1_0_0_n_n none (qa I g) (kk I g) (constant S512x256 .f32 0x00000000#32))
      (broadcast S512x256 (Scalar.ofBits .f32 0x3E000000#32)))
    (broadcast S512x256 (Named.named κ "mask" 0xF149F2CA#32))

def col (x : FVec F S512 .f32) : FVec F S512x1 .f32 := shapeCast S512x1 x shapeCasts_S512_S512x1
def wide (x : FVec F S512x1 .f32) : FVec F S512x256 .f32 := broadcastTo S512x256 x broadcasts_S512x1_S512x256

def mx : FVec F S512x1 .f32 :=
  maximumf (col (multiReduction .maximumf [1] S512 (scores I mask g) 0xFF800000#32 reduces_S512x256_S512 (.inl rfl) rfl)) (sa I g)
def ex : FVec F S512x256 .f32 := exp (subf (scores I mask g) (wide (mx I mask g)))
def es : FVec F S512x1 .f32 := exp (subf (sa I g) (mx I mask g))
def inv : FVec F S512x1 .f32 :=
  divf (broadcast S512x1 (Scalar.ofBits .f32 0x3F800000#32))
    (addf (col (multiReduction .add [1] S512 (ex I mask g) 0x00000000#32 reduces_S512x256_S512 (.inl rfl) rfl)) (es I mask g))
def probs : FVec F S512x256 .f32 := mulf (ex I mask g) (wide (inv I mask g))
def pSink : FVec F S512x1 .f32 := mulf (es I mask g) (inv I mask g)
def dP : FVec F S512x256 .f32 :=
  matmul dot_S512x64_S256x64_S512x256_1_1_0_0_n_n none (da I g) (vv I g) (constant S512x256 .f32 0x00000000#32)
def delta : FVec F S512x1 .f32 :=
  col (multiReduction .add [1] S512 (mulf (probs I mask g) (dP I g)) 0x00000000#32 reduces_S512x256_S512 (.inl rfl) rfl)
def dS : FVec F S512x256 .bf16 :=
  truncf .bf16 (mulf (mulf (probs I mask g) (subf (dP I g) (wide (delta I mask g)))) (broadcast S512x256 (Scalar.ofBits .f32 0x3E000000#32)))
    bitsLt_bf16_f32
def dQ : FVec F S512x64 .f32 :=
  matmul dot_S512x256_S256x64_S512x64_1_0_0_1_n_n none (dS I mask g) (kk I g) (constant S512x64 .f32 0x00000000#32)
def dK : FVec F S256x64 .f32 :=
  addf (broadcast S256x64 (Scalar.ofBits .f32 0x00000000#32))
    (matmul dot_S512x256_S512x64_S256x64_0_0_1_1_n_n none (dS I mask g) (qa I g) (constant S256x64 .f32 0x00000000#32))
def dV : FVec F S256x64 .f32 :=
  addf (broadcast S256x64 (Scalar.ofBits .f32 0x00000000#32))
    (matmul dot_S512x256_S512x64_S256x64_0_0_1_1_n_n none (truncf .bf16 (probs I mask g) bitsLt_bf16_f32) (da I g) (constant S256x64 .f32 0x00000000#32))
def sinkTerm : FVec F S512x1 .f32 := mulf (pSink I mask g) (delta I mask g)

end Group

/-! ## What is stored -/

variable (mask : IVec S512x256 1)

def dqHead (h : Fin 16) : FVec F S128x64 .f32 :=
  extractStridedSlice S128x64 ![128 * (pos h).val, 0] (dQ I mask (grp h)) (slices_head (pos h))

/-- The gradient of two query heads, rotated back. -/
def dqTile (j : Fin 8) : FVec F S128x128 .f32 :=
  unrope (tab I.cq) (tab I.sq) (concatenate S128x128 1 [⟨S128x64, dqHead I mask (pr8 j 0)⟩, ⟨S128x64, dqHead I mask (pr8 j 1)⟩]
    concatenates_S128x64_S128x64_S128x128_d1)

/-- The rotation of the previous block's rows and of the block's own. -/
def tc (i : Fin 2) : FVec F S128x128 .f32 := match i with | 0 => tab I.cp | 1 => tab I.cq
def ts (i : Fin 2) : FVec F S128x128 .f32 := match i with | 0 => tab I.sp | 1 => tab I.sq

/-- The gradient of two key heads at one half of the window, rotated back. -/
def dkTile (i j : Fin 2) : FVec F S1x128x128 .f32 :=
  shapeCast S1x128x128 (unrope (tc I i) (ts I i) (extractStridedSlice S128x128 ![128 * i.val, 0]
    (concatenate S256x128 1 [⟨S256x64, dK I mask (pr2 j 0)⟩, ⟨S256x64, dK I mask (pr2 j 1)⟩] concatenates_S256x64_S256x64_S256x128_d1)
    (slices_win i))) shapeCasts_S128x128_S1x128x128

/-- The gradient of two value heads at one half of the window. -/
def dvTile (i j : Fin 2) : FVec F S1x128x128 .f32 :=
  shapeCast S1x128x128 (extractStridedSlice S128x128 ![128 * i.val, 0]
    (concatenate S256x128 1 [⟨S256x64, dV I mask (pr2 j 0)⟩, ⟨S256x64, dV I mask (pr2 j 1)⟩] concatenates_S256x64_S256x64_S256x128_d1)
    (slices_win i)) shapeCasts_S128x128_S1x128x128

/-- Minus the sum of a head's sink terms, in the head's lane. -/
def dsTerm (h : Fin 16) : FVec F S1x128 .f32 :=
  select (cmpi .eq (iota .tc S1x128 32 [1] iota_S1x128_d1_w32) (broadcast S1x128 (BitVec.ofNat 32 h.val)))
    (broadcastTo S1x128 (shapeCast S1x1 (subf (broadcast S1x1 (Scalar.ofBits .f32 0x00000000#32))
      (shapeCast S1x1 (multiReduction .add [0] S1 (extractStridedSlice S128x1 ![128 * (pos h).val, 0] (sinkTerm I mask (grp h)) (slices_col (pos h)))
        0x00000000#32 reduces_S128x1_S1 (.inl rfl) rfl) shapeCasts_S1_S1x1)) shapeCasts_S1x1_S1x1) broadcasts_S1x1_S1x128)
    (broadcast S1x128 (Scalar.ofBits .f32 0x00000000#32))

/-- The sinks' gradient of the first `n` heads. -/
def dsAcc (n : ℕ) : FVec F S1x128 .f32 :=
  match n with
  | 0 => broadcast S1x128 (Scalar.ofBits .f32 0x00000000#32)
  | n + 1 => addf (dsAcc n) (dsTerm I mask ⟨n % 16, by omega⟩)

end Attn
-- ==== Proof.Pieces.lean ====
module

public import Idealize.ShloMosaic.Lib.Pointwise
public import proofs.«01_k».proof.Proof.Gen.KernelIdeal.Value
public import proofs.«01_k».proof.Proof.Block

@[expose] public section

set_option maxRecDepth 16384

noncomputable section

namespace Attn

open Cert.KernelIdeal Cert.KernelIdeal.Gen Cert.KernelIdeal.Value Idealize.ShloMosaic Idealize.ShloMosaic.TcCoe Idealize.SL.Sem

variable {F : FTy → Type} [FloatOps F] [Named F]
variable (m : (ℓ : Loc nD τ sig) → Buf (Elt F) ℓ)

/-- The input blocks of grid point `t`. -/
def ins (c : Dev nD) (t : Fin cfg0.N) : Ins F where
  q := X0_0 m c t
  kc := iblk m c 1 t
  vc := iblk m c 2 t
  kp := iblk m c 3 t
  vp := iblk m c 4 t
  cq := iblk m c 5 t
  sq := iblk m c 6 t
  cp := iblk m c 7 t
  sp := iblk m c 8 t
  sink := iblk m c 9 t
  gout := iblk m c 10 t

/-- The pair of heads that holds lane `l`, and the lane within the pair. -/
def pairOf {n : ℕ} (l : Fin (128 * n)) : Fin n := ⟨l.val / 128, by have := l.isLt; omega⟩
def laneIn {n : ℕ} (l : Fin (128 * n)) : Fin 128 := ⟨l.val % 128, by omega⟩

section At

variable (I : Ins F) (mask : IVec S512x256 1)

/-- The query gradients of a block, entry by entry. -/
def dqAt (y : S128x1024.Idx) : F .f32 := dqTile I mask (pairOf (y 1)) (ix2 (y 0) (laneIn (n := 8) (y 1)))
/-- The key gradients of a block's window, entry by entry. -/
def dkAt (y : S2x128x256.Idx) : F .f32 := dkTile I mask (y 0) (pairOf (y 2)) (ix3 0 (y 1) (laneIn (n := 2) (y 2)))
/-- The value gradients of a block's window, entry by entry. -/
def dvAt (y : S2x128x256.Idx) : F .f32 := dvTile I mask (y 0) (pairOf (y 2)) (ix3 0 (y 1) (laneIn (n := 2) (y 2)))

variable {I mask}

theorem dqAt_eq (b : ℕ) (hb : b < 8) {y : S128x1024.Idx} {l : S128x128.Idx} (h0 : (y 0).val = (l 0).val)
    (h1 : (y 1).val = 128 * b + (l 1).val) (h : (l 1).val < 128) : dqTile I mask ⟨b, hb⟩ l = dqAt I mask y := by
  have e : pairOf (n := 8) (y 1) = ⟨b, hb⟩ := Fin.ext (by show (y 1).val / 128 = b; omega)
  have e0 : y 0 = l 0 := Fin.ext h0
  have e1 : laneIn (n := 8) (y 1) = l 1 := Fin.ext (by show (y 1).val % 128 = (l 1).val; omega)
  rw [dqAt, e, e0, e1]
  exact congrArg _ (eq_ix2 l)

theorem win_idx (a b : ℕ) (ha : a < 2) (hb : b < 2) {y : S2x128x256.Idx} {l : S1x128x128.Idx} (h0 : (y 0).val = a + (l 0).val)
    (hl : (l 0).val < 1) (h1 : (y 1).val = (l 1).val) (h2 : (y 2).val = 128 * b + (l 2).val) (h : (l 2).val < 128) :
    y 0 = (⟨a, ha⟩ : Fin 2) ∧ pairOf (n := 2) (y 2) = ⟨b, hb⟩ ∧ l = ix3 0 (y 1) (laneIn (n := 2) (y 2)) := by
  have e0 : (0 : Fin 1) = l 0 := Fin.ext (by show 0 = (l 0).val; omega)
  have e1 : y 1 = l 1 := Fin.ext h1
  have e2 : laneIn (n := 2) (y 2) = l 2 := Fin.ext (by show (y 2).val % 128 = (l 2).val; omega)
  refine ⟨Fin.ext (by show (y 0).val = a; omega), Fin.ext (by show (y 2).val / 128 = b; omega), ?_⟩
  rw [e0, e1, e2]
  exact eq_ix3 l

theorem dkAt_eq (a b : ℕ) (ha : a < 2) (hb : b < 2) {y : S2x128x256.Idx} {l : S1x128x128.Idx} (h0 : (y 0).val = a + (l 0).val)
    (hl : (l 0).val < 1) (h1 : (y 1).val = (l 1).val) (h2 : (y 2).val = 128 * b + (l 2).val) (h : (l 2).val < 128) :
    dkTile I mask ⟨a, ha⟩ ⟨b, hb⟩ l = dkAt I mask y := by
  obtain ⟨e, e', el⟩ := win_idx a b ha hb h0 hl h1 h2 h
  rw [dkAt, e, e']
  exact congrArg _ el

theorem dvAt_eq (a b : ℕ) (ha : a < 2) (hb : b < 2) {y : S2x128x256.Idx} {l : S1x128x128.Idx} (h0 : (y 0).val = a + (l 0).val)
    (hl : (l 0).val < 1) (h1 : (y 1).val = (l 1).val) (h2 : (y 2).val = 128 * b + (l 2).val) (h : (l 2).val < 128) :
    dvTile I mask ⟨a, ha⟩ ⟨b, hb⟩ l = dvAt I mask y := by
  obtain ⟨e, e', el⟩ := win_idx a b ha hb h0 hl h1 h2 h
  rw [dvAt, e, e']
  exact congrArg _ el

end At

variable (c : Dev nD) (t : Fin cfg0.N)

/-- The mask of grid point `t`. -/
abbrev maskAt : IVec S512x256 1 := k0_pay1 (grid0.coords t)

/-- What point `t` leaves in the block of query gradients. -/
theorem outs_dq (j : S128x1024.Idx) : (outsAt0 m c t.val t.isLt).1 j = dqAt (ins m c t) (maskAt t) j := by
  have tile (b : ℕ) (hb : b < 8) {v : FVec F S128x128 .f32} (e : v = dqTile (ins m c t) (maskAt t) ⟨b, hb⟩) {y : S128x1024.Idx}
      {l : S128x128.Idx} (h0 : (y 0).val = (l 0).val) (h1 : (y 1).val = 128 * b + (l 1).val) (h : (l 1).val < 128) :
      v l = dqAt (ins m c t) (maskAt t) y := by rw [e]; exact dqAt_eq b hb h0 h1 h
  by_cases h0 : t.val % 16 = 0
  · rw [outsAt0_A m c t h0]
    frame_out
    canon_tiles j h
    case piece0 => exact tile 7 (by decide) (by sl_kernel_rfl) h0 h1 j1_lt
    case piece1 => exact tile 6 (by decide) (by sl_kernel_rfl) h0 h1 j1_lt
    case piece2 => exact tile 5 (by decide) (by sl_kernel_rfl) h0 h1 j1_lt
    case piece3 => exact tile 4 (by decide) (by sl_kernel_rfl) h0 h1 j1_lt
    case piece4 => exact tile 3 (by decide) (by sl_kernel_rfl) h0 h1 j1_lt
    case piece5 => exact tile 2 (by decide) (by sl_kernel_rfl) h0 h1 j1_lt
    case piece6 => exact tile 1 (by decide) (by sl_kernel_rfl) h0 h1 j1_lt
    case piece7 => exact tile 0 (by decide) (by sl_kernel_rfl) h0 (by omega) j1_lt
  · rw [outsAt0_B m c t h0]
    frame_out
    canon_tiles j h
    case piece0 => exact tile 7 (by decide) (by sl_kernel_rfl) h0 h1 j1_lt
    case piece1 => exact tile 6 (by decide) (by sl_kernel_rfl) h0 h1 j1_lt
    case piece2 => exact tile 5 (by decide) (by sl_kernel_rfl) h0 h1 j1_lt
    case piece3 => exact tile 4 (by decide) (by sl_kernel_rfl) h0 h1 j1_lt
    case piece4 => exact tile 3 (by decide) (by sl_kernel_rfl) h0 h1 j1_lt
    case piece5 => exact tile 2 (by decide) (by sl_kernel_rfl) h0 h1 j1_lt
    case piece6 => exact tile 1 (by decide) (by sl_kernel_rfl) h0 h1 j1_lt
    case piece7 => exact tile 0 (by decide) (by sl_kernel_rfl) h0 (by omega) j1_lt

/-- What point `t` leaves in the block of key gradients. -/
theorem outs_dk (j : S2x128x256.Idx) : (outsAt0 m c t.val t.isLt).2.1 j = dkAt (ins m c t) (maskAt t) j := by
  have tile (a b : ℕ) (ha : a < 2) (hb : b < 2) {v : FVec F S1x128x128 .f32} (e : v = dkTile (ins m c t) (maskAt t) ⟨a, ha⟩ ⟨b, hb⟩)
      {y : S2x128x256.Idx} {l : S1x128x128.Idx} (h0 : (y 0).val = a + (l 0).val)
      (hl : (l 0).val < 1) (h1 : (y 1).val = (l 1).val) (h2 : (y 2).val = 128 * b + (l 2).val) (h : (l 2).val < 128) :
      v l = dkAt (ins m c t) (maskAt t) y := by rw [e]; exact dkAt_eq a b ha hb h0 hl h1 h2 h
  by_cases h0 : t.val % 16 = 0
  · rw [outsAt0_A m c t h0]
    frame_out
    canon_tiles j h
    case piece0 => exact tile 1 1 (by decide) (by decide) (by sl_kernel_rfl) (by omega) j0_lt h1 (by omega) j2_lt
    case piece1 => exact tile 0 1 (by decide) (by decide) (by sl_kernel_rfl) (by omega) j0_lt h1 (by omega) j2_lt
    case piece2 => exact tile 1 0 (by decide) (by decide) (by sl_kernel_rfl) (by omega) j0_lt h1 (by omega) j2_lt
    case piece3 => exact tile 0 0 (by decide) (by decide) (by sl_kernel_rfl) (by omega) j0_lt h1 (by omega) j2_lt
  · rw [outsAt0_B m c t h0]
    frame_out
    canon_tiles j h
    case piece0 => exact tile 1 1 (by decide) (by decide) (by sl_kernel_rfl) (by omega) j0_lt h1 (by omega) j2_lt
    case piece1 => exact tile 0 1 (by decide) (by decide) (by sl_kernel_rfl) (by omega) j0_lt h1 (by omega) j2_lt
    case piece2 => exact tile 1 0 (by decide) (by decide) (by sl_kernel_rfl) (by omega) j0_lt h1 (by omega) j2_lt
    case piece3 => exact tile 0 0 (by decide) (by decide) (by sl_kernel_rfl) (by omega) j0_lt h1 (by omega) j2_lt

/-- What point `t` leaves in the block of value gradients. -/
theorem outs_dv (j : S2x128x256.Idx) : (outsAt0 m c t.val t.isLt).2.2.1 j = dvAt (ins m c t) (maskAt t) j := by
  have tile (a b : ℕ) (ha : a < 2) (hb : b < 2) {v : FVec F S1x128x128 .f32} (e : v = dvTile (ins m c t) (maskAt t) ⟨a, ha⟩ ⟨b, hb⟩)
      {y : S2x128x256.Idx} {l : S1x128x128.Idx} (h0 : (y 0).val = a + (l 0).val)
      (hl : (l 0).val < 1) (h1 : (y 1).val = (l 1).val) (h2 : (y 2).val = 128 * b + (l 2).val) (h : (l 2).val < 128) :
      v l = dvAt (ins m c t) (maskAt t) y := by rw [e]; exact dvAt_eq a b ha hb h0 hl h1 h2 h
  by_cases h0 : t.val % 16 = 0
  · rw [outsAt0_A m c t h0]
    frame_out
    canon_tiles j h
    case piece0 => exact tile 1 1 (by decide) (by decide) (by sl_kernel_rfl) (by omega) j0_lt h1 (by omega) j2_lt
    case piece1 => exact tile 0 1 (by decide) (by decide) (by sl_kernel_rfl) (by omega) j0_lt h1 (by omega) j2_lt
    case piece2 => exact tile 1 0 (by decide) (by decide) (by sl_kernel_rfl) (by omega) j0_lt h1 (by omega) j2_lt
    case piece3 => exact tile 0 0 (by decide) (by decide) (by sl_kernel_rfl) (by omega) j0_lt h1 (by omega) j2_lt
  · rw [outsAt0_B m c t h0]
    frame_out
    canon_tiles j h
    case piece0 => exact tile 1 1 (by decide) (by decide) (by sl_kernel_rfl) (by omega) j0_lt h1 (by omega) j2_lt
    case piece1 => exact tile 0 1 (by decide) (by decide) (by sl_kernel_rfl) (by omega) j0_lt h1 (by omega) j2_lt
    case piece2 => exact tile 1 0 (by decide) (by decide) (by sl_kernel_rfl) (by omega) j0_lt h1 (by omega) j2_lt
    case piece3 => exact tile 0 0 (by decide) (by decide) (by sl_kernel_rfl) (by omega) j0_lt h1 (by omega) j2_lt

/-- The first point starts the sinks' gradients from zero. -/
theorem outs_ds_first (h0 : t.val % 16 = 0) :
    (outsAt0 m c t.val t.isLt).2.2.2 = k0_pay231 (dsAcc (ins m c t) (maskAt t) 16) k0_pay230 := by
  funext j
  rw [outsAt0_A m c t h0]
  frame_out
  exact congrFun (by sl_kernel_rfl) j

/-- Every later point adds to what the point before left. -/
theorem outs_ds_next (h0 : ¬t.val % 16 = 0) :
    (outsAt0 m c t.val t.isLt).2.2.2 = k0_pay231 (dsAcc (ins m c t) (maskAt t) 16)
      (outsAt0 m c (t.val - 1) (Nat.lt_of_le_of_lt (Nat.sub_le _ _) t.isLt)).2.2.2 := by
  funext j
  rw [outsAt0_B m c t h0]
  frame_out
  refine congrFun ?_ j
  generalize (outsAt0 m c (t.val - 1) (Nat.lt_of_le_of_lt (Nat.sub_le _ _) t.isLt)).2.2.2 = prev
  sl_kernel_rfl

end Attn
-- ==== Proof.Row.lean ====
/- One row of attention with a sink, over the extended reals: the softmax of a row of masked scores and its
   gradient, as the kernel spells them (multiply by the reciprocal of the row's sum) and as the chain rule spells
   them (divide by the row's sum, and send a gradient through the row's greatest score). On real scores the two
   agree: the gradient through the greatest score is zero. -/
module

public import Idealize.ShloMosaic.PureOps.Ideal
public import Mathlib.Data.EReal.Inv
public import Mathlib.Tactic.FieldSimp
public import Mathlib.Tactic.Ring
public import Mathlib.Tactic.Linarith

@[expose] public section

noncomputable section

namespace Attn

open Idealize.ShloMosaic

/-- An extended real that is a real number. -/
def IsReal (x : EReal) : Prop := ∃ r : ℝ, x = r

namespace IsReal

theorem coe (r : ℝ) : IsReal r := ⟨r, rfl⟩
theorem zero : IsReal 0 := ⟨0, rfl⟩
theorem one : IsReal 1 := ⟨1, rfl⟩

theorem add {x y : EReal} : IsReal x → IsReal y → IsReal (x + y)
  | ⟨a, ha⟩, ⟨b, hb⟩ => ⟨a + b, by rw [ha, hb, EReal.coe_add]⟩

theorem mul {x y : EReal} : IsReal x → IsReal y → IsReal (x * y)
  | ⟨a, ha⟩, ⟨b, hb⟩ => ⟨a * b, by rw [ha, hb, EReal.coe_mul]⟩

theorem neg {x : EReal} : IsReal x → IsReal (-x)
  | ⟨a, ha⟩ => ⟨-a, by rw [ha, EReal.coe_neg]⟩

theorem sub {x y : EReal} : IsReal x → IsReal y → IsReal (x - y)
  | ⟨a, ha⟩, ⟨b, hb⟩ => ⟨a - b, by rw [ha, hb, EReal.coe_sub]⟩

theorem sum {ι : Type*} (t : Finset ι) (f : ι → EReal) (h : ∀ i ∈ t, IsReal (f i)) : IsReal (∑ i ∈ t, f i) := by
  classical
  induction t using Finset.induction_on with
  | empty => exact ⟨0, by simp⟩
  | insert a t ha ih =>
    rw [Finset.sum_insert ha]
    exact (h a (by simp)).add (ih fun i hi => h i (by simp [hi]))

theorem ne_top {x : EReal} : IsReal x → x ≠ ⊤
  | ⟨_, ha⟩ => by rw [ha]; exact EReal.coe_ne_top _

theorem ne_bot {x : EReal} : IsReal x → x ≠ ⊥
  | ⟨_, ha⟩ => by rw [ha]; exact EReal.coe_ne_bot _

theorem of_ne {x : EReal} (h1 : x ≠ ⊤) (h2 : x ≠ ⊥) : IsReal x := ⟨x.toReal, (EReal.coe_toReal h1 h2).symm⟩

end IsReal

/-- A sum of real numbers, as an extended real. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

section Row

variable (s : Fin 256 → EReal) (k : EReal) (dp : Fin 256 → EReal) (c : EReal)

/-- The greatest of the row's scores. -/
def scoreMax : EReal := Finset.univ.fold max ⊥ s
/-- The greatest of the row's scores and its sink. -/
def rowMax : EReal := max (scoreMax s) k
def rowExp (j : Fin 256) : EReal := Ideal.exp (s j - rowMax s k)
def sinkExp : EReal := Ideal.exp (k - rowMax s k)
def rowSum : EReal := (∑ j, rowExp s k j) + sinkExp s k

/-! The kernel's spelling. -/
def kInv : EReal := Ideal.div 1 (rowSum s k)
def kProbs (j : Fin 256) : EReal := rowExp s k j * kInv s k
def kDelta : EReal := ∑ j, kProbs s k j * dp j
def kDs (j : Fin 256) : EReal := kProbs s k j * (dp j - kDelta s k dp) * c
def kSink : EReal := sinkExp s k * kInv s k * kDelta s k dp

/-! The chain rule's spelling. -/
def rProbs (j : Fin 256) : EReal := Ideal.div (rowExp s k j) (rowSum s k)
def rNeg : EReal := -∑ j, dp j * Ideal.div 1 (rowSum s k * rowSum s k) * rowExp s k j
def rSink : EReal := rNeg s k dp * sinkExp s k
def rDs (j : Fin 256) : EReal := (Ideal.div (dp j) (rowSum s k) + rNeg s k dp) * rowExp s k j
def rMax : EReal := -rSink s k dp + ∑ j, -rDs s k dp j
def rCount : EReal := ∑ j, (if s j = scoreMax s then 1 else 0 : EReal)

/-- The row: real scores or masked ones, a real sink, real gradients. -/
structure Good : Prop where
  score : ∀ j, s j = ⊥ ∨ IsReal (s j)
  sink : IsReal k

variable {s k dp c}

theorem scoreMax_eq_sup : scoreMax s = Finset.univ.sup s := rfl

theorem Good.max (h : Good s k) : IsReal (rowMax s k) := by
  have htop : scoreMax s ≠ ⊤ := by
    rw [scoreMax_eq_sup]
    intro hc
    obtain ⟨j, -, hj⟩ := Finset.exists_mem_eq_sup Finset.univ ⟨0, Finset.mem_univ _⟩ s
    rw [hj] at hc
    rcases h.score j with hb | hr
    · rw [hb] at hc; exact absurd hc (by decide)
    · exact hr.ne_top hc
  refine IsReal.of_ne ?_ ?_
  · unfold rowMax
    rcases max_choice (scoreMax s) k with hm | hm <;> rw [hm]
    exacts [htop, h.sink.ne_top]
  · intro hc
    have : k ≤ rowMax s k := le_max_right _ _
    rw [hc, le_bot_iff] at this
    exact h.sink.ne_bot this

theorem rowExp_masked {j : Fin 256} (h : Good s k) (hj : s j = ⊥) : rowExp s k j = 0 := by
  obtain ⟨m, hm⟩ := h.max
  rw [rowExp, hj, hm, EReal.bot_sub]
  rfl

/-- The exponentials as real numbers: non-negative along the row, positive at the sink, and their sum. -/
theorem Good.lift (h : Good s k) : ∃ (p : Fin 256 → ℝ) (e : ℝ), 0 < (∑ j, p j) + e ∧ (∀ j, rowExp s k j = p j)
    ∧ sinkExp s k = e ∧ rowSum s k = ((∑ j, p j) + e : ℝ) := by
  obtain ⟨m, hm⟩ := h.max
  obtain ⟨a, ha⟩ := h.sink
  have hp : ∀ j, ∃ r : ℝ, 0 ≤ r ∧ rowExp s k j = r := fun j => by
    rcases h.score j with hb | ⟨r, hr⟩
    · exact ⟨0, le_rfl, rowExp_masked h hb⟩
    · exact ⟨Real.exp (r - m), (Real.exp_pos _).le, by rw [rowExp, hr, hm, ← EReal.coe_sub]; rfl⟩
  choose p hp0 hp using hp
  refine ⟨p, Real.exp (a - m), ?_, hp, ?_, ?_⟩
  · exact add_pos_of_nonneg_of_pos (Finset.sum_nonneg fun j _ => hp0 j) (Real.exp_pos _)
  · rw [sinkExp, ha, ← ha, hm, ha, ← EReal.coe_sub]; rfl
  · rw [rowSum, EReal.coe_add, coe_sum]
    congr 1
    · exact Finset.sum_congr rfl fun j _ => hp j
    · rw [sinkExp, hm, ha, ← EReal.coe_sub]; rfl

theorem rProbs_eq (h : Good s k) (j : Fin 256) : rProbs s k j = kProbs s k j := by
  obtain ⟨p, e, hL, hp, he, hs⟩ := h.lift
  rw [rProbs, kProbs, kInv, hs, Ideal.div_coe hL.ne', Ideal.div_coe hL.ne', one_mul]

theorem kProbs_masked {j : Fin 256} (h : Good s k) (hj : s j = ⊥) : kProbs s k j = 0 := by
  rw [kProbs, rowExp_masked h hj, zero_mul]

theorem kDs_masked {j : Fin 256} (h : Good s k) (hj : s j = ⊥) : kDs s k dp c j = 0 := by
  rw [kDs, kProbs_masked h hj, zero_mul, zero_mul]

/-- The gradient reads the products of the output's gradient with the values only where the scores are not masked. -/
theorem kDelta_congr {dp' : Fin 256 → EReal} (h : Good s k) (hd : ∀ j, s j ≠ ⊥ → dp j = dp' j) :
    kDelta s k dp = kDelta s k dp' := by
  refine Finset.sum_congr rfl fun j _ => ?_
  by_cases hj : s j = ⊥
  · rw [kProbs_masked h hj, zero_mul, zero_mul]
  · rw [hd j hj]

theorem kDs_congr {dp' : Fin 256 → EReal} (h : Good s k) (hd : ∀ j, s j ≠ ⊥ → dp j = dp' j) (j : Fin 256) :
    kDs s k dp c j = kDs s k dp' c j := by
  by_cases hj : s j = ⊥
  · rw [kDs_masked h hj, kDs_masked h hj]
  · rw [kDs, kDs, kDelta_congr h hd, hd j hj]

/-- Every quantity of the gradient, on real numbers. -/
theorem Good.grads (h : Good s k) (hdp : ∀ j, IsReal (dp j)) :
    ∃ (p d : Fin 256 → ℝ) (e : ℝ), 0 < (∑ j, p j) + e ∧ (∀ j, dp j = d j) ∧ (∀ j, kProbs s k j = (p j / ((∑ j, p j) + e) : ℝ))
      ∧ kDelta s k dp = ((∑ j, p j * d j) / ((∑ j, p j) + e) : ℝ)
      ∧ kInv s k = (1 / ((∑ j, p j) + e) : ℝ) ∧ sinkExp s k = e
      ∧ rNeg s k dp = (-((∑ j, p j * d j) / ((∑ j, p j) + e) ^ 2) : ℝ)
      ∧ (∀ j, rDs s k dp j = ((d j / ((∑ j, p j) + e) - (∑ j, p j * d j) / ((∑ j, p j) + e) ^ 2) * p j : ℝ)) := by
  obtain ⟨p, e, hL, hp, he, hs⟩ := h.lift
  choose d hd using hdp
  have hinv : kInv s k = (1 / ((∑ j, p j) + e) : ℝ) := by
    rw [kInv, hs, Ideal.div_coe hL.ne', one_mul]
  have hpr : ∀ j, kProbs s k j = (p j / ((∑ j, p j) + e) : ℝ) := fun j => by
    rw [kProbs, hinv, hp, ← EReal.coe_mul, mul_one_div]
  have hneg : rNeg s k dp = (-((∑ j, p j * d j) / ((∑ j, p j) + e) ^ 2) : ℝ) := by
    have hLL : ((∑ j, p j) + e) * ((∑ j, p j) + e) ≠ 0 := mul_ne_zero hL.ne' hL.ne'
    rw [rNeg, EReal.coe_neg, Finset.sum_div, coe_sum]
    congr 1
    refine Finset.sum_congr rfl fun j _ => ?_
    rw [hs, ← EReal.coe_mul, Ideal.div_coe hLL, one_mul, hd, hp, ← EReal.coe_mul, ← EReal.coe_mul]
    congr 1
    ring
  refine ⟨p, d, e, hL, hd, hpr, ?_, hinv, he, hneg, fun j => ?_⟩
  · rw [kDelta, Finset.sum_div, coe_sum]
    refine Finset.sum_congr rfl fun j _ => ?_
    rw [hpr, hd, ← EReal.coe_mul]
    congr 1
    ring
  · rw [rDs, hneg, hs, Ideal.div_coe hL.ne', hd, hp, ← EReal.coe_mul, ← EReal.coe_add, ← EReal.coe_mul]
    congr 1
    ring

/-- The chain rule's gradient of a score is the kernel's. -/
theorem rDs_eq (h : Good s k) (hdp : ∀ j, IsReal (dp j)) (j : Fin 256) : rDs s k dp j * c = kDs s k dp c j := by
  obtain ⟨p, d, e, hL, hd, hpr, hdel, -, -, -, hr⟩ := h.grads hdp
  rw [kDs, hr, hpr, hdel, hd, ← EReal.coe_sub, ← EReal.coe_mul]
  generalize (∑ j, p j) + e = L at *
  congr 2
  ring

/-- The chain rule's gradient of the sink is the kernel's, before the sums over the rows. -/
theorem rSink_eq (h : Good s k) (hdp : ∀ j, IsReal (dp j)) : rSink s k dp = -kSink s k dp := by
  obtain ⟨p, d, e, hL, hd, hpr, hdel, hinv, he, hneg, hr⟩ := h.grads hdp
  rw [rSink, kSink, hneg, he, hinv, hdel, ← EReal.coe_mul, ← EReal.coe_mul, ← EReal.coe_mul, ← EReal.coe_neg]
  generalize (∑ j, p j) + e = L at *
  congr 1
  ring

/-- No gradient goes through the greatest score. -/
theorem rMax_eq (h : Good s k) (hdp : ∀ j, IsReal (dp j)) : rMax s k dp = 0 := by
  obtain ⟨p, d, e, hL, hd, hpr, hdel, hinv, he, hneg, hr⟩ := h.grads hdp
  have : rMax s k dp = ((-(-((∑ j, p j * d j) / ((∑ j, p j) + e) ^ 2) * e)
      + ∑ j, -((d j / ((∑ j, p j) + e) - (∑ j, p j * d j) / ((∑ j, p j) + e) ^ 2) * p j) : ℝ) : EReal) := by
    rw [rMax, rSink, hneg, he, EReal.coe_add, ← EReal.coe_mul, ← EReal.coe_neg, coe_sum]
    congr 1
    exact Finset.sum_congr rfl fun j _ => by rw [hr, EReal.coe_neg]
  rw [this, ← EReal.coe_zero]
  congr 1
  have h1 : ∀ L D : ℝ, ∑ j, -((d j / L - D / L ^ 2) * p j) = -((∑ j, p j * d j) / L) + D / L ^ 2 * ∑ j, p j := fun L D => by
    rw [Finset.sum_div, ← Finset.sum_neg_distrib, Finset.mul_sum, ← Finset.sum_add_distrib]
    exact Finset.sum_congr rfl fun j _ => by ring
  rw [h1]
  have hL' := hL.ne'
  generalize (∑ j, p j * d j) = D at *
  generalize (∑ j, p j) = P at *
  field_simp
  ring

/-- Some score is the greatest one, so the count of those is not zero. -/
theorem rCount_ne_zero : rCount s ≠ 0 := by
  obtain ⟨j, -, hj⟩ := Finset.exists_mem_eq_sup Finset.univ ⟨0, Finset.mem_univ _⟩ s
  have h0 : ∀ i ∈ Finset.univ, (0 : EReal) ≤ (if s i = scoreMax s then 1 else 0 : EReal) := fun i _ => by
    split <;> norm_num
  have h1 := Finset.single_le_sum h0 (Finset.mem_univ j)
  rw [if_pos (by rw [scoreMax_eq_sup, hj])] at h1
  intro hc
  rw [rCount] at hc
  rw [hc] at h1
  exact absurd h1 (by norm_num)

theorem div_rCount : Ideal.div 0 (rCount s) = 0 := by
  rw [Ideal.div, if_neg rCount_ne_zero, zero_mul]

end Row

end Attn
-- ==== Proof.Entries.lean ====
/- The entries of what one grid point computes: the rotation within a head of 64 lanes, and the group's products as
   sums. `Spec` is the gradient of one block over plain functions of head, row and lane. -/
module

public import Idealize.ShloMosaic.Lib.Pointwise
public import proofs.«01_k».proof.Proof.Block
public import proofs.«01_k».proof.Proof.Row

@[expose] public section

set_option maxRecDepth 16384

noncomputable section

namespace Attn

open Cert.KernelIdeal Cert.KernelIdeal.Gen Idealize.ShloMosaic

/-! ## The rotation of one head -/

/-- A lane within its half. -/
def low (d : Fin 64) : Fin 32 := ⟨d.val % 32, by omega⟩
/-- The lane of the other half. -/
def other (d : Fin 64) : Fin 64 := ⟨(d.val + 32) % 64, by omega⟩

/-- The halves of a head exchanged, the new first half negated. -/
def swapS (x : Fin 64 → EReal) (d : Fin 64) : EReal := if d.val < 32 then 0 - x (other d) else x (other d)
def rot (c s : Fin 32 → EReal) (x : Fin 64 → EReal) (d : Fin 64) : EReal := x d * c (low d) + swapS x d * s (low d)
def unrot (c s : Fin 32 → EReal) (x : Fin 64 → EReal) (d : Fin 64) : EReal := x d * c (low d) - swapS x d * s (low d)

/-! ## One block of attention and its gradient -/

/-- The sixteen rotated query heads, the four rotated key heads and value heads over the window, the output's
    gradient, the sinks, and which rows see which columns. -/
structure Blk where
  qh : Fin 16 → Fin 128 → Fin 64 → EReal
  kw : Fin 4 → Fin 256 → Fin 64 → EReal
  vw : Fin 4 → Fin 256 → Fin 64 → EReal
  go : Fin 16 → Fin 128 → Fin 64 → EReal
  sk : Fin 16 → EReal
  ok : Fin 128 → Fin 256 → Prop

/-- The scale of the scores. -/
def scale : EReal := Ideal.ofBits .f32 0x3E000000#32

namespace Blk

open Classical in
def score (B : Blk) (h : Fin 16) (r : Fin 128) (j : Fin 256) : EReal :=
  if B.ok r j then (∑ d, B.qh h r d * B.kw (grp h) j d) * scale else ⊥
def dp (B : Blk) (h : Fin 16) (r : Fin 128) (j : Fin 256) : EReal := ∑ d, B.go h r d * B.vw (grp h) j d
def ds (B : Blk) (h : Fin 16) (r : Fin 128) (j : Fin 256) : EReal := kDs (B.score h r) (B.sk h) (B.dp h r) scale j
def dq (B : Blk) (h : Fin 16) (r : Fin 128) (d : Fin 64) : EReal := ∑ j, B.ds h r j * B.kw (grp h) j d
def dk (B : Blk) (g : Fin 4) (j : Fin 256) (d : Fin 64) : EReal := ∑ a : Fin 4, ∑ r, B.ds (hd g a) r j * B.qh (hd g a) r d
def dv (B : Blk) (g : Fin 4) (j : Fin 256) (d : Fin 64) : EReal :=
  ∑ a : Fin 4, ∑ r, kProbs (B.score (hd g a) r) (B.sk (hd g a)) j * B.go (hd g a) r d
def dsink (B : Blk) (h : Fin 16) : EReal := 0 - ∑ r, kSink (B.score h r) (B.sk h) (B.dp h r)

end Blk

/-! ## Loads, halves and lanes -/

/-- Lane `d` of head `b` of a pair. -/
def lane (b : Fin 2) (d : Fin 64) : Fin 128 := ⟨64 * b.val + d.val, by omega⟩
/-- Row `r` of head `a` of a group. -/
def row4 (a : Fin 4) (r : Fin 128) : Fin 512 := ⟨128 * a.val + r.val, by omega⟩
/-- Row `r` of half `i` of a window. -/
def row2 (i : Fin 2) (r : Fin 128) : Fin 256 := ⟨128 * i.val + r.val, by omega⟩

theorem laneLow_apply (r l : Fin 128) : laneLow (ix2 r l) = if l.val % 64 < 32 then 1#1 else 0#1 := by
  pointwise [laneLow, laneOf]
  revert l
  decide +kernel

theorem swap_apply (x : FVec Ideal S128x128 .f32) (r : Fin 128) (b : Fin 2) (d : Fin 64) :
    swap x (ix2 r (lane b d)) = swapS (fun d => x (ix2 r (lane b d))) d := by
  pointwise [swap, laneLow_apply]
  unfold swapS
  have h1 : (lane b d).val % 64 = d.val := by show (64 * b.val + d.val) % 64 = d.val; omega
  rw [h1]
  by_cases h : d.val < 32
  · rw [if_pos h, if_pos h]
    show 0 - x _ = 0 - x _
    congr 3
    exact Fin.ext (by show (64 * b.val + d.val + 128 - 96) % 128 = 64 * b.val + (d.val + 32) % 64; omega)
  · rw [if_neg h, if_neg h]
    show x _ = x _
    congr 2
    exact Fin.ext (by show (64 * b.val + d.val + 128 - 32) % 128 = 64 * b.val + (d.val + 32) % 64; omega)

theorem ldQ_apply (x : Vec Ideal S128x1024 .f32) (j : Fin 8) (r l : Fin 128) : ldQ x j (ix2 r l) = x (ix2 r ⟨128 * j.val + l.val, by omega⟩) := by
  pointwise [ldQ]

theorem ldK_apply (x : Vec Ideal S128x256 .f32) (j : Fin 2) (r l : Fin 128) : ldK x j (ix2 r l) = x (ix2 r ⟨128 * j.val + l.val, by omega⟩) := by
  pointwise [ldK]

theorem ldV_apply (x : Vec Ideal S128x256 .f32) (g : Fin 4) (r : Fin 128) (d : Fin 64) : ldV x g (ix2 r d) = x (ix2 r ⟨64 * g.val + d.val, by omega⟩) := by
  pointwise [ldV]

theorem ldO_apply (x : Vec Ideal S128x1024 .f32) (h : Fin 16) (r : Fin 128) (d : Fin 64) : ldO x h (ix2 r d) = x (ix2 r ⟨64 * h.val + d.val, by omega⟩) := by
  pointwise [ldO]

theorem ldS_apply (x : Vec Ideal S1x128 .f32) (h : Fin 16) : ldS x h (ix2 0 0) = x (ix2 0 ⟨h.val, by omega⟩) := by
  pointwise [ldS]

theorem half_apply (x : FVec Ideal S128x128 .f32) (b : Fin 2) (r : Fin 128) (d : Fin 64) : half x b (ix2 r d) = x (ix2 r (lane b d)) := by
  pointwise [half]
  rfl

theorem tab_eq (x : Vec Ideal S128x128 .f32) : tab x = x := by
  funext i
  rw [eq_ix2 i]
  pointwise [tab]

/-- A table that repeats after 32 lanes, by lane within the half. -/
def tabRow (x : Vec Ideal S128x128 .f32) (r : Fin 128) (e : Fin 32) : EReal := x (ix2 r ⟨e.val, by omega⟩)

/-- The tables repeat after 32 lanes. -/
structure Periodic (x : Vec Ideal S128x128 .f32) : Prop where
  eq : ∀ (r : Fin 128) (b : Fin 2) (d : Fin 64), x (ix2 r (lane b d)) = tabRow x r (low d)

theorem rope_apply {c s : Vec Ideal S128x128 .f32} (hc : Periodic c) (hs : Periodic s) (x : FVec Ideal S128x128 .f32) (r : Fin 128) (b : Fin 2) (d : Fin 64) :
    rope (tab c) (tab s) x (ix2 r (lane b d)) = rot (tabRow c r) (tabRow s r) (fun d => x (ix2 r (lane b d))) d := by
  pointwise [rope, swap_apply, tab_eq]
  rw [hc.eq, hs.eq]
  rfl

theorem unrope_apply {c s : Vec Ideal S128x128 .f32} (hc : Periodic c) (hs : Periodic s) (x : FVec Ideal S128x128 .f32) (r : Fin 128) (b : Fin 2) (d : Fin 64) :
    unrope c s x (ix2 r (lane b d)) = unrot (tabRow c r) (tabRow s r) (fun d => x (ix2 r (lane b d))) d := by
  pointwise [unrope, swap_apply]
  rw [hc.eq, hs.eq]
  rfl

/-! ## The block of a grid point -/

variable (I : Ins Ideal) (mask : IVec S512x256 1)

structure Tables : Prop where
  cq : Periodic I.cq
  sq : Periodic I.sq
  cp : Periodic I.cp
  sp : Periodic I.sp

/-- The block that the inputs of a grid point describe. -/
def blk : Blk where
  qh h r := rot (tabRow I.cq r) (tabRow I.sq r) fun d => I.q (ix2 r ⟨64 * h.val + d.val, by omega⟩)
  kw g j := if hj : j.val < 128
    then rot (tabRow I.cp ⟨j.val, hj⟩) (tabRow I.sp ⟨j.val, hj⟩) fun d => I.kp (ix2 ⟨j.val, hj⟩ ⟨64 * g.val + d.val, by omega⟩)
    else rot (tabRow I.cq ⟨j.val - 128, by omega⟩) (tabRow I.sq ⟨j.val - 128, by omega⟩) fun d => I.kc (ix2 ⟨j.val - 128, by omega⟩ ⟨64 * g.val + d.val, by omega⟩)
  vw g j d := if hj : j.val < 128
    then I.vp (ix2 ⟨j.val, hj⟩ ⟨64 * g.val + d.val, by omega⟩)
    else I.vc (ix2 ⟨j.val - 128, by omega⟩ ⟨64 * g.val + d.val, by omega⟩)
  go h r d := I.gout (ix2 r ⟨64 * h.val + d.val, by omega⟩)
  sk h := I.sink (ix2 0 ⟨h.val, by omega⟩)
  ok r j := mask (ix2 (row4 0 r) j) = 1#1

/-- The mask is the same for the four heads of a group. -/
structure Masked : Prop where
  eq : ∀ a r j, mask (ix2 (row4 a r) j) = mask (ix2 (row4 0 r) j)

variable {I mask}

theorem qh_eq (h : Fin 16) (r : Fin 128) : (blk I mask).qh h r
    = rot (tabRow I.cq r) (tabRow I.sq r) fun d => I.q (ix2 r ⟨64 * h.val + d.val, by omega⟩) := rfl

theorem kw_low {g : Fin 4} {j : Fin 256} (hj : j.val < 128) : (blk I mask).kw g j
    = rot (tabRow I.cp ⟨j.val, hj⟩) (tabRow I.sp ⟨j.val, hj⟩) fun d => I.kp (ix2 ⟨j.val, hj⟩ ⟨64 * g.val + d.val, by omega⟩) := dif_pos hj

theorem kw_high {g : Fin 4} {j : Fin 256} (hj : ¬j.val < 128) : (blk I mask).kw g j
    = rot (tabRow I.cq ⟨j.val - 128, by omega⟩) (tabRow I.sq ⟨j.val - 128, by omega⟩)
        fun d => I.kc (ix2 ⟨j.val - 128, by omega⟩ ⟨64 * g.val + d.val, by omega⟩) := dif_neg hj

theorem qHead_apply (T : Tables I) (h : Fin 16) (r : Fin 128) (d : Fin 64) : qHead I h (ix2 r d) = (blk I mask).qh h r d := by
  pointwise [qHead, half_apply]
  rw [rope_apply T.cq T.sq, qh_eq]
  refine congrArg (fun x : Fin 64 → EReal => rot _ _ x d) (funext fun e => ?_)
  rw [ldQ_apply]
  congr 2
  exact Fin.ext (by show 128 * (h.val / 2) + (64 * (h.val % 2) + e.val) = 64 * h.val + e.val; omega)

theorem kk_apply (T : Tables I) (g : Fin 4) (j : Fin 256) (d : Fin 64) : kk I g (ix2 j d) = (blk I mask).kw g j d := by
  have lanes (e : Fin 64) : 128 * (ghi g).val + (lane (glo g) e).val = 64 * g.val + e.val := by
    show 128 * (g.val / 2) + (64 * (g.val % 2) + e.val) = 64 * g.val + e.val; omega
  pointwise [kk, half_apply]
  by_cases hj : j.val < 128
  · rw [dif_pos hj, rope_apply T.cp T.sp, kw_low hj]
    refine congrArg (fun x : Fin 64 → EReal => rot _ _ x d) (funext fun e => ?_)
    rw [ldK_apply]
    congr 2
    exact Fin.ext (lanes e)
  · rw [dif_neg hj, rope_apply T.cq T.sq, kw_high hj]
    refine congrArg (fun x : Fin 64 → EReal => rot _ _ x d) (funext fun e => ?_)
    rw [ldK_apply]
    congr 2
    exact Fin.ext (lanes e)

theorem vv_apply (g : Fin 4) (j : Fin 256) (d : Fin 64) : vv I g (ix2 j d) = (blk I mask).vw g j d := by
  pointwise [vv, ldV_apply]
  rfl

/-- Four heads stacked, at row `r` of head `a`. -/
theorem stack4 {α : Type} (f : Fin 4 → Fin 128 → α) (a : Fin 4) (r : Fin 128) :
    (if h : (row4 a r).val < 128 then f 0 ⟨(row4 a r).val, h⟩
      else if h : (row4 a r).val - 128 < 128 then f 1 ⟨(row4 a r).val - 128, h⟩
      else if h : (row4 a r).val - 128 - 128 < 128 then f 2 ⟨(row4 a r).val - 128 - 128, h⟩
      else f 3 ⟨(row4 a r).val - 128 - 128 - 128, by omega⟩) = f a r := by
  have hr : (row4 a r).val = 128 * a.val + r.val := rfl
  match a with
  | 0 => rw [dif_pos (by omega)]; exact congrArg (f 0) (Fin.ext (by simp [hr]))
  | 1 => rw [dif_neg (by omega), dif_pos (by omega)]; exact congrArg (f 1) (Fin.ext (by simp [hr]))
  | 2 => rw [dif_neg (by omega), dif_neg (by omega), dif_pos (by omega)]; exact congrArg (f 2) (Fin.ext (by simp [hr]; omega))
  | 3 => rw [dif_neg (by omega), dif_neg (by omega), dif_neg (by omega)]; exact congrArg (f 3) (Fin.ext (by simp [hr]; omega))

theorem qa_apply (T : Tables I) (g a : Fin 4) (r : Fin 128) (d : Fin 64) : qa I g (ix2 (row4 a r) d) = (blk I mask).qh (hd g a) r d := by
  rw [← qHead_apply T]
  pointwise [qa]
  exact stack4 (fun a r => qHead I (hd g a) (ix2 r d)) a r

theorem da_apply (g a : Fin 4) (r : Fin 128) (d : Fin 64) : da I g (ix2 (row4 a r) d) = (blk I mask).go (hd g a) r d := by
  pointwise [da, ldO_apply]
  exact stack4 (fun a r => I.gout (ix2 r ⟨64 * (hd g a).val + d.val, by omega⟩)) a r

theorem sa_apply (g a : Fin 4) (r : Fin 128) : sa I g (ix2 (row4 a r) 0) = (blk I mask).sk (hd g a) := by
  pointwise [sa, sinkCol, ldS_apply]
  exact stack4 (fun a r => I.sink (ix2 0 ⟨(hd g a).val, by omega⟩)) a r

/-! ## A group -/

theorem grp_hd (g a : Fin 4) : grp (hd g a) = g := Fin.ext (by show (4 * g.val + a.val) / 4 = g.val; omega)
theorem pos_hd (g a : Fin 4) : pos (hd g a) = a := Fin.ext (by show (4 * g.val + a.val) % 4 = a.val; omega)
theorem hd_grp_pos (h : Fin 16) : hd (grp h) (pos h) = h := Fin.ext (by show 4 * (h.val / 4) + h.val % 4 = h.val; omega)

/-- A sum over the rows of a group, by head and row. -/
theorem sum_row4 (f : Fin 512 → EReal) : ∑ R, f R = ∑ a, ∑ r, f (row4 a r) := by
  rw [← Fintype.sum_prod_type', ← (finProdFinEquiv (m := 4) (n := 128)).sum_comp]
  exact Finset.sum_congr rfl fun x _ => congrArg f (Fin.ext (by show x.2.val + 128 * x.1.val = 128 * x.1.val + x.2.val; omega))

section Group

variable (T : Tables I) (M : Masked mask) (g a : Fin 4) (r : Fin 128) (j : Fin 256)

theorem bit_zero : ∀ {b : BitVec 1}, b ≠ 1#1 → b = 0#1 := by decide

theorem ofBits_bot : Ideal.ofBits .f32 0xFF800000#32 = ⊥ := by
  simp [Ideal.ofBits, Ideal.ieee]

theorem named_mask : Named.named (F := Ideal) κ "mask" (φ := .f32) 0xF149F2CA#32 = ⊥ :=
  IdealRules.named_const.ideal_named_scalar _ _ _ _ rfl

include T M

theorem scores_apply : scores I mask g (ix2 (row4 a r) j) = (blk I mask).score (hd g a) r j := by
  pointwise [scores]
  rw [M.eq]
  simp only [qa_apply (mask := mask) T, kk_apply (mask := mask) T]
  rw [named_mask]
  unfold Blk.score
  rw [grp_hd]
  by_cases h : mask (ix2 (row4 0 r) j) = 1#1
  · rw [if_pos (show (blk I mask).ok r j from h), h]
    rfl
  · rw [if_neg (show ¬(blk I mask).ok r j from h), bit_zero h]
    rfl

theorem mx_apply : mx I mask g (ix2 (row4 a r) 0) = rowMax ((blk I mask).score (hd g a) r) ((blk I mask).sk (hd g a)) := by
  pointwise [mx, col, scores_apply T M, sa_apply (mask := mask)]
  rw [ofBits_bot]
  rfl

theorem ex_apply : ex I mask g (ix2 (row4 a r) j) = rowExp ((blk I mask).score (hd g a) r) ((blk I mask).sk (hd g a)) j := by
  pointwise [ex, wide, scores_apply T M, mx_apply T M]
  rfl

theorem es_apply : es I mask g (ix2 (row4 a r) 0) = sinkExp ((blk I mask).score (hd g a) r) ((blk I mask).sk (hd g a)) := by
  pointwise [es, mx_apply T M, sa_apply (mask := mask)]
  rfl

theorem inv_apply : inv I mask g (ix2 (row4 a r) 0) = kInv ((blk I mask).score (hd g a) r) ((blk I mask).sk (hd g a)) := by
  pointwise [inv, col, ex_apply T M, es_apply T M]
  rfl

theorem probs_apply : probs I mask g (ix2 (row4 a r) j) = kProbs ((blk I mask).score (hd g a) r) ((blk I mask).sk (hd g a)) j := by
  pointwise [probs, wide, ex_apply T M, inv_apply T M]
  rfl

omit T M in
theorem dP_apply : dP I g (ix2 (row4 a r) j) = (blk I mask).dp (hd g a) r j := by
  pointwise [dP]
  simp only [da_apply (mask := mask), vv_apply (mask := mask)]
  unfold Blk.dp
  rw [grp_hd]

theorem delta_apply : delta I mask g (ix2 (row4 a r) 0)
    = kDelta ((blk I mask).score (hd g a) r) ((blk I mask).sk (hd g a)) ((blk I mask).dp (hd g a) r) := by
  pointwise [delta, col, probs_apply T M, dP_apply (mask := mask)]
  rfl

theorem dS_apply : dS I mask g (ix2 (row4 a r) j) = (blk I mask).ds (hd g a) r j := by
  pointwise [dS, wide, probs_apply T M, dP_apply (mask := mask), delta_apply T M]
  rfl

theorem dQ_apply (d : Fin 64) : dQ I mask g (ix2 (row4 a r) d) = (blk I mask).dq (hd g a) r d := by
  pointwise [dQ, dS_apply T M, kk_apply (mask := mask) T]
  unfold Blk.dq
  rw [grp_hd]

theorem dK_apply (d : Fin 64) : dK I mask g (ix2 j d) = (blk I mask).dk g j d := by
  pointwise [dK]
  rw [sum_row4]
  simp only [dS_apply T M, qa_apply (mask := mask) T]
  rfl

theorem dV_apply (d : Fin 64) : dV I mask g (ix2 j d) = (blk I mask).dv g j d := by
  pointwise [dV]
  rw [sum_row4]
  simp only [probs_apply T M, da_apply (mask := mask)]
  rfl

theorem sinkTerm_apply : sinkTerm I mask g (ix2 (row4 a r) 0)
    = kSink ((blk I mask).score (hd g a) r) ((blk I mask).sk (hd g a)) ((blk I mask).dp (hd g a) r) := by
  pointwise [sinkTerm, pSink, es_apply T M, inv_apply T M, delta_apply T M]
  rfl

end Group

/-! ## What is stored -/

theorem dqHead_apply (T : Tables I) (M : Masked mask) (h : Fin 16) (r : Fin 128) (d : Fin 64) :
    dqHead I mask h (ix2 r d) = (blk I mask).dq h r d := by
  have e := dQ_apply T M (grp h) (pos h) r d
  rw [hd_grp_pos] at e
  rw [← e]
  pointwise [dqHead]
  rfl

/-- Two heads side by side, at lane `d` of head `b`. -/
theorem stack2 {α : Type} (f : Fin 2 → Fin 64 → α) (b : Fin 2) (d : Fin 64) :
    (if h : (lane b d).val < 64 then f 0 ⟨(lane b d).val, h⟩ else f 1 ⟨(lane b d).val - 64, by omega⟩) = f b d := by
  have hr : (lane b d).val = 64 * b.val + d.val := rfl
  match b with
  | 0 => rw [dif_pos (by omega)]; exact congrArg (f 0) (Fin.ext (by simp [hr]))
  | 1 => rw [dif_neg (by omega)]; exact congrArg (f 1) (Fin.ext (by simp [hr]))

theorem dqTile_apply (T : Tables I) (M : Masked mask) (j : Fin 8) (r : Fin 128) (b : Fin 2) (d : Fin 64) :
    dqTile I mask j (ix2 r (lane b d)) = unrot (tabRow I.cq r) (tabRow I.sq r) ((blk I mask).dq (pr8 j b) r) d := by
  unfold dqTile
  rw [tab_eq, tab_eq, unrope_apply T.cq T.sq]
  refine congrArg (fun x : Fin 64 → EReal => unrot _ _ x d) (funext fun e => ?_)
  pointwise [dqHead_apply T M]
  exact stack2 (fun b e => (blk I mask).dq (pr8 j b) r e) b e

theorem dvTile_apply (T : Tables I) (M : Masked mask) (i j : Fin 2) (r : Fin 128) (b : Fin 2) (d : Fin 64) :
    dvTile I mask i j (ix3 0 r (lane b d)) = (blk I mask).dv (pr2 j b) (row2 i r) d := by
  pointwise [dvTile, dV_apply T M]
  exact stack2 (fun b e => (blk I mask).dv (pr2 j b) (row2 i r) e) b d

/-- The tables of the two halves of the window. -/
def winC (I : Ins Ideal) (i : Fin 2) : Vec Ideal S128x128 .f32 := match i with | 0 => I.cp | 1 => I.cq
def winS (I : Ins Ideal) (i : Fin 2) : Vec Ideal S128x128 .f32 := match i with | 0 => I.sp | 1 => I.sq

theorem dkTile_apply (T : Tables I) (M : Masked mask) (i j : Fin 2) (r : Fin 128) (b : Fin 2) (d : Fin 64) :
    dkTile I mask i j (ix3 0 r (lane b d))
      = unrot (tabRow (winC I i) r) (tabRow (winS I i) r) ((blk I mask).dk (pr2 j b) (row2 i r)) d := by
  have hc : tc I i = winC I i := by match i with | 0 => exact tab_eq _ | 1 => exact tab_eq _
  have hs : ts I i = winS I i := by match i with | 0 => exact tab_eq _ | 1 => exact tab_eq _
  have pc : Periodic (winC I i) := by match i with | 0 => exact T.cp | 1 => exact T.cq
  have ps : Periodic (winS I i) := by match i with | 0 => exact T.sp | 1 => exact T.sq
  have e : dkTile I mask i j (ix3 0 r (lane b d)) = unrope (tc I i) (ts I i) (extractStridedSlice S128x128 ![128 * i.val, 0]
      (concatenate S256x128 1 [⟨S256x64, dK I mask (pr2 j 0)⟩, ⟨S256x64, dK I mask (pr2 j 1)⟩] concatenates_S256x64_S256x64_S256x128_d1)
      (slices_win i)) (ix2 r (lane b d)) := by
    unfold dkTile
    generalize unrope (tc I i) (ts I i) _ = w
    pointwise []
  rw [e, hc, hs, unrope_apply pc ps]
  refine congrArg (fun x : Fin 64 → EReal => unrot _ _ x d) (funext fun e => ?_)
  pointwise [dK_apply T M]
  exact stack2 (fun b e => (blk I mask).dk (pr2 j b) (row2 i r) e) b e

theorem lane_eq : ∀ (l : Fin 128) (h : Fin 16),
    IntOp.cmpi .eq (BitVec.ofNat 32 l.val) (BitVec.ofNat 32 h.val) = if l.val = h.val then 1#1 else 0#1 := by decide +kernel

theorem dsTerm_apply (T : Tables I) (M : Masked mask) (h : Fin 16) (l : Fin 128) :
    dsTerm I mask h (ix2 0 l) = if l.val = h.val then (blk I mask).dsink h else 0 := by
  have e : ∑ x : Fin 128, sinkTerm I mask (grp h) (ix2 (row4 (pos h) x) 0)
      = ∑ x, kSink ((blk I mask).score h x) ((blk I mask).sk h) ((blk I mask).dp h x) :=
    Finset.sum_congr rfl fun x _ => by rw [sinkTerm_apply T M, hd_grp_pos]
  pointwise [dsTerm]
  rw [show (∑ x : Fin 128, sinkTerm I mask (grp h) (ix2 ⟨128 * (pos h).val + x.val, _⟩ 0)) = _ from e]
  rw [lane_eq]
  by_cases hl : l.val = h.val
  · rw [if_pos hl, if_pos hl]; rfl
  · rw [if_neg hl, if_neg hl]; rfl

theorem dsAcc_apply (T : Tables I) (M : Masked mask) (l : Fin 128) (n : ℕ) (hn : n ≤ 16) :
    dsAcc I mask n (ix2 0 l) = if h : l.val < n then (blk I mask).dsink ⟨l.val, by omega⟩ else 0 := by
  induction n with
  | zero =>
    pointwise [dsAcc]
    rw [dif_neg (Nat.not_lt_zero _)]
  | succ n ih =>
    have hm : n % 16 = n := Nat.mod_eq_of_lt (by omega)
    pointwise [dsAcc, dsTerm_apply T M]
    rw [ih (by omega)]
    by_cases hl : l.val = n
    · have e : (⟨n % 16, Nat.mod_lt _ (by decide)⟩ : Fin 16) = ⟨l.val, by omega⟩ := Fin.ext (by show n % 16 = l.val; omega)
      rw [dif_neg (by omega), if_pos (by show l.val = n % 16; omega), dif_pos (by omega), zero_add]
      exact congrArg _ e
    · rw [if_neg (by show ¬l.val = n % 16; omega), add_zero]
      by_cases h : l.val < n
      · rw [dif_pos h, dif_pos (by omega)]
      · rw [dif_neg h, dif_neg (by omega)]

end Attn
-- ==== Proof.Mask.lean ====
/- Which rows of a block see which columns of its window, as the kernel's mask and the reference's mask say it. -/
module

public import Idealize.ShloMosaic.Lib.Pointwise
public import Idealize.ShloMosaic.Lib.Affine
public import proofs.«01_k».proof.Proof.Gen.ReferenceIdeal.Read
public import proofs.«01_k».proof.Proof.Pieces
public import proofs.«01_k».proof.Proof.Entries

@[expose] public section

set_option maxRecDepth 16384

noncomputable section

namespace Attn

open Idealize.ShloMosaic

/-- Row `r` of block `n` sees column `j` of the window: not ahead of the row, within 128 rows, not before the first row
    of all. -/
def sees (n : Fin 16) (r : Fin 128) (j : Fin 256) : Prop := j.val ≤ r.val + 128 ∧ r.val < j.val ∧ 128 ≤ n.val * 128 + j.val

theorem andi_one {a b : BitVec 1} : IntOp.andi a b = 1#1 ↔ a = 1#1 ∧ b = 1#1 := by
  revert a b; decide
theorem ori_one {a b : BitVec 1} : IntOp.ori a b = 1#1 ↔ a = 1#1 ∨ b = 1#1 := by
  revert a b; decide

/-! Sums and differences of small words, as integers. -/

theorem toInt_small {k : ℕ} (h : k < 2048) : (BitVec.ofNat 32 k).toInt = (k : ℤ) := by
  have e : (BitVec.ofNat 32 k).toNat = k := by rw [BitVec.toNat_ofNat]; exact Nat.mod_eq_of_lt (by omega)
  rw [BitVec.toInt_eq_toNat_of_lt (by rw [e]; omega), e]
theorem toInt_add {x y : BitVec 32} {a b : ℤ} (hx : x.toInt = a) (hy : y.toInt = b) (h1 : -10000 ≤ a + b) (h2 : a + b ≤ 10000) :
    (IntOp.addi x y).toInt = a + b := by
  rw [IntOp.addi, BitVec.toInt_add, hx, hy]
  exact Int.bmod_eq_of_le_mul_two (by omega) (by omega)
theorem toInt_sub {x y : BitVec 32} {a b : ℤ} (hx : x.toInt = a) (hy : y.toInt = b) (h1 : -10000 ≤ a - b) (h2 : a - b ≤ 10000) :
    (IntOp.subi x y).toInt = a - b := by
  rw [IntOp.subi, BitVec.toInt_sub, hx, hy]
  exact Int.bmod_eq_of_le_mul_two (by omega) (by omega)
theorem toInt_mul {x y : BitVec 32} {a b : ℤ} (hx : x.toInt = a) (hy : y.toInt = b) (h1 : -10000 ≤ a * b) (h2 : a * b ≤ 10000) :
    (IntOp.muli x y).toInt = a * b := by
  rw [IntOp.muli, BitVec.toInt_mul, hx, hy]
  exact Int.bmod_eq_of_le_mul_two (by omega) (by omega)

section
open Cert.ReferenceIdeal Cert.ReferenceIdeal.Gen Cert.ReferenceIdeal.Read

theorem ref_sees (n : Fin 16) (r : Fin 128) (j : Fin 256) : val_main_v120 (F := Ideal) (ix3 n r j) = 1#1 ↔ sees n r j := by
  pointwise [val_main_v120, val_main_v119, val_main_v118, val_main_v117, val_main_v116, val_main_v115, val_main_v114,
    val_main_v113, val_main_v112, val_main_v111, val_main_v110, val_main_v109, val_main_v108, val_main_v107, val_main_v106,
    val_main_v105, val_main_v104, val_main_v103, val_main_v102, val_main_v101, val_main_v100, val_main_v99, val_main_v98,
    val_main_v97, val_main_v96, val_main_v95, val_main_v94, val_main_v93, val_main_v92, val_main_v91, val_main_v90,
    val_main_c_6, val_main_c_7, val_main_c_8, val_main_c_9, val_main_c_10]
  have hn := n.isLt
  have hr := r.isLt
  have hj := j.isLt
  have h128 : (128#32).toInt = 128 := rfl
  have hb := toInt_mul (toInt_small (k := n.val) (by omega)) h128 (by omega) (by omega)
  have hk := toInt_add (toInt_sub hb h128 (by omega) (by omega)) (toInt_small (k := j.val) (by omega)) (by omega) (by omega)
  have hd := toInt_sub (toInt_add hb (toInt_small (k := r.val) (by omega)) (by omega) (by omega)) hk (by omega) (by omega)
  rw [andi_one, andi_one, IntOp.cmpi_sge, IntOp.cmpi_sge, IntOp.cmpi_slt, hd, hk, h128, show (0#32).toInt = 0 from rfl, sees]
  omega
end

section
open Cert.KernelIdeal Cert.KernelIdeal.Gen

theorem coords_val : ∀ t : Fin 16, ((grid0.coords t 0 : Fin _) : ℕ) = t.val := by decide +kernel

/-- The remainder of a stacked row by the rows of a head. -/
theorem rem_row : ∀ r : Fin 512, (Scalar.select
      (IntOp.andi
        (IntOp.xori
          (IntOp.cmpi CmpIPredicate.slt
            (IntOp.remsi ArithUnit.vector (BitVec.ofNat 32 r.val)
              (Scalar.select (Scalar.cmpi CmpIPredicate.eq 128#32 0#32) 1#32 128#32))
            0#32)
          (Scalar.cmpi CmpIPredicate.slt
            (Scalar.select (Scalar.cmpi CmpIPredicate.eq 128#32 0#32) 1#32 128#32) 0#32))
        (IntOp.cmpi CmpIPredicate.ne
          (IntOp.remsi ArithUnit.vector (BitVec.ofNat 32 r.val)
            (Scalar.select (Scalar.cmpi CmpIPredicate.eq 128#32 0#32) 1#32 128#32))
          0#32))
      (IntOp.addi
        (IntOp.remsi ArithUnit.vector (BitVec.ofNat 32 r.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 r.val)
        (Scalar.select (Scalar.cmpi CmpIPredicate.eq 128#32 0#32) 1#32 128#32))) = BitVec.ofNat 32 (r.val % 128) := by
  decide +kernel

/-- Every block but the first sees the block before it. -/
theorem later : ∀ t : Fin 16, Scalar.xori (Scalar.cmpi CmpIPredicate.eq (BitVec.ofNat 32 t.val) 0#32) 1#1 = 1#1 ↔ 0 < t.val := by
  decide +kernel

theorem mask_sees (t : Fin 16) (r : Fin 512) (j : Fin 256) :
    maskAt t (ix2 r j) = 1#1 ↔ sees t ⟨r.val % 128, Nat.mod_lt _ (by omega)⟩ j := by
  pointwise [maskAt, k0_pay1]
  rw [rem_row, coords_val, andi_one, andi_one, ori_one, IntOp.cmpi_sge, IntOp.cmpi_sge, IntOp.cmpi_slt, later]
  have ht := t.isLt
  have hj := j.isLt
  have hr : r.val % 128 < 128 := Nat.mod_lt _ (by omega)
  have h128 : (128#32).toInt = 128 := rfl
  have hj' := toInt_small (k := j.val) (by omega)
  have hd := toInt_add (toInt_sub (toInt_small (k := r.val % 128) (by omega)) hj' (by omega) (by omega)) h128 (by omega) (by omega)
  rw [hd, hj', h128, show (0#32).toInt = 0 from rfl, sees]
  show _ ↔ j.val ≤ r.val % 128 + 128 ∧ r.val % 128 < j.val ∧ 128 ≤ t.val * 128 + j.val
  omega

theorem masked (t : Fin 16) : Masked (maskAt t) where
  eq a r j := by
    have one (x : BitVec 1) (y : BitVec 1) (h : x = 1#1 ↔ y = 1#1) : x = y := by revert x y; decide
    refine one _ _ ?_
    rw [mask_sees, mask_sees]
    have : (⟨(row4 a r).val % 128, Nat.mod_lt _ (by omega)⟩ : Fin 128) = ⟨(row4 0 r).val % 128, Nat.mod_lt _ (by omega)⟩ :=
      Fin.ext (by show (128 * a.val + r.val) % 128 = (128 * 0 + r.val) % 128; omega)
    rw [this]
end

end Attn
-- ==== Proof.Problem.lean ====
/- The blocks of the whole problem: what each block of 128 rows reads of the projection, the positions, the sinks and
   the output's gradient. -/
module

public import proofs.«01_k».proof.Proof.Mask

@[expose] public section

set_option maxRecDepth 16384

noncomputable section

namespace Attn

open Idealize.ShloMosaic

/-- Row `r` of block `n`. -/
def row (n : Fin 16) (r : Fin 128) : Fin 2048 := ⟨n.val * 128 + r.val, by omega⟩

/-- Entry `j` of the window of block `n`: the block before it and the block itself, `z` before the first block. -/
def win {α : Type} (z : α) (f : Fin 2048 → α) (n : Fin 16) (j : Fin 256) : α :=
  if h : 128 ≤ n.val * 128 + j.val then f ⟨n.val * 128 + j.val - 128, by omega⟩ else z

/-- The rotary frequency of a lane. -/
def freq (e : Fin 32) : EReal :=
  Ideal.pow (Ideal.ofBits .f32 0x461C4000#32) (Ideal.div (-FloatOps.sitofp (F := Ideal) .f32 (BitVec.ofNat 32 e.val)) (Ideal.ofBits .f32 0x42000000#32))
def ang (p : BitVec 32) (e : Fin 32) : EReal := FloatOps.sitofp (F := Ideal) .f32 p * freq e
def cosAt (p : BitVec 32) (e : Fin 32) : EReal := Ideal.cos (ang p e)
def sinAt (p : BitVec 32) (e : Fin 32) : EReal := Ideal.sin (ang p e)

/-- The arguments: projection, positions, sinks, the output's gradient. -/
structure Args where
  proj : Fin 2048 → Fin 2560 → EReal
  pos : Fin 2048 → BitVec 32
  sink : Fin 16 → EReal
  gout : Fin 2048 → Fin 1024 → EReal

variable (A : Args)

def Args.query (p : Fin 2048) (h : Fin 16) (d : Fin 64) : EReal := A.proj p ⟨64 * h.val + d.val, by omega⟩
def Args.key (p : Fin 2048) (g : Fin 4) (d : Fin 64) : EReal := A.proj p ⟨1024 + 64 * g.val + d.val, by omega⟩
def Args.value (p : Fin 2048) (g : Fin 4) (d : Fin 64) : EReal := A.proj p ⟨1280 + 64 * g.val + d.val, by omega⟩
def Args.grad (p : Fin 2048) (h : Fin 16) (d : Fin 64) : EReal := A.gout p ⟨64 * h.val + d.val, by omega⟩

/-- Block `n` of the problem. -/
def Args.block (n : Fin 16) : Blk where
  qh h r := rot (cosAt (A.pos (row n r))) (sinAt (A.pos (row n r))) (A.query (row n r) h)
  kw g j := rot (cosAt (win 0#32 A.pos n j)) (sinAt (win 0#32 A.pos n j)) fun d => win 0 (fun p => A.key p g d) n j
  vw g j d := win 0 (fun p => A.value p g d) n j
  go h r := A.grad (row n r) h
  sk := A.sink
  ok := sees n

/-- Every number is real. -/
structure Args.Real : Prop where
  proj : ∀ p c, IsReal (A.proj p c)
  sink : ∀ h, IsReal (A.sink h)
  gout : ∀ p c, IsReal (A.gout p c)

theorem freq_real (e : Fin 32) : IsReal (freq e) := by
  have h1 : IsReal (Ideal.ofBits .f32 0x461C4000#32) := by
    simp only [Ideal.ofBits, Ideal.ieee]
    norm_num
    exact (IsReal.coe _).mul (IsReal.coe _)
  have h2 : Ideal.ofBits .f32 0x42000000#32 = (32 : ℝ) := by
    simp [Ideal.ofBits, Ideal.ieee]
    rw [← EReal.coe_mul]
    norm_num
  obtain ⟨a, ha⟩ := h1
  rw [freq, ha, h2, Ideal.div_coe (by norm_num)]
  exact ⟨Real.rpow a _, by
    rw [show -FloatOps.sitofp (F := Ideal) .f32 (BitVec.ofNat 32 e.val) = ((-((BitVec.ofNat 32 e.val).toInt : ℝ) : ℝ) : EReal) from rfl,
      ← EReal.coe_mul]; exact Ideal.pow_coe_coe _ _⟩

theorem cosAt_real (p : BitVec 32) (e : Fin 32) : IsReal (cosAt p e) := by
  obtain ⟨a, ha⟩ := freq_real e
  exact ⟨Real.cos ((p.toInt : ℝ) * a), by rw [cosAt, ang, ha]; exact congrArg Ideal.cos (EReal.coe_mul _ _).symm⟩
theorem sinAt_real (p : BitVec 32) (e : Fin 32) : IsReal (sinAt p e) := by
  obtain ⟨a, ha⟩ := freq_real e
  exact ⟨Real.sin ((p.toInt : ℝ) * a), by rw [sinAt, ang, ha]; exact congrArg Ideal.sin (EReal.coe_mul _ _).symm⟩

theorem swapS_real {x : Fin 64 → EReal} (hx : ∀ d, IsReal (x d)) (d : Fin 64) : IsReal (swapS x d) := by
  unfold swapS; split
  exacts [IsReal.zero.sub (hx _), hx _]
theorem rot_real {c s : Fin 32 → EReal} {x : Fin 64 → EReal} (hc : ∀ e, IsReal (c e)) (hs : ∀ e, IsReal (s e)) (hx : ∀ d, IsReal (x d))
    (d : Fin 64) : IsReal (rot c s x d) := ((hx d).mul (hc _)).add ((swapS_real hx d).mul (hs _))
theorem win_real {f : Fin 2048 → EReal} (hf : ∀ p, IsReal (f p)) (n : Fin 16) (j : Fin 256) : IsReal (win 0 f n j) := by
  unfold win; split
  exacts [hf _, IsReal.zero]

variable {A}

theorem Args.Real.qh (R : A.Real) (n : Fin 16) (h r d) : IsReal ((A.block n).qh h r d) :=
  rot_real (x := A.query (row n r) h) (cosAt_real _) (sinAt_real _) (fun _ => R.proj _ _) d
theorem Args.Real.kw (R : A.Real) (n : Fin 16) (g j d) : IsReal ((A.block n).kw g j d) :=
  rot_real (x := fun d => win 0 (fun p => A.key p g d) n j) (cosAt_real _) (sinAt_real _) (fun _ => win_real (fun _ => R.proj _ _) n j) d
theorem Args.Real.vw (R : A.Real) (n : Fin 16) (g j d) : IsReal ((A.block n).vw g j d) :=
  win_real (f := fun p => A.value p g d) (fun _ => R.proj _ _) n j
theorem Args.Real.go (R : A.Real) (n : Fin 16) (h r d) : IsReal ((A.block n).go h r d) := R.gout _ _

theorem scale_real : IsReal scale := ⟨1 / 8, by simp [scale, Ideal.ofBits, Ideal.ieee]; rw [← EReal.coe_mul]; norm_num⟩

/-- The rows of the problem are good rows. -/
theorem Args.Real.good (R : A.Real) (n : Fin 16) (h r) : Good ((A.block n).score h r) ((A.block n).sk h) where
  score j := by
    unfold Blk.score
    split
    · exact .inr ((IsReal.sum _ _ fun d _ => (R.qh n h r d).mul (R.kw n _ j d)).mul scale_real)
    · exact .inl rfl
  sink := R.sink h
theorem Args.Real.dp (R : A.Real) (n : Fin 16) (h r j) : IsReal ((A.block n).dp h r j) :=
  IsReal.sum _ _ fun d _ => (R.go n h r d).mul (R.vw n _ j d)

end Attn
-- ==== Proof.Host.lean ====
/- What each grid point stages: the blocks of the projection, of the rotary tables that the host computes, of the sinks
   and of the output's gradient. -/
module

public import Idealize.ShloMosaic.Lib.Pipeline.ValueKit
public import Idealize.ShloMosaic.Lib.Claim
public import proofs.«01_k».proof.Proof.Problem

@[expose] public section

set_option maxRecDepth 16384

noncomputable section

namespace Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD) (t : Fin cfg0.N)

/-- Which block of its array each window holds at grid point `t`. -/
theorem idx : ∀ t : Fin cfg0.N, win0_0.index t = ![t.val, 0] ∧ win0_1.index t = ![t.val, 4] ∧ win0_2.index t = ![t.val, 5]
    ∧ win0_3.index t = ![t.val - 1, 4] ∧ win0_4.index t = ![t.val - 1, 5] ∧ win0_5.index t = ![t.val, 0] ∧ win0_6.index t = ![t.val, 0]
    ∧ win0_7.index t = ![t.val - 1, 0] ∧ win0_8.index t = ![t.val - 1, 0] ∧ win0_9.index t = ![0, 0] ∧ win0_10.index t = ![t.val, 0]
    ∧ win0_11.index t = ![t.val, 0] ∧ win0_12.index t = ![t.val, 0, 0] ∧ win0_13.index t = ![t.val, 0, 0] ∧ t.val < 16 :=
  (by decide +kernel : ∀ t : Fin grid0.N, _)

/-- The block before block `t`, the block itself for the first one. -/
def prior (t : Fin 16) : Fin 16 := ⟨t.val - 1, by omega⟩

/-- The tables that the host computes. -/
def cosTable (p : Fin 2048) (l : Fin 128) : EReal := cosAt (m ((c : Thread nD τ).loc main_arg1) (ix1 p)) ⟨l.val % 32, by omega⟩
def sinTable (p : Fin 2048) (l : Fin 128) : EReal := sinAt (m ((c : Thread nD τ).loc main_arg1) (ix1 p)) ⟨l.val % 32, by omega⟩

theorem in_q (r : Fin 128) (l : Fin 1024) : (ins m c t).q (ix2 r l) = m ((c : Thread nD τ).loc main_arg0) (ix2 (row t r) ⟨l.val, by omega⟩) := by
  show X0_0 m c t (ix2 r l) = _
  unfold X0_0 row
  rw [show (ix2 r l : S128x1024.Idx) = (cfg0.win 0).xinj (cfg0.grid.coords t) (fun a => ⟨((ix2 r l : S128x1024.Idx) a).val, ((ix2 r l : S128x1024.Idx) a).isLt.trans_eq (xsize0_0 t a).symm⟩) from rfl,
    Pipeline.Window.fill_xinj]
  blk_ext [iblk, V, idx t]
theorem in_kc (r : Fin 128) (l : Fin 256) : (ins m c t).kc (ix2 r l) = m ((c : Thread nD τ).loc main_arg0) (ix2 (row t r) ⟨1024 + l.val, by omega⟩) := by
  show iblk m c 1 t (ix2 r l) = _
  unfold row
  blk_ext [iblk, V, idx t]
theorem in_vc (r : Fin 128) (l : Fin 256) : (ins m c t).vc (ix2 r l) = m ((c : Thread nD τ).loc main_arg0) (ix2 (row t r) ⟨1280 + l.val, by omega⟩) := by
  show iblk m c 2 t (ix2 r l) = _
  unfold row
  blk_ext [iblk, V, idx t]
theorem in_kp (r : Fin 128) (l : Fin 256) : (ins m c t).kp (ix2 r l) = m ((c : Thread nD τ).loc main_arg0) (ix2 (row (prior t) r) ⟨1024 + l.val, by omega⟩) := by
  show iblk m c 3 t (ix2 r l) = _
  unfold row prior
  blk_ext [iblk, V, idx t]
theorem in_vp (r : Fin 128) (l : Fin 256) : (ins m c t).vp (ix2 r l) = m ((c : Thread nD τ).loc main_arg0) (ix2 (row (prior t) r) ⟨1280 + l.val, by omega⟩) := by
  show iblk m c 4 t (ix2 r l) = _
  unfold row prior
  blk_ext [iblk, V, idx t]
theorem in_gout (r : Fin 128) (l : Fin 1024) : (ins m c t).gout (ix2 r l) = m ((c : Thread nD τ).loc main_arg3) (ix2 (row t r) l) := by
  show iblk m c 10 t (ix2 r l) = _
  unfold row
  blk_ext [iblk, V, idx t]
theorem pad_low (x : FVec Ideal S1x16 .f32) (z : FVec Ideal S_ .f32) (h : Fin 16) :
    pad S1x128 ![0, 0] ![0, 112] ![0, 0] x z pads_S1x16_S1x128_000_01120 h_S_ (ix2 0 ⟨h.val, by omega⟩) = x (ix2 0 h) := by
  pointwise

theorem sink_entry (h : Fin 16) : V m c main_v17 (ix2 0 ⟨h.val, by omega⟩) = m ((c : Thread nD τ).loc main_arg2) (ix2 0 h) := by
  show StableHlo.after [hostOps0, hostOps0_1].flatten (fun b => m (c, b)) (Proc.tc.devRef main_v17) _ = _
  simp only [hostOps0, hostOps0_1, List.flatten_cons, List.flatten_nil, List.append_nil, List.cons_append, List.nil_append]
  entry_read
  exact pad_low _ (sitofp (F := Ideal) .f32 (constantI S_ 32 0#32)) h
theorem in_sink (h : Fin 16) : (ins m c t).sink (ix2 0 ⟨h.val, by omega⟩) = m ((c : Thread nD τ).loc main_arg2) (ix2 0 h) := by
  rw [← sink_entry m c h]
  show iblk m c 9 t _ = _
  blk_ext [iblk, idx t]
theorem cos_entry (p : Fin 2048) (l : Fin 128) : V m c main_v15 (ix2 p l) = cosTable m c p l := by
  show StableHlo.after [hostOps0, hostOps0_1].flatten (fun b => m (c, b)) (Proc.tc.devRef main_v15) (ix2 p l) = _
  simp only [hostOps0, hostOps0_1, List.flatten_cons, List.flatten_nil, List.append_nil, List.cons_append, List.nil_append]
  entry_read
  pointwise
  rfl
theorem sin_entry (p : Fin 2048) (l : Fin 128) : V m c main_v16 (ix2 p l) = sinTable m c p l := by
  show StableHlo.after [hostOps0, hostOps0_1].flatten (fun b => m (c, b)) (Proc.tc.devRef main_v16) (ix2 p l) = _
  simp only [hostOps0, hostOps0_1, List.flatten_cons, List.flatten_nil, List.append_nil, List.cons_append, List.nil_append]
  entry_read
  pointwise
  rfl

theorem in_cq (r l : Fin 128) : (ins m c t).cq (ix2 r l) = cosTable m c (row t r) l := by
  rw [← cos_entry]
  show iblk m c 5 t _ = _
  unfold row
  blk_ext [iblk, idx t]
theorem in_sq (r l : Fin 128) : (ins m c t).sq (ix2 r l) = sinTable m c (row t r) l := by
  rw [← sin_entry]
  show iblk m c 6 t _ = _
  unfold row
  blk_ext [iblk, idx t]
theorem in_cp (r l : Fin 128) : (ins m c t).cp (ix2 r l) = cosTable m c (row (prior t) r) l := by
  rw [← cos_entry]
  show iblk m c 7 t _ = _
  unfold row prior
  blk_ext [iblk, idx t]
theorem in_sp (r l : Fin 128) : (ins m c t).sp (ix2 r l) = sinTable m c (row (prior t) r) l := by
  rw [← sin_entry]
  show iblk m c 8 t _ = _
  unfold row prior
  blk_ext [iblk, idx t]

end Attn
-- ==== Proof.Congr.lean ====
/- Two blocks that agree wherever a row sees a column have the same gradients: a masked column's probability is zero,
   whatever the column holds. -/
module

public import proofs.«01_k».proof.Proof.Problem

@[expose] public section

set_option maxRecDepth 16384

noncomputable section

namespace Attn

open Idealize.ShloMosaic

/-- The blocks agree, the columns outside `vis` apart, and no row sees a column outside `vis`. -/
structure Blk.Agrees (B C : Blk) (vis : Fin 256 → Prop) : Prop where
  qh : ∀ h r, B.qh h r = C.qh h r
  go : ∀ h r, B.go h r = C.go h r
  sk : ∀ h, B.sk h = C.sk h
  ok : ∀ r j, B.ok r j ↔ C.ok r j
  kw : ∀ g j, vis j → B.kw g j = C.kw g j
  vw : ∀ g j, vis j → B.vw g j = C.vw g j
  hid : ∀ r j, C.ok r j → vis j

namespace Blk.Agrees

variable {B C : Blk} {vis : Fin 256 → Prop} (E : B.Agrees C vis)
include E

theorem score (h : Fin 16) (r : Fin 128) : B.score h r = C.score h r := by
  funext j
  unfold Blk.score
  by_cases hj : C.ok r j
  · rw [if_pos ((E.ok r j).mpr hj), if_pos hj, E.qh, E.kw _ _ (E.hid r j hj)]
  · rw [if_neg fun hb => hj ((E.ok r j).mp hb), if_neg hj]

theorem dp {h : Fin 16} {r : Fin 128} {j : Fin 256} (hj : C.score h r j ≠ ⊥) : C.dp h r j = B.dp h r j := by
  have hv : vis j := by
    by_contra hn
    exact hj (if_neg fun hb => hn (E.hid r j hb))
  unfold Blk.dp
  rw [E.go, E.vw _ _ hv]

variable (good : ∀ h r, Good (C.score h r) (C.sk h))
include good

theorem ds (h : Fin 16) (r : Fin 128) (j : Fin 256) : B.ds h r j = C.ds h r j := by
  unfold Blk.ds
  rw [E.score, E.sk]
  exact (kDs_congr (good h r) (fun j hj => E.dp hj) j).symm

/-- A column outside `vis` passes nothing back. -/
theorem ds_hidden {j : Fin 256} (hj : ¬vis j) (h : Fin 16) (r : Fin 128) : C.ds h r j = 0 :=
  kDs_masked (good h r) (if_neg fun hb => hj (E.hid r j hb))

theorem dq (h : Fin 16) (r : Fin 128) (d : Fin 64) : B.dq h r d = C.dq h r d := by
  refine Finset.sum_congr rfl fun j _ => ?_
  rw [E.ds good]
  by_cases hj : vis j
  · rw [E.kw _ _ hj]
  · rw [E.ds_hidden good hj, zero_mul, zero_mul]

theorem dk (g : Fin 4) (j : Fin 256) (d : Fin 64) : B.dk g j d = C.dk g j d :=
  Finset.sum_congr rfl fun a _ => Finset.sum_congr rfl fun r _ => by rw [E.ds good, E.qh]

theorem dk_hidden {j : Fin 256} (hj : ¬vis j) (g : Fin 4) (d : Fin 64) : C.dk g j d = 0 :=
  Finset.sum_eq_zero fun a _ => Finset.sum_eq_zero fun r _ => by rw [E.ds_hidden good hj, zero_mul]

omit good in
theorem dv (g : Fin 4) (j : Fin 256) (d : Fin 64) : B.dv g j d = C.dv g j d :=
  Finset.sum_congr rfl fun a _ => Finset.sum_congr rfl fun r _ => by rw [E.score, E.sk, E.go]

theorem dsink (h : Fin 16) : B.dsink h = C.dsink h := by
  unfold Blk.dsink
  refine congrArg (0 - ·) (Finset.sum_congr rfl fun r _ => ?_)
  unfold kSink
  rw [E.score, E.sk, kDelta_congr (good h r) (fun j hj => E.dp hj)]

end Blk.Agrees

theorem unrot_zero (c s : Fin 32 → EReal) (d : Fin 64) : unrot c s (fun _ => 0) d = 0 := by
  unfold unrot swapS
  simp

end Attn
-- ==== Proof.RefBlock.lean ====
/- The reference's rotated queries and keys, its values, the output's gradient and the masked scores, block by block. -/
module

public import proofs.«01_k».proof.Proof.Problem

@[expose] public section

set_option maxRecDepth 16384

noncomputable section

namespace Attn

open Cert.ReferenceIdeal Cert.ReferenceIdeal.Gen Cert.ReferenceIdeal.Read Idealize.ShloMosaic

/-- The program's arguments as functions of row and column. -/
def argsOf (x0 : Vec Ideal S2048x2560 .f32) (x1 : IVec S2048 32) (x2 : Vec Ideal S1x16 .f32) (x3 : Vec Ideal S2048x1024 .f32) : Args where
  proj p c := x0 (ix2 p c)
  pos p := x1 (ix1 p)
  sink h := x2 (ix2 0 h)
  gout p c := x3 (ix2 p c)

variable (x0 : Vec Ideal S2048x2560 .f32) (x1 : IVec S2048 32) (x2 : Vec Ideal S1x16 .f32) (x3 : Vec Ideal S2048x1024 .f32)

/-- The halves of a rotated head, one after the other. -/
theorem rot_halves (c s : Fin 32 → EReal) (x : Fin 64 → EReal) (d : Fin 64) : rot c s x d
    = if h : d.val < 32 then x d * c ⟨d.val, h⟩ - x ⟨32 + d.val, by omega⟩ * s ⟨d.val, h⟩
      else x ⟨32 + (d.val - 32), by omega⟩ * c ⟨d.val - 32, by omega⟩ + x ⟨d.val - 32, by omega⟩ * s ⟨d.val - 32, by omega⟩ := by
  unfold rot swapS
  split
  case isTrue h =>
    rw [zero_sub, neg_mul, ← sub_eq_add_neg, show low d = ⟨d.val, h⟩ from Fin.ext (Nat.mod_eq_of_lt h),
      show other d = ⟨32 + d.val, by omega⟩ from Fin.ext (by show (d.val + 32) % 64 = 32 + d.val; omega)]
  case isFalse h =>
    rw [show low d = ⟨d.val - 32, by omega⟩ from Fin.ext (by show d.val % 32 = d.val - 32; omega),
      show other d = ⟨d.val - 32, by omega⟩ from Fin.ext (by show (d.val + 32) % 64 = d.val - 32; omega),
      show (⟨32 + (d.val - 32), by omega⟩ : Fin 64) = d from Fin.ext (by show 32 + (d.val - 32) = d.val; omega)]

theorem ref_cos (n : Fin 16) (r : Fin 128) (e : Fin 32) :
    val_main_v32 (F := Ideal) x1 (ix4 n r 0 e) = cosAt (x1 (ix1 (row n r))) e := by
  pointwise [val_main_v32, val_main_v31, val_main_v30, val_main_v29, val_main_v28, val_main_v27, val_main_v26, val_main_v25,
    val_main_v24, val_main_v23, val_main_v22, val_main_v21, val_main_v20, val_main_v19, val_main_v18, val_main_cst_1, val_main_cst_2]
  rfl

theorem ref_sin (n : Fin 16) (r : Fin 128) (e : Fin 32) :
    val_main_v34 (F := Ideal) x1 (ix4 n r 0 e) = sinAt (x1 (ix1 (row n r))) e := by
  pointwise [val_main_v34, val_main_v33, val_main_v30, val_main_v29, val_main_v28, val_main_v27, val_main_v26, val_main_v25,
    val_main_v24, val_main_v23, val_main_v22, val_main_v21, val_main_v20, val_main_v19, val_main_v18, val_main_cst_1, val_main_cst_2]
  rfl

/-- Two joined halves, one empty before the first block, are the window. -/
theorem win_split {α : Type} (z : α) (f : Fin 2048 → α) (n : Fin 16) (j : Fin 256) :
    (if h : j.val < 128 then (if h' : n.val < 1 then z else f ⟨(n.val - 1) * 128 + j.val, by omega⟩)
      else f ⟨n.val * 128 + (j.val - 128), by omega⟩) = win z f n j := by
  unfold win
  split
  · split
    · rw [dif_neg (by omega)]
    · rw [dif_pos (by omega)]; congr 2; omega
  · rw [dif_pos (by omega)]; congr 2; omega

theorem ref_pos (n : Fin 16) (j : Fin 256) : val_main_v54 (F := Ideal) x1 (ix2 n j) = win 0#32 (fun p => x1 (ix1 p)) n j := by
  rw [← win_split]
  pointwise [val_main_v54, val_main_v53, val_main_v52, val_main_v51, val_main_v50, val_main_v49, val_main_c]

theorem ref_wcos (n : Fin 16) (j : Fin 256) (e : Fin 32) :
    val_main_v68 (F := Ideal) x1 (ix4 n j 0 e) = cosAt (win 0#32 (fun p => x1 (ix1 p)) n j) e := by
  rw [← ref_pos]
  pointwise [val_main_v68, val_main_v67, val_main_v66, val_main_v65, val_main_v64, val_main_v63, val_main_v62, val_main_v61,
    val_main_v60, val_main_v59, val_main_v58, val_main_v57, val_main_v56, val_main_v55, val_main_cst_3, val_main_cst_4]
  rfl

theorem ref_wsin (n : Fin 16) (j : Fin 256) (e : Fin 32) :
    val_main_v70 (F := Ideal) x1 (ix4 n j 0 e) = sinAt (win 0#32 (fun p => x1 (ix1 p)) n j) e := by
  rw [← ref_pos]
  pointwise [val_main_v70, val_main_v69, val_main_v66, val_main_v65, val_main_v64, val_main_v63, val_main_v62, val_main_v61,
    val_main_v60, val_main_v59, val_main_v58, val_main_v57, val_main_v56, val_main_v55, val_main_cst_3, val_main_cst_4]
  rfl

theorem ref_query (n : Fin 16) (r : Fin 128) (h : Fin 16) (d : Fin 64) :
    val_main_v17 (F := Ideal) x0 (ix4 n r h d) = (argsOf x0 x1 x2 x3).query (row n r) h d := by
  pointwise [val_main_v17, val_main_v0]
  unfold Args.query argsOf row
  congr 3; omega

theorem ref_key (n : Fin 16) (j : Fin 256) (g : Fin 4) (d : Fin 64) :
    val_main_v48 (F := Ideal) x0 (ix4 n j g d) = win 0 (fun p => (argsOf x0 x1 x2 x3).key p g d) n j := by
  rw [← win_split]
  pointwise [val_main_v48, val_main_v9, val_main_v8, val_main_v7, val_main_v6, val_main_v5, val_main_v4, val_main_v1, val_main_cst]
  unfold Args.key argsOf
  simp only [show 1024 + (g.val * 64 + d.val) = 1024 + 64 * g.val + d.val by omega]

theorem ref_value (n : Fin 16) (j : Fin 256) (g : Fin 4) (d : Fin 64) :
    val_main_v84 (F := Ideal) x0 (ix4 n j g d) = ((argsOf x0 x1 x2 x3).block n).vw g j d := by
  refine Eq.trans ?_ (win_split 0 (fun p => (argsOf x0 x1 x2 x3).value p g d) n j)
  pointwise [val_main_v84, val_main_v15, val_main_v14, val_main_v13, val_main_v12, val_main_v11, val_main_v10, val_main_v2, val_main_cst_0]
  unfold Args.value argsOf
  simp only [show 1280 + (g.val * 64 + d.val) = 1280 + 64 * g.val + d.val by omega]

theorem ref_qh (n : Fin 16) (r : Fin 128) (h : Fin 16) (d : Fin 64) :
    val_main_v47 (F := Ideal) x0 x1 (ix4 n r h d) = ((argsOf x0 x1 x2 x3).block n).qh h r d := by
  refine Eq.trans ?_ (rot_halves _ _ _ d).symm
  pointwise [val_main_v47, val_main_v46, val_main_v45, val_main_v44, val_main_v43, val_main_v42, val_main_v41, val_main_v40,
    val_main_v39, val_main_v38, val_main_v37, val_main_v36, val_main_v35, ref_cos, ref_sin, ref_query x0 x1 x2 x3]
  rfl

theorem ref_kw (n : Fin 16) (j : Fin 256) (g : Fin 4) (d : Fin 64) :
    val_main_v83 (F := Ideal) x0 x1 (ix4 n j g d) = ((argsOf x0 x1 x2 x3).block n).kw g j d := by
  refine Eq.trans ?_ (rot_halves _ _ (fun d => win 0 (fun p => (argsOf x0 x1 x2 x3).key p g d) n j) d).symm
  pointwise [val_main_v83, val_main_v82, val_main_v81, val_main_v80, val_main_v79, val_main_v78, val_main_v77, val_main_v76,
    val_main_v75, val_main_v74, val_main_v73, val_main_v72, val_main_v71, ref_wcos, ref_wsin, ref_key x0 x1 x2 x3]
  rfl

end Attn
-- ==== Proof.Match.lean ====
/- What each grid point stages is the block of the problem: the two agree wherever a row sees a column. -/
module

public import proofs.«01_k».proof.Proof.Host
public import proofs.«01_k».proof.Proof.Congr
public import proofs.«01_k».proof.Proof.RefBlock

@[expose] public section

set_option maxRecDepth 16384

noncomputable section

namespace Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD) (t : Fin cfg0.N)

/-- The arguments of the run. -/
def args : Args :=
  argsOf (m ((c : Thread nD τ).loc main_arg0)) (m ((c : Thread nD τ).loc main_arg1)) (m ((c : Thread nD τ).loc main_arg2)) (m ((c : Thread nD τ).loc main_arg3))

/-- A column of the window that lies in the sequence. -/
def inside (t : Fin 16) (j : Fin 256) : Prop := 128 ≤ t.val * 128 + j.val

theorem lane_low (b : Fin 2) (d : Fin 64) : (lane b d).val % 32 = (low d).val := by
  show (64 * b.val + d.val) % 32 = d.val % 32; omega

theorem tables : Tables (ins m c t) where
  cq := ⟨fun r b d => by unfold tabRow; rw [in_cq, in_cq]; exact congrArg (cosAt _) (Fin.ext (by show (lane b d).val % 32 = (low d).val % 32; have := lane_low b d; have := (low d).isLt; omega))⟩
  sq := ⟨fun r b d => by unfold tabRow; rw [in_sq, in_sq]; exact congrArg (sinAt _) (Fin.ext (by show (lane b d).val % 32 = (low d).val % 32; have := lane_low b d; have := (low d).isLt; omega))⟩
  cp := ⟨fun r b d => by unfold tabRow; rw [in_cp, in_cp]; exact congrArg (cosAt _) (Fin.ext (by show (lane b d).val % 32 = (low d).val % 32; have := lane_low b d; have := (low d).isLt; omega))⟩
  sp := ⟨fun r b d => by unfold tabRow; rw [in_sp, in_sp]; exact congrArg (sinAt _) (Fin.ext (by show (lane b d).val % 32 = (low d).val % 32; have := lane_low b d; have := (low d).isLt; omega))⟩

theorem row_cq (r : Fin 128) : tabRow (ins m c t).cq r = cosAt ((args m c).pos (row t r)) := by
  funext e
  unfold tabRow
  rw [in_cq]
  exact congrArg (cosAt _) (Fin.ext (Nat.mod_eq_of_lt e.isLt))
theorem row_sq (r : Fin 128) : tabRow (ins m c t).sq r = sinAt ((args m c).pos (row t r)) := by
  funext e
  unfold tabRow
  rw [in_sq]
  exact congrArg (sinAt _) (Fin.ext (Nat.mod_eq_of_lt e.isLt))
theorem row_cp (r : Fin 128) : tabRow (ins m c t).cp r = cosAt ((args m c).pos (row (prior t) r)) := by
  funext e
  unfold tabRow
  rw [in_cp]
  exact congrArg (cosAt _) (Fin.ext (Nat.mod_eq_of_lt e.isLt))
theorem row_sp (r : Fin 128) : tabRow (ins m c t).sp r = sinAt ((args m c).pos (row (prior t) r)) := by
  funext e
  unfold tabRow
  rw [in_sp]
  exact congrArg (sinAt _) (Fin.ext (Nat.mod_eq_of_lt e.isLt))

/-- The first half of a window is the block before, the second the block itself. -/
theorem win_prior {α : Type} (z : α) (f : Fin 2048 → α) {n : Fin 16} {j : Fin 256} (hv : inside n j) (hj : j.val < 128) :
    win z f n j = f (row (prior n) ⟨j.val, hj⟩) := by
  unfold win
  rw [dif_pos (show 128 ≤ n.val * 128 + j.val from hv)]
  unfold inside at hv
  exact congrArg f (Fin.ext (by show n.val * 128 + j.val - 128 = (n.val - 1) * 128 + j.val; omega))
theorem win_self {α : Type} (z : α) (f : Fin 2048 → α) {n : Fin 16} {j : Fin 256} (hj : ¬j.val < 128) :
    win z f n j = f (row n ⟨j.val - 128, by omega⟩) := by
  unfold win
  rw [dif_pos (by omega)]
  exact congrArg f (Fin.ext (by show n.val * 128 + j.val - 128 = n.val * 128 + (j.val - 128); omega))

theorem agrees : (blk (ins m c t) (maskAt t)).Agrees ((args m c).block t) (inside t) where
  qh h r := by
    show rot _ _ _ = rot _ _ _
    rw [row_cq, row_sq]
    exact congrArg _ (funext fun d => in_q m c t r _)
  go h r := funext fun d => in_gout m c t r _
  sk h := in_sink m c t h
  ok r j := by
    show maskAt t (ix2 (row4 0 r) j) = 1#1 ↔ sees t r j
    rw [mask_sees t]
    have : (⟨(row4 0 r).val % 128, Nat.mod_lt _ (by omega)⟩ : Fin 128) = r :=
      Fin.ext (by show (128 * 0 + r.val) % 128 = r.val; omega)
    rw [this]
  kw g j hv := by
    show (if hj : j.val < 128 then _ else _) = rot _ _ _
    by_cases hj : j.val < 128
    · rw [dif_pos hj, row_cp, row_sp, win_prior _ _ hv hj]
      refine congrArg _ (funext fun d => ?_)
      rw [win_prior _ _ hv hj, in_kp]
      exact congrArg (fun l => m ((c : Thread nD τ).loc main_arg0) (ix2 _ l)) (Fin.ext (by show 1024 + (64 * g.val + d.val) = 1024 + 64 * g.val + d.val; omega))
    · rw [dif_neg hj, row_cq, row_sq, win_self (n := t) _ _ hj]
      refine congrArg _ (funext fun d => ?_)
      rw [win_self (n := t) _ _ hj, in_kc]
      exact congrArg (fun l => m ((c : Thread nD τ).loc main_arg0) (ix2 _ l)) (Fin.ext (by show 1024 + (64 * g.val + d.val) = 1024 + 64 * g.val + d.val; omega))
  vw g j hv := by
    funext d
    show (if hj : j.val < 128 then (ins m c t).vp (ix2 ⟨j.val, hj⟩ ⟨64 * g.val + d.val, by omega⟩)
      else (ins m c t).vc (ix2 ⟨j.val - 128, by omega⟩ ⟨64 * g.val + d.val, by omega⟩)) = win (0 : EReal) (fun p => (args m c).value p g d) t j
    by_cases hj : j.val < 128
    · rw [dif_pos hj, win_prior _ _ hv hj, in_vp]
      exact congrArg (fun l => m ((c : Thread nD τ).loc main_arg0) (ix2 _ l)) (Fin.ext (by show 1280 + (64 * g.val + d.val) = 1280 + 64 * g.val + d.val; omega))
    · rw [dif_neg hj, win_self (n := t) _ _ hj, in_vc]
      exact congrArg (fun l => m ((c : Thread nD τ).loc main_arg0) (ix2 _ l)) (Fin.ext (by show 1280 + (64 * g.val + d.val) = 1280 + 64 * g.val + d.val; omega))
  hid r j h := h.2.2

end Attn
-- ==== Proof.RefRow.lean ====
/- The reference's rows: masked scores, their softmax with the sink, and the gradient of the scores. -/
module

public import proofs.«01_k».proof.Proof.RefBlock

@[expose] public section

set_option maxRecDepth 16384

noncomputable section

namespace Attn

open Cert.ReferenceIdeal Cert.ReferenceIdeal.Gen Cert.ReferenceIdeal.Read Idealize.ShloMosaic

variable (x0 : Vec Ideal S2048x2560 .f32) (x1 : IVec S2048 32) (x2 : Vec Ideal S1x16 .f32) (x3 : Vec Ideal S2048x1024 .f32)
variable (n : Fin 16) (g a : Fin 4) (r : Fin 128) (j : Fin 256) (d : Fin 64)

theorem uitofp_one : FloatOps.uitofp (F := Ideal) .f32 (BitVec.ofBool true) = (1 : EReal) := by
  show (((1 : ℕ) : ℝ) : EReal) = 1
  simp
theorem uitofp_zero : FloatOps.uitofp (F := Ideal) .f32 (BitVec.ofBool false) = (0 : EReal) := by
  show (((0 : ℕ) : ℝ) : EReal) = 0
  simp

/-- The reference's block. -/

theorem ref_qa : val_main_v85 (F := Ideal) x0 x1 (ix5 n r g a d) = ((argsOf x0 x1 x2 x3).block n).qh (hd g a) r d := by
  rw [← ref_qh]
  pointwise [val_main_v85]
  exact congrArg (fun h => val_main_v47 (F := Ideal) x0 x1 (ix4 n r h d)) (Fin.ext (by show g.val * 4 + a.val = 4 * g.val + a.val; omega))

theorem ref_dot : val_main_v87 (F := Ideal) x0 x1 (ix5 n g a r j) = ∑ d, ((argsOf x0 x1 x2 x3).block n).qh (hd g a) r d * ((argsOf x0 x1 x2 x3).block n).kw g j d := by
  pointwise [val_main_v87, val_main_v86, ref_kw x0 x1 x2 x3, ref_qa x0 x1 x2 x3]
  exact Finset.sum_congr rfl fun d _ => mul_comm _ _

theorem ref_score : val_main_v122_0 (F := Ideal) x0 x1 (ix5 n g a r j) = ((argsOf x0 x1 x2 x3).block n).score (hd g a) r j := by
  pointwise [val_main_v122_0, val_main_v122_1, val_main_v121, val_main_v89, val_main_v88, val_main_cst_5, val_main_cst_11,
    val_main_call0_v2, val_main_call0_v0, ref_dot x0 x1 x2 x3]
  rw [Blk.score, grp_hd]
  by_cases h : sees n r j
  · rw [(ref_sees n r j).mpr h, if_pos (show ((argsOf x0 x1 x2 x3).block n).ok r j from h), scale]
    exact if_pos (by decide)
  · rw [if_neg (show ¬((argsOf x0 x1 x2 x3).block n).ok r j from h), bit_zero fun e => h ((ref_sees n r j).mp e), ← ofBits_bot]
    exact if_neg (by decide)

theorem ref_sk : val_main_v124 (F := Ideal) x2 (ix5 0 g a 0 0) = ((argsOf x0 x1 x2 x3).block n).sk (hd g a) := by
  pointwise [val_main_v124, val_main_v123, val_main_v16]
  exact congrArg (fun h => x2 (ix2 0 h)) (Fin.ext (by show g.val * 4 + a.val = 4 * g.val + a.val; omega))

theorem ref_max : val_main_v125 (F := Ideal) x0 x1 (ix4 n g a r) = scoreMax (((argsOf x0 x1 x2 x3).block n).score (hd g a) r) := by
  pointwise [val_main_v125, val_main_cst_12, ref_score x0 x1 x2 x3]
  rw [ofBits_bot, scoreMax]

theorem ref_dp : val_main_v171 (F := Ideal) x0 x3 (ix5 n g a r j) = ((argsOf x0 x1 x2 x3).block n).dp (hd g a) r j := by
  pointwise [val_main_v171, val_main_v170, val_main_v169, ref_value x0 x1 x2 x3]
  unfold Blk.dp
  rw [grp_hd]
  refine Finset.sum_congr rfl fun d _ => congrArg (· * _) ?_
  exact congrArg (fun c => x3 (ix2 (row n r) c)) (Fin.ext (by show g.val * 256 + a.val * 64 + d.val = 64 * (4 * g.val + a.val) + d.val; omega))

theorem ref_rowMax : val_main_v133 (F := Ideal) x0 x1 x2 (ix5 n g a r 0) = rowMax (((argsOf x0 x1 x2 x3).block n).score (hd g a) r) (((argsOf x0 x1 x2 x3).block n).sk (hd g a)) := by
  have h1 : val_main_v131 (F := Ideal) x0 x1 (ix5 n g a r 0) = scoreMax (((argsOf x0 x1 x2 x3).block n).score (hd g a) r) := by
    pointwise [val_main_v131, ref_max x0 x1 x2 x3]
  have h2 : val_main_v132 (F := Ideal) x2 (ix5 n g a r 0) = ((argsOf x0 x1 x2 x3).block n).sk (hd g a) := by
    pointwise [val_main_v132, ref_sk x0 x1 x2 x3 n]
  rw [val_main_v133_apply, h1, h2, Ideal.maximumf_def, rowMax]

theorem ref_exp : val_main_v154 (F := Ideal) x0 x1 x2 (ix5 n g a r j) = rowExp (((argsOf x0 x1 x2 x3).block n).score (hd g a) r) (((argsOf x0 x1 x2 x3).block n).sk (hd g a)) j := by
  pointwise [val_main_v154, val_main_v153, val_main_v152, ref_rowMax x0 x1 x2 x3, ref_score x0 x1 x2 x3]
  rfl

theorem ref_sinkExp : val_main_v159 (F := Ideal) x0 x1 x2 (ix5 n g a r 0) = sinkExp (((argsOf x0 x1 x2 x3).block n).score (hd g a) r) (((argsOf x0 x1 x2 x3).block n).sk (hd g a)) := by
  pointwise [val_main_v159, val_main_v158, val_main_v157, ref_rowMax x0 x1 x2 x3, ref_sk x0 x1 x2 x3 n]
  rfl

theorem ref_rowSum : val_main_v160 (F := Ideal) x0 x1 x2 (ix5 n g a r 0) = rowSum (((argsOf x0 x1 x2 x3).block n).score (hd g a) r) (((argsOf x0 x1 x2 x3).block n).sk (hd g a)) := by
  pointwise [val_main_v160, val_main_v156, val_main_v155, val_main_cst_20, ref_exp x0 x1 x2 x3, ref_sinkExp x0 x1 x2 x3]
  rfl

theorem ref_probs : val_main_v162 (F := Ideal) x0 x1 x2 (ix5 n g a r j) = rProbs (((argsOf x0 x1 x2 x3).block n).score (hd g a) r) (((argsOf x0 x1 x2 x3).block n).sk (hd g a)) j := by
  pointwise [val_main_v162, val_main_v161, ref_exp x0 x1 x2 x3, ref_rowSum x0 x1 x2 x3]
  rfl

theorem ref_neg : val_main_v179 (F := Ideal) x0 x1 x2 x3 (ix5 n g a r 0)
    = rNeg (((argsOf x0 x1 x2 x3).block n).score (hd g a) r) (((argsOf x0 x1 x2 x3).block n).sk (hd g a)) (((argsOf x0 x1 x2 x3).block n).dp (hd g a) r) := by
  pointwise [val_main_v179, val_main_v178, val_main_v177, val_main_v176, val_main_v175, val_main_v174, val_main_v165, val_main_v164,
    val_main_v163, val_main_cst_21, val_main_cst_22, ref_exp x0 x1 x2 x3, ref_rowSum x0 x1 x2 x3, ref_dp x0 x1 x2 x3]
  rfl

theorem ref_sinkGrad : val_main_v182 (F := Ideal) x0 x1 x2 x3 (ix5 n g a r 0)
    = rSink (((argsOf x0 x1 x2 x3).block n).score (hd g a) r) (((argsOf x0 x1 x2 x3).block n).sk (hd g a)) (((argsOf x0 x1 x2 x3).block n).dp (hd g a) r) := by
  pointwise [val_main_v182, ref_neg, ref_sinkExp x0 x1 x2 x3]
  rfl

theorem ref_rDs : val_main_v189 (F := Ideal) x0 x1 x2 x3 (ix5 n g a r j)
    = rDs (((argsOf x0 x1 x2 x3).block n).score (hd g a) r) (((argsOf x0 x1 x2 x3).block n).sk (hd g a)) (((argsOf x0 x1 x2 x3).block n).dp (hd g a) r) j := by
  pointwise [val_main_v189, val_main_v188, val_main_v187, val_main_v186, val_main_v181, val_main_v180, val_main_cst_24,
    ref_exp x0 x1 x2 x3, ref_rowSum x0 x1 x2 x3, ref_dp x0 x1 x2 x3]
  rw [Fin.sum_univ_one, ref_neg, rDs]

theorem ref_rMax : val_main_v193 (F := Ideal) x0 x1 x2 x3 (ix5 n g a r 0)
    = rMax (((argsOf x0 x1 x2 x3).block n).score (hd g a) r) (((argsOf x0 x1 x2 x3).block n).sk (hd g a)) (((argsOf x0 x1 x2 x3).block n).dp (hd g a) r) := by
  pointwise [val_main_v193, val_main_v192, val_main_v191, val_main_v190, val_main_v185, val_main_cst_25, ref_sinkGrad, ref_rDs]
  rfl

/-- One where a score is the row's greatest, zero elsewhere. -/
theorem ref_greatest : val_main_v129 (F := Ideal) x0 x1 (ix5 n g a r j)
    = if ((argsOf x0 x1 x2 x3).block n).score (hd g a) r j = scoreMax (((argsOf x0 x1 x2 x3).block n).score (hd g a) r) then 1 else 0 := by
  pointwise [val_main_v129, val_main_v128, val_main_v127, val_main_v126, ref_max x0 x1 x2 x3, ref_score x0 x1 x2 x3]
  split
  case isTrue h => rw [decide_eq_true h]; exact uitofp_one
  case isFalse h => rw [decide_eq_false h]; exact uitofp_zero

theorem ref_count : val_main_v130 (F := Ideal) x0 x1 (ix4 n g a r) = rCount (((argsOf x0 x1 x2 x3).block n).score (hd g a) r) := by
  pointwise [val_main_v130, val_main_cst_13, ref_greatest x0 x1 x2 x3]
  rw [rCount]

/-- The gradient through the row's greatest score is zero, so is its share of any score. -/
theorem ref_gate (R : (argsOf x0 x1 x2 x3).Real) : val_main_v198 (F := Ideal) x0 x1 x2 x3 (ix5 n g a r 0) = 0 := by
  rw [val_main_v198_apply, ref_rMax, rMax_eq (R.good n _ r) (R.dp n _ r)]
  exact zero_mul _

theorem ref_gateSum (R : (argsOf x0 x1 x2 x3).Real) : val_main_v199 (F := Ideal) x0 x1 x2 x3 (ix4 n g a r) = 0 := by
  pointwise [val_main_v199, val_main_cst_27]
  rw [Fin.sum_univ_one, ref_gate x0 x1 x2 x3 n g a r R]

theorem ref_share (R : (argsOf x0 x1 x2 x3).Real) : val_main_v200 (F := Ideal) x0 x1 x2 x3 (ix4 n g a r) = 0 := by
  rw [val_main_v200_apply, ref_gateSum x0 x1 x2 x3 n g a r R, ref_count x0 x1 x2 x3, Ideal.hostDivf_def, div_rCount]

theorem ref_through (R : (argsOf x0 x1 x2 x3).Real) : val_main_v203 (F := Ideal) x0 x1 x2 x3 (ix5 n g a r j)
    = rDs (((argsOf x0 x1 x2 x3).block n).score (hd g a) r) (((argsOf x0 x1 x2 x3).block n).sk (hd g a)) (((argsOf x0 x1 x2 x3).block n).dp (hd g a) r) j := by
  have h : val_main_v201 (F := Ideal) x0 x1 x2 x3 (ix5 n g a r j) = 0 := by
    pointwise [val_main_v201]
    exact ref_share x0 x1 x2 x3 n g a r R
  rw [val_main_v203_apply, val_main_v202_apply, h, ref_rDs, Ideal.mulf_def, zero_mul, Ideal.addf_def, add_zero]

theorem ref_ds (R : (argsOf x0 x1 x2 x3).Real) : val_main_v208 (F := Ideal) x0 x1 x2 x3 (ix5 n g a r j) = ((argsOf x0 x1 x2 x3).block n).ds (hd g a) r j := by
  pointwise [val_main_v208, val_main_v207, val_main_v206, val_main_v122_1, val_main_v121, val_main_cst_29, val_main_call1_v0, val_main_call1_cst,
    ref_through x0 x1 x2 x3 _ _ _ _ _ R]
  by_cases h : sees n r j
  · rw [(ref_sees n r j).mpr h]
    exact rDs_eq (R.good n _ r) (R.dp n _ r) j
  · rw [bit_zero fun e => h ((ref_sees n r j).mp e)]
    have hb : ((argsOf x0 x1 x2 x3).block n).score (hd g a) r j = ⊥ := by rw [Blk.score, if_neg (show ¬((argsOf x0 x1 x2 x3).block n).ok r j from h)]
    rw [Blk.ds, kDs_masked (R.good n _ r) hb]
    exact if_neg (by decide)

end Attn
-- ==== Proof.RefGrad.lean ====
/- The reference's results: the gradients of queries, keys, values and sinks. -/
module

public import proofs.«01_k».proof.Proof.RefRow

@[expose] public section

set_option maxRecDepth 16384

noncomputable section

namespace Attn

open Cert.ReferenceIdeal Cert.ReferenceIdeal.Gen Cert.ReferenceIdeal.Read Idealize.ShloMosaic

variable (x0 : Vec Ideal S2048x2560 .f32) (x1 : IVec S2048 32) (x2 : Vec Ideal S1x16 .f32) (x3 : Vec Ideal S2048x1024 .f32)
variable (n : Fin 16) (g a : Fin 4) (r : Fin 128) (j : Fin 256) (d : Fin 64)

theorem kSink_real {s : Fin 256 → EReal} {k : EReal} {dp : Fin 256 → EReal} (h : Good s k) (hdp : ∀ j, IsReal (dp j)) : IsReal (kSink s k dp) := by
  obtain ⟨p, d, e, hL, hd, hpr, hdel, hinv, he, -, -⟩ := h.grads hdp
  rw [kSink, he, hinv, hdel]
  exact ((IsReal.coe _).mul (IsReal.coe _)).mul (IsReal.coe _)

theorem neg_sum_real {ι : Type*} (t : Finset ι) (f : ι → EReal) (h : ∀ i ∈ t, IsReal (f i)) : ∑ i ∈ t, -f i = -∑ i ∈ t, f i := by
  classical
  induction t using Finset.induction_on with
  | empty => simp
  | insert a t ha ih =>
    obtain ⟨y, hy⟩ := h a (by simp)
    rw [Finset.sum_insert ha, Finset.sum_insert ha, ih fun i hi => h i (by simp [hi]), hy,
      EReal.neg_add (.inl (EReal.coe_ne_bot y)) (.inl (EReal.coe_ne_top y)), sub_eq_add_neg]

/-- Half `i` of the window of block `n`. -/
def halfOf (n : Fin 16) (i : Fin 2) : Fin 32 := ⟨2 * n.val + i.val, by omega⟩

/-- The reference's block. -/

theorem ref_dsT (R : (argsOf x0 x1 x2 x3).Real) : val_main_v209 (F := Ideal) x0 x1 x2 x3 (ix5 n g j r a) = ((argsOf x0 x1 x2 x3).block n).ds (hd g a) r j := by
  rw [← ref_ds x0 x1 x2 x3 n g a r j R]
  pointwise [val_main_v209]

theorem ref_dq5 (R : (argsOf x0 x1 x2 x3).Real) : val_main_v210 (F := Ideal) x0 x1 x2 x3 (ix5 n g r a d) = ((argsOf x0 x1 x2 x3).block n).dq (hd g a) r d := by
  rw [Blk.dq, grp_hd]
  pointwise [val_main_v210]
  exact Finset.sum_congr rfl fun j _ => by rw [ref_dsT x0 x1 x2 x3 n g a r j R, ref_kw x0 x1 x2 x3]

theorem ref_dk4 (R : (argsOf x0 x1 x2 x3).Real) : val_main_v212 (F := Ideal) x0 x1 x2 x3 (ix4 n g j d) = ((argsOf x0 x1 x2 x3).block n).dk g j d := by
  rw [Blk.dk, Finset.sum_comm]
  pointwise [val_main_v212]
  exact Finset.sum_congr rfl fun r _ => Finset.sum_congr rfl fun a _ => by
    rw [ref_dsT x0 x1 x2 x3 n g a r j R, ref_qa x0 x1 x2 x3]

theorem ref_goT : val_main_v170 (F := Ideal) x3 (ix5 n g d a r) = ((argsOf x0 x1 x2 x3).block n).go (hd g a) r d := by
  pointwise [val_main_v170, val_main_v169]
  exact congrArg (fun c => x3 (ix2 (row n r) c)) (Fin.ext (by show g.val * 256 + a.val * 64 + d.val = 64 * (4 * g.val + a.val) + d.val; omega))

theorem ref_dv4 (R : (argsOf x0 x1 x2 x3).Real) : val_main_v172 (F := Ideal) x0 x1 x2 x3 (ix4 n g d j) = ((argsOf x0 x1 x2 x3).block n).dv g j d := by
  rw [Blk.dv]
  pointwise [val_main_v172]
  exact Finset.sum_congr rfl fun a _ => Finset.sum_congr rfl fun r _ => by
    rw [ref_goT x0 x1 x2 x3 n g a r d, ref_probs x0 x1 x2 x3, rProbs_eq (R.good n _ r), mul_comm]

/-! ## Queries -/

/-- The rotation undone, as two padded halves added. -/
theorem unrot_halves (c s : Fin 32 → EReal) (x : Fin 64 → EReal) (d : Fin 64) : unrot c s x d
    = (if h : 32 ≤ d.val ∧ d.val - 32 < 32 then
          x ⟨32 + (d.val - 32), by omega⟩ * c ⟨d.val - 32, h.2⟩ + -x ⟨d.val - 32, by omega⟩ * s ⟨d.val - 32, h.2⟩ else 0)
      + (if h : d.val < 32 then x ⟨32 + d.val, by omega⟩ * s ⟨d.val, h⟩ + x ⟨d.val, by omega⟩ * c ⟨d.val, h⟩ else 0) := by
  unfold unrot swapS
  split
  case isTrue h =>
    rw [dif_neg (by omega), zero_add, zero_sub, neg_mul, sub_eq_add_neg, neg_neg, show low d = ⟨d.val, h⟩ from Fin.ext (Nat.mod_eq_of_lt h),
      show other d = ⟨32 + d.val, by omega⟩ from Fin.ext (by show (d.val + 32) % 64 = 32 + d.val; omega), add_comm]
  case isFalse h =>
    rw [dif_pos (by omega), add_zero, neg_mul, ← sub_eq_add_neg,
      show low d = ⟨d.val - 32, by omega⟩ from Fin.ext (by show d.val % 32 = d.val - 32; omega),
      show other d = ⟨d.val - 32, by omega⟩ from Fin.ext (by show (d.val + 32) % 64 = d.val - 32; omega),
      show (⟨32 + (d.val - 32), by omega⟩ : Fin 64) = d from Fin.ext (by show 32 + (d.val - 32) = d.val; omega)]

theorem ref_dq (R : (argsOf x0 x1 x2 x3).Real) (h : Fin 16) : val_main_v214 (F := Ideal) x0 x1 x2 x3 (ix4 n r h d) = ((argsOf x0 x1 x2 x3).block n).dq h r d := by
  have e := ref_dq5 x0 x1 x2 x3 n ⟨h.val / 4, by omega⟩ ⟨h.val % 4, by omega⟩ r d R
  rw [show hd ⟨h.val / 4, by omega⟩ ⟨h.val % 4, by omega⟩ = h from Fin.ext (by show 4 * (h.val / 4) + h.val % 4 = h.val; omega)] at e
  rw [← e]
  pointwise [val_main_v214, val_main_v211]

theorem ref_dqRot (R : (argsOf x0 x1 x2 x3).Real) (h : Fin 16) : val_main_v248 (F := Ideal) x0 x1 x2 x3 (ix4 n r h d)
    = unrot (cosAt (x1 (ix1 (row n r)))) (sinAt (x1 (ix1 (row n r)))) (((argsOf x0 x1 x2 x3).block n).dq h r) d := by
  refine Eq.trans ?_ (unrot_halves _ _ _ d).symm
  pointwise [val_main_v248, val_main_v247, val_main_v246, val_main_v245, val_main_v244, val_main_v243, val_main_v242, val_main_v241,
    val_main_v240, val_main_v239, val_main_v238, val_main_v237, val_main_v236, val_main_v235, val_main_v234, val_main_v233,
    val_main_cst_32, val_main_cst_33, ref_cos, ref_sin, ref_dq x0 x1 x2 x3 _ _ _ R]

/-- The gradient of the queries. -/
theorem ref_result_dq (R : (argsOf x0 x1 x2 x3).Real) (h : Fin 16) :
    val_main_v249 (F := Ideal) x0 x1 x2 x3 (ix2 (row n r) ⟨64 * h.val + d.val, by omega⟩)
    = unrot (cosAt (x1 (ix1 (row n r)))) (sinAt (x1 (ix1 (row n r)))) (((argsOf x0 x1 x2 x3).block n).dq h r) d := by
  rw [← ref_dqRot x0 x1 x2 x3 n r d R h]
  pointwise [val_main_v249]
  exact congrArg₂ (fun n r => val_main_v248 (F := Ideal) x0 x1 x2 x3 (ix4 n r h d))
    (Fin.ext (by show (n.val * 128 + r.val) / 128 = n.val; omega)) (Fin.ext (by show (n.val * 128 + r.val) % 128 = r.val; omega))

/-! ## Keys and values -/

theorem ref_dk (R : (argsOf x0 x1 x2 x3).Real) : val_main_v213 (F := Ideal) x0 x1 x2 x3 (ix4 n j g d) = ((argsOf x0 x1 x2 x3).block n).dk g j d := by
  rw [← ref_dk4 x0 x1 x2 x3 n g j d R]
  pointwise [val_main_v213]

theorem ref_dkRot (R : (argsOf x0 x1 x2 x3).Real) : val_main_v231 (F := Ideal) x0 x1 x2 x3 (ix4 n j g d)
    = unrot (cosAt (win 0#32 (fun p => x1 (ix1 p)) n j)) (sinAt (win 0#32 (fun p => x1 (ix1 p)) n j)) (((argsOf x0 x1 x2 x3).block n).dk g j) d := by
  refine Eq.trans ?_ (unrot_halves _ _ _ d).symm
  pointwise [val_main_v231, val_main_v230, val_main_v229, val_main_v228, val_main_v227, val_main_v226, val_main_v225, val_main_v224,
    val_main_v223, val_main_v222, val_main_v221, val_main_v220, val_main_v219, val_main_v218, val_main_v217, val_main_v216,
    val_main_cst_30, val_main_cst_31, ref_wcos, ref_wsin, ref_dk x0 x1 x2 x3 _ _ _ _ R]

theorem ref_result_dk (R : (argsOf x0 x1 x2 x3).Real) (i : Fin 2) :
    val_main_v250 (F := Ideal) x0 x1 x2 x3 (ix3 (halfOf n i) r ⟨64 * g.val + d.val, by omega⟩)
    = unrot (cosAt (win 0#32 (fun p => x1 (ix1 p)) n (row2 i r))) (sinAt (win 0#32 (fun p => x1 (ix1 p)) n (row2 i r))) (((argsOf x0 x1 x2 x3).block n).dk g (row2 i r)) d := by
  rw [← ref_dkRot x0 x1 x2 x3 n g (row2 i r) d R]
  pointwise [val_main_v250, val_main_v232]
  exact congrArg₂ (fun n j => val_main_v231 (F := Ideal) x0 x1 x2 x3 (ix4 n j g d))
    (Fin.ext (by show (2 * n.val + i.val) / 2 = n.val; omega)) (Fin.ext (by show (2 * n.val + i.val) % 2 * 128 + r.val = 128 * i.val + r.val; omega))

theorem ref_result_dv (R : (argsOf x0 x1 x2 x3).Real) (i : Fin 2) :
    val_main_v251 (F := Ideal) x0 x1 x2 x3 (ix3 (halfOf n i) r ⟨64 * g.val + d.val, by omega⟩) = ((argsOf x0 x1 x2 x3).block n).dv g (row2 i r) d := by
  rw [← ref_dv4 x0 x1 x2 x3 n g (row2 i r) d R]
  pointwise [val_main_v251, val_main_v215, val_main_v173]
  exact congrArg₂ (fun n j => val_main_v172 (F := Ideal) x0 x1 x2 x3 (ix4 n g d j))
    (Fin.ext (by show (2 * n.val + i.val) / 2 = n.val; omega)) (Fin.ext (by show (2 * n.val + i.val) % 2 * 128 + r.val = 128 * i.val + r.val; omega))

/-! ## Sinks -/

theorem drop3 (i : S16x4x4x128x1.Idx) : reducesTo_S16x4x4x128x1_S4x4x1_d0_3.drop i = ix3 (i 1) (i 2) (i 4) :=
  funext fun b => by match b with | ⟨0, _⟩ => rfl | ⟨1, _⟩ => rfl | ⟨2, _⟩ => rfl
theorem drop2 (i : S1x4x4x1x1.Idx) : reducesTo_S1x4x4x1x1_S4x4_d0_3_4.drop i = ix2 (i 1) (i 2) :=
  funext fun b => by match b with | ⟨0, _⟩ => rfl | ⟨1, _⟩ => rfl

/-- A sum over blocks and rows. -/
theorem sum_blocks (x : S16x4x4x128x1.Idx → EReal) : Ideal.hostReduceAdd reducesTo_S16x4x4x128x1_S4x4x1_d0_3 x 0 (ix3 g a 0)
    = ∑ n : Fin 16, ∑ r : Fin 128, x (ix5 n g a r 0) := by
  unfold Ideal.hostReduceAdd
  rw [zero_add, ← Fintype.sum_prod_type' (fun (n : Fin 16) (r : Fin 128) => x (ix5 n g a r 0))]
  refine Finset.sum_bij' (fun i _ => ((i 0 : Fin 16), (i 3 : Fin 128))) (fun p _ => ix5 p.1 g a p.2 0) (fun _ _ => Finset.mem_univ _)
    (fun p _ => ?_) (fun i hi => ?_) (fun p _ => rfl) (fun i hi => ?_)
  · rw [Finset.mem_filter]; exact ⟨Finset.mem_univ _, drop3 _⟩
  · have e := (Finset.mem_filter.mp hi).2
    rw [drop3] at e
    have e1 : i 1 = g := congrFun e 0
    have e2 : i 2 = a := congrFun e 1
    have e4 : i 4 = (0 : Fin 1) := congrFun e 2
    rw [eq_ix5 i, e1, e2, e4]
    rfl
  · have e := (Finset.mem_filter.mp hi).2
    rw [drop3] at e
    have e1 : i 1 = g := congrFun e 0
    have e2 : i 2 = a := congrFun e 1
    have e4 : i 4 = (0 : Fin 1) := congrFun e 2
    conv_lhs => rw [eq_ix5 i, e1, e2, e4]

/-- A sum over axes of length one. -/
theorem sum_unit (x : S1x4x4x1x1.Idx → EReal) : Ideal.hostReduceAdd reducesTo_S1x4x4x1x1_S4x4_d0_3_4 x 0 (ix2 g a) = x (ix5 0 g a 0 0) := by
  unfold Ideal.hostReduceAdd
  rw [zero_add, show (Finset.univ.filter fun i : S1x4x4x1x1.Idx => reducesTo_S1x4x4x1x1_S4x4_d0_3_4.drop i = ix2 g a) = {ix5 0 g a 0 0} from ?_,
    Finset.sum_singleton]
  ext i
  rw [Finset.mem_filter, Finset.mem_singleton, drop2]
  constructor
  · rintro ⟨-, e⟩
    have e1 : i 1 = g := congrFun e 0
    have e2 : i 2 = a := congrFun e 1
    rw [eq_ix5 i, e1, e2, Fin.fin_one_eq_zero (i 0), Fin.fin_one_eq_zero (i 3), Fin.fin_one_eq_zero (i 4)]
  · rintro rfl
    exact ⟨Finset.mem_univ _, rfl⟩

theorem ref_sinkBlock (R : (argsOf x0 x1 x2 x3).Real) :
    ∑ r : Fin 128, val_main_v182 (F := Ideal) x0 x1 x2 x3 (ix5 n g a r 0) = ((argsOf x0 x1 x2 x3).block n).dsink (hd g a) := by
  rw [Blk.dsink, zero_sub, ← neg_sum_real _ _ fun r _ => kSink_real (R.good n _ r) (R.dp n _ r)]
  exact Finset.sum_congr rfl fun r _ => by rw [ref_sinkGrad, rSink_eq (R.good n _ r) (R.dp n _ r)]

theorem ref_sinkSum (R : (argsOf x0 x1 x2 x3).Real) : val_main_v183 (F := Ideal) x0 x1 x2 x3 (ix3 g a 0)
    = ∑ n, ((argsOf x0 x1 x2 x3).block n).dsink (hd g a) := by
  pointwise [val_main_v183, val_main_cst_23]
  rw [sum_blocks]
  exact Finset.sum_congr rfl fun n _ => ref_sinkBlock x0 x1 x2 x3 n g a R

theorem ref_sinkGate (R : (argsOf x0 x1 x2 x3).Real) : val_main_v195 (F := Ideal) x0 x1 x2 x3 (ix3 g a 0) = 0 := by
  pointwise [val_main_v195, val_main_cst_26]
  rw [sum_blocks]
  refine Finset.sum_eq_zero fun n _ => Finset.sum_eq_zero fun r _ => ?_
  rw [val_main_v194_apply, ref_rMax, rMax_eq (R.good n _ r) (R.dp n _ r)]
  exact zero_mul _

theorem ref_sink5 (R : (argsOf x0 x1 x2 x3).Real) : val_main_v197 (F := Ideal) x0 x1 x2 x3 (ix5 0 g a 0 0)
    = ∑ n, ((argsOf x0 x1 x2 x3).block n).dsink (hd g a) := by
  have h1 : val_main_v184 (F := Ideal) x0 x1 x2 x3 (ix5 0 g a 0 0) = val_main_v183 (F := Ideal) x0 x1 x2 x3 (ix3 g a 0) := by
    pointwise [val_main_v184]
  have h2 : val_main_v196 (F := Ideal) x0 x1 x2 x3 (ix5 0 g a 0 0) = val_main_v195 (F := Ideal) x0 x1 x2 x3 (ix3 g a 0) := by
    pointwise [val_main_v196]
  rw [val_main_v197_apply, h1, h2, ref_sinkGate x0 x1 x2 x3 g a R, ref_sinkSum x0 x1 x2 x3 g a R, Ideal.addf_def, add_zero]

theorem ref_result_sink (R : (argsOf x0 x1 x2 x3).Real) (l : Fin 128) : val_main_v253 (F := Ideal) x0 x1 x2 x3 (ix2 0 l)
    = if h : l.val < 16 then ∑ n, ((argsOf x0 x1 x2 x3).block n).dsink ⟨l.val, h⟩ else 0 := by
  pointwise [val_main_v253, val_main_v252, val_main_v205, val_main_v204, val_main_call2_v0, val_main_c_34, val_main_cst_28]
  by_cases h : l.val < 16
  · rw [dif_pos h, dif_pos h, sum_unit, ref_sink5 x0 x1 x2 x3 _ _ R]
    exact congrArg (fun h => ∑ n, ((argsOf x0 x1 x2 x3).block n).dsink h) (Fin.ext (by show 4 * (l.val / 4) + l.val % 4 = l.val; omega))
  · rw [dif_neg h, dif_neg h]
    show (((0 : ℤ) : ℝ) : EReal) = 0
    simp

end Attn
-- ==== Proof.Arrays.lean ====
/- The kernel's four result arrays are the reference's. -/
module

public import proofs.«01_k».proof.Proof.Match
public import proofs.«01_k».proof.Proof.RefGrad

@[expose] public section

set_option maxRecDepth 16384

noncomputable section

namespace Attn

open Cert.KernelIdeal Cert.KernelIdeal.Gen Cert.KernelIdeal.Value Idealize.ShloMosaic Idealize.ShloMosaic.TcCoe Idealize.SL.Sem

/-- Lane `l` of head `l / 64`, seen from its pair of heads. -/
theorem lane_pair {k : ℕ} (l : Fin (128 * k)) : laneIn l = lane ⟨l.val / 64 % 2, by omega⟩ ⟨l.val % 64, by omega⟩ :=
  Fin.ext (by show l.val % 128 = 64 * (l.val / 64 % 2) + l.val % 64; omega)

theorem head4 (l : Fin 256) : l = ⟨64 * (⟨l.val / 64, by omega⟩ : Fin 4).val + (⟨l.val % 64, by omega⟩ : Fin 64).val,
      by show 64 * (l.val / 64) + l.val % 64 < 256; omega⟩ :=
  Fin.ext (by show l.val = 64 * (l.val / 64) + l.val % 64; omega)

theorem zero_fill (j : S1x128.Idx) : k0_pay230 (F := Ideal) j = 0 := by
  pointwise [k0_pay230]

variable (m : (ℓ : Loc nD τ sig) → Buf (Elt Ideal) ℓ) (c : Dev nD)

/-- The reference's results over the run's arguments. -/
abbrev refDq : FVec Ideal S2048x1024 .f32 := Cert.ReferenceIdeal.Read.val_main_v249 (F := Ideal) (m ((c : Thread nD τ).loc main_arg0))
  (m ((c : Thread nD τ).loc main_arg1)) (m ((c : Thread nD τ).loc main_arg2)) (m ((c : Thread nD τ).loc main_arg3))
abbrev refDk : FVec Ideal S32x128x256 .f32 := Cert.ReferenceIdeal.Read.val_main_v250 (F := Ideal) (m ((c : Thread nD τ).loc main_arg0))
  (m ((c : Thread nD τ).loc main_arg1)) (m ((c : Thread nD τ).loc main_arg2)) (m ((c : Thread nD τ).loc main_arg3))
abbrev refDv : FVec Ideal S32x128x256 .f32 := Cert.ReferenceIdeal.Read.val_main_v251 (F := Ideal) (m ((c : Thread nD τ).loc main_arg0))
  (m ((c : Thread nD τ).loc main_arg1)) (m ((c : Thread nD τ).loc main_arg2)) (m ((c : Thread nD τ).loc main_arg3))
abbrev refDs : FVec Ideal S1x128 .f32 := Cert.ReferenceIdeal.Read.val_main_v253 (F := Ideal) (m ((c : Thread nD τ).loc main_arg0))
  (m ((c : Thread nD τ).loc main_arg1)) (m ((c : Thread nD τ).loc main_arg2)) (m ((c : Thread nD τ).loc main_arg3))

/-- What grid point `t` adds to the gradient of the sinks. -/
def sinkPart (t : Fin 16) (j : S1x128.Idx) : EReal := if h : (j 1).val < 16 then ((args m c).block t).dsink ⟨(j 1).val, h⟩ else 0

variable (R : (args m c).Real) (t : Fin 16)
include R

theorem dq_entry (y : S128x1024.Idx) : dqAt (ins m c t) (maskAt t) y = refDq m c (ix2 (row t (y 0)) (y 1)) := by
  have hl : (y 1 : Fin 1024) = ⟨64 * (⟨(y 1).val / 64, by have := (y 1).isLt; change _ < 1024 at this; omega⟩ : Fin 16).val + (⟨(y 1).val % 64, by omega⟩ : Fin 64).val,
      by show 64 * ((y 1).val / 64) + (y 1).val % 64 < 1024; have := (y 1).isLt; change _ < 1024 at this; omega⟩ :=
    Fin.ext (by show (y 1).val = 64 * ((y 1).val / 64) + (y 1).val % 64; omega)
  unfold dqAt
  rw [lane_pair (k := 8) (y 1)]
  refine (dqTile_apply (tables m c t) (masked t) _ (y 0) _ _).trans ?_
  rw [row_cq m c t (y 0), row_sq m c t (y 0)]
  refine Eq.trans ?_ (congrArg (fun l => refDq m c (ix2 (row t (y 0)) l)) hl.symm)
  refine Eq.trans ?_ (ref_result_dq _ _ _ _ t (y 0) _ R _).symm
  refine congrArg (fun x : Fin 64 → EReal => unrot _ _ x _) (funext fun d => ?_)
  refine ((agrees m c t).dq (R.good t) _ (y 0) d).trans ?_
  exact congrArg (fun h => ((args m c).block t).dq h (y 0) d) (Fin.ext (by show 2 * ((y 1).val / 128) + (y 1).val / 64 % 2 = (y 1).val / 64; omega))

theorem dv_entry (y : S2x128x256.Idx) : dvAt (ins m c t) (maskAt t) y = refDv m c (ix3 (halfOf t (y 0)) (y 1) (y 2)) := by
  unfold dvAt
  rw [lane_pair (k := 2) (y 2)]
  refine ((dvTile_apply (tables m c t) (masked t) (y 0) _ (y 1) _ _).trans ((agrees m c t).dv _ _ _)).trans ?_
  refine Eq.trans ?_ (congrArg (fun l => refDv m c (ix3 (halfOf t (y 0)) (y 1) l)) (head4 (y 2)).symm)
  refine Eq.trans ?_ (ref_result_dv _ _ _ _ t _ (y 1) _ R (y 0)).symm
  exact congrArg (fun h => ((args m c).block t).dv h (row2 (y 0) (y 1)) _)
    (Fin.ext (by show 2 * ((y 2).val / 128) + (y 2).val / 64 % 2 = (y 2).val / 64; omega))

/-- The tables that the kernel turns a window's key gradients back with are the reference's, inside the sequence. -/
theorem turn (g : Fin 4) (i : Fin 2) (r : Fin 128) (d : Fin 64) :
    unrot (tabRow (winC (ins m c t) i) r) (tabRow (winS (ins m c t) i) r) (((args m c).block t).dk g (row2 i r)) d
    = unrot (cosAt (win 0#32 (args m c).pos t (row2 i r))) (sinAt (win 0#32 (args m c).pos t (row2 i r))) (((args m c).block t).dk g (row2 i r)) d := by
  by_cases hv : inside t (row2 i r)
  · match i with
    | 0 =>
      have hj : (row2 0 r).val < 128 := by show 128 * 0 + r.val < 128; omega
      have hr : (⟨(row2 0 r).val, hj⟩ : Fin 128) = r := Fin.ext (by show 128 * 0 + r.val = r.val; omega)
      rw [win_prior _ _ hv hj, hr, ← row_cp m c t, ← row_sp m c t]
      rfl
    | 1 =>
      have hj : ¬(row2 1 r).val < 128 := by show ¬128 * 1 + r.val < 128; omega
      have hr (h : (row2 1 r).val - 128 < 128) : (⟨(row2 1 r).val - 128, h⟩ : Fin 128) = r := Fin.ext (by show 128 * 1 + r.val - 128 = r.val; omega)
      rw [win_self _ _ hj, hr, ← row_cq m c t, ← row_sq m c t]
      rfl
  · have h0 : ((args m c).block t).dk g (row2 i r) = fun _ => 0 := funext fun d => (agrees m c t).dk_hidden (R.good t) hv g d
    rw [h0, unrot_zero, unrot_zero]

theorem dk_entry (y : S2x128x256.Idx) : dkAt (ins m c t) (maskAt t) y = refDk m c (ix3 (halfOf t (y 0)) (y 1) (y 2)) := by
  unfold dkAt
  rw [lane_pair (k := 2) (y 2)]
  refine (dkTile_apply (tables m c t) (masked t) (y 0) _ (y 1) _ _).trans ?_
  refine Eq.trans ?_ (congrArg (fun l => refDk m c (ix3 (halfOf t (y 0)) (y 1) l)) (head4 (y 2)).symm)
  refine Eq.trans ?_ (ref_result_dk _ _ _ _ t _ (y 1) _ R (y 0)).symm
  refine Eq.trans ?_ (turn m c R t _ (y 0) (y 1) _)
  refine congrArg (fun x : Fin 64 → EReal => unrot _ _ x _) (funext fun d => ?_)
  rw [(agrees m c t).dk (R.good t)]
  exact congrArg (fun h => ((args m c).block t).dk h (row2 (y 0) (y 1)) d)
    (Fin.ext (by show 2 * ((y 2).val / 128) + (y 2).val / 64 % 2 = (y 2).val / 64; omega))

theorem final_dq : (dats m 0 c).arrAt 11 cfg0.N = refDq m c := by
  refine (dats m 0 c).arrAt_eq_of_covers 11 _ (by decide +kernel) fun t hf y => ?_
  blk_simp
  rw [after0_11, outs_dq]
  refine (dq_entry m c R t y).trans (congrArg (refDq m c) ?_)
  unfold row
  blk_ext [idx t]

theorem final_dk : (dats m 0 c).arrAt 12 cfg0.N = refDk m c := by
  refine (dats m 0 c).arrAt_eq_of_covers 12 _ (by decide +kernel) fun t hf y => ?_
  blk_simp
  rw [after0_12, outs_dk]
  refine (dk_entry m c R t y).trans (congrArg (refDk m c) ?_)
  unfold halfOf
  blk_ext [idx t]

theorem final_dv : (dats m 0 c).arrAt 13 cfg0.N = refDv m c := by
  refine (dats m 0 c).arrAt_eq_of_covers 13 _ (by decide +kernel) fun t hf y => ?_
  blk_simp
  rw [after0_13, outs_dv]
  refine (dv_entry m c R t y).trans (congrArg (refDv m c) ?_)
  unfold halfOf
  blk_ext [idx t]

theorem ds_entry (prev : FVec Ideal S1x128 .f32) (j : S1x128.Idx) :
    k0_pay231 (dsAcc (ins m c t) (maskAt t) 16) prev j = prev j + sinkPart m c t j := by
  have hj : j = ix2 0 (j 1) := by
    have h0 : j 0 = (0 : Fin 1) := Subsingleton.elim (α := Fin 1) _ _
    exact (eq_ix2 j).trans (congrArg (fun a : Fin 1 => (ix2 a (j 1) : S1x128.Idx)) h0)
  have h := dsAcc_apply (tables m c t) (masked t) (j 1) 16 le_rfl
  have h' : (if h : (j 1).val < 16 then (blk (ins m c t) (maskAt t)).dsink ⟨(j 1).val, h⟩ else 0) = sinkPart m c t j := by
    unfold sinkPart
    split
    · exact (agrees m c t).dsink (R.good t) _
    · rfl
  rw [← h', ← h, hj]
  generalize dsAcc (ins m c t) (maskAt t) 16 = acc
  pointwise [k0_pay231]

theorem sink_sum (j : S1x128.Idx) : ∑ t : Fin 16, sinkPart m c t j = refDs m c j := by
  have hj : j = (ix2 (0 : Fin 1) (j 1) : S1x128.Idx) := by
    have h0 : j 0 = (0 : Fin 1) := Subsingleton.elim (α := Fin 1) _ _
    exact (eq_ix2 j).trans (congrArg (fun a : Fin 1 => (ix2 a (j 1) : S1x128.Idx)) h0)
  refine Eq.trans ?_ ((ref_result_sink _ _ _ _ R (j 1)).symm.trans (congrArg (refDs m c) hj.symm))
  unfold sinkPart
  by_cases h : (j 1).val < 16
  · rw [dif_pos h]
    exact Finset.sum_congr rfl fun t _ => dif_pos h
  · rw [dif_neg h]
    exact Finset.sum_eq_zero fun t _ => dif_neg h

theorem final_ds : (dats m 0 c).arrAt 14 cfg0.N = refDs m c := by
  refine (dats m 0 c).arrAt_eq_of_after_last 14 t0_15 (by decide +kernel) _ fun j => ?_
  blk_simp
  rw [after0_14, Pipeline.eq_sum_fin_of_reset_step_apply_last (fun n h => (outsAt0 m c n h).2.2.2) 16 (fun _ => 0) (sinkPart m c)
    (fun t h j => by rw [outs_ds_first m c t h]; exact (ds_entry m c R t _ j).trans (congrArg (· + sinkPart m c t j) (zero_fill j)))
    (fun t h j => by rw [outs_ds_next m c t h]; exact ds_entry m c R t _ j) (by decide) t0_15 rfl j, zero_add]
  exact sink_sum m c R j

end Attn
-- ==== Proof.Finite.lean ====
/- The precondition says that every number the run is given is real. -/
module

public import Idealize.ShloMosaic.Lib.Pointwise
public import Idealize.ShloMosaic.Lib.ReduceAll
public import proofs.«01_k».proof.Proof.Gen.Pre_finite
public import proofs.«01_k».proof.Proof.RefBlock

@[expose] public section

set_option maxRecDepth 16384

noncomputable section

namespace Attn

open Cert.Pre_finite Idealize.ShloMosaic

/-- A number whose absolute value is less than infinity is real. -/
theorem real_of_abs {x : EReal} (h : FloatOps.cmpf (F := Ideal) (φ := .f32) .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by
    by_contra hn
    have h' : BitVec.ofBool (decide (max x (-x) < (⊤ : EReal))) = 1#1 := h
    rw [decide_eq_false hn] at h'
    exact absurd h' (by decide)
  refine .of_ne (fun e => ?_) (fun e => ?_) <;> subst e <;> simp at hlt

theorem real_args (x0 : Vec Ideal S2048x2560 .f32) (x1 : IVec S2048 32) (x2 : Vec Ideal S1x16 .f32) (x3 : Vec Ideal S2048x1024 .f32)
    (h : fn (F := Ideal) x0 x1 x2 x3 = fun _ => 1#1) : (argsOf x0 x1 x2 x3).Real := by
  have e := congrFun h (fun a => a.elim0)
  have and_one (a b : BitVec 1) (h : IntOp.andi a b = 1#1) : a = 1#1 ∧ b = 1#1 := by revert a b; decide
  obtain ⟨e, e3⟩ := and_one _ _ e
  obtain ⟨e0, e2⟩ := and_one _ _ e
  exact ⟨fun p c => real_of_abs (Host.reduce_andi_all _ _ _ _ _ e0 (ix2 p c)), fun h => real_of_abs (Host.reduce_andi_all _ _ _ _ _ e2 (ix2 0 h)),
    fun p c => real_of_abs (Host.reduce_andi_all _ _ _ _ _ e3 (ix2 p c))⟩

end Attn
-- ==== Proof.Claims.lean ====
/- The certified claims: both programs run and leave their arguments as they were, the named constant is the only
   rewrite, and the kernel's four results are the reference's. -/
module

public import Idealize.ShloMosaic.Lib.Claim
public import Idealize.ShloMosaic.Adequacy
public import Idealize.ShloMosaic.Init
public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Arrays
public import proofs.«01_k».proof.Proof.Finite

@[expose] public section

set_option maxRecDepth 16384

noncomputable section

namespace Attn

open Idealize.ShloMosaic Idealize.SL.Sem

/-- The kernel as printed runs to the end, leaves its arguments as they were and every counter at zero. -/
theorem frame_k : Cert.quiescent_Kernel := fun m ρ _ => Cert.Kernel.Gen.frame m ρ
/-- The same of the kernel over the extended reals, which has the printed kernel's text but for the named mask. -/
theorem frame_ki : Cert.quiescent_KernelIdeal := fun m ρ _ => Cert.KernelIdeal.Gen.frame m ρ
theorem frame_ki_pre : Cert.quiescent_KernelIdeal_pre_finite := fun m ρ _ => Cert.KernelIdeal.Gen.frame m ρ
/-- The reference runs to the end and leaves its arguments as they were; it declares no counter. -/
theorem frame_r : Cert.quiescent_ReferenceIdeal := by
  intro m g _
  exact (θ_run Cert.ReferenceIdeal.defs _ _).mono
    (fun r h => ⟨fun c => (h c).2.2.2.2, sem_eq_zero_of_no_sems (by decide) r.2⟩)
    (Cert.ReferenceIdeal.Value.run m g)
theorem frame_r_pre : Cert.quiescent_ReferenceIdeal_pre_finite := fun m g _ => frame_r m g trivial

/-- The idealized kernel differs from the printed one by the mask constant alone, -1e30 read as -∞. -/
theorem preserves : Cert.preserves_Kernel_KernelIdeal :=
  IdealRules.named_const.statement Cert.KernelIdeal.κ "mask" .f32 0xF149F2CA#32 ⊥ rfl

/-- At finite arguments the kernel's gradients of the queries, keys, values and sinks are the reference's. -/
theorem algebraic : Cert.algebraic_KernelIdeal_ReferenceIdeal_pre_finite := by
  pair_intro
  · run_from Cert.KernelIdeal.Value.run_blocks m g
  · run_from Cert.ReferenceIdeal.Value.run m' g'
    all_goals
      obtain ⟨h0, h1, h2, h3⟩ := hagree c
      have R : (args m c).Real := real_args _ _ _ _ (hpre c)
    · refine ((Cert.ReferenceIdeal.Read.val_main_v249_eq _).trans ?_).trans (final_dq m c R).symm
      simp only [StableHlo.launchContents_devRef, h0, h1, h2, h3]
    · refine ((Cert.ReferenceIdeal.Read.val_main_v250_eq _).trans ?_).trans (final_dk m c R).symm
      simp only [StableHlo.launchContents_devRef, h0, h1, h2, h3]
    · refine ((Cert.ReferenceIdeal.Read.val_main_v251_eq _).trans ?_).trans (final_dv m c R).symm
      simp only [StableHlo.launchContents_devRef, h0, h1, h2, h3]
    · refine ((Cert.ReferenceIdeal.Read.val_main_v253_eq _).trans ?_).trans (final_ds m c R).symm
      simp only [StableHlo.launchContents_devRef, h0, h1, h2, h3]

end Attn
-- ==== Proof.ProjIn.lean ====
/- The input projection `xn w_in`: every block the kernel writes is the reference's. -/
module

public import Idealize.ShloMosaic.Lib.Claim
public import Idealize.ShloMosaic.Lib.Pipeline.ValueKit
public import proofs.«01_k».proof.Defs
public import proofs.«01_k».proof.Proof.Gen.ProjIn.Frame
public import proofs.«01_k».proof.Proof.Gen.ProjInIdeal.Value
public import proofs.«01_k».proof.Proof.Gen.ProjInRefIdeal.Run
public import proofs.«01_k».proof.Proof.Gen.ProjInRefIdeal.Read

@[expose] public section

set_option maxRecDepth 16384

noncomputable section

namespace ProjIn

open Cert.ProjInIdeal Cert.ProjInIdeal.Gen Idealize.ShloMosaic Idealize.ShloMosaic.TcCoe Idealize.SL.Sem
open Cert.ProjInRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val]
    ∧ (grid0.coords t 1).val = 0 := by decide +kernel

/-- The reference's result of the run's arguments. -/
abbrev ref (a : FVec Ideal S2048x2048 .bf16) (b : FVec Ideal S2048x2560 .f32) : FVec Ideal S2048x2560 .f32 := val_main_v1 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v1, val_main_v0]
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end ProjIn
-- ==== Proof.ProjInDx.lean ====
/- The gradient of the input projection's activation, `d_proj w_inᵀ`: every block the kernel writes is the reference's. -/
module

public import Idealize.ShloMosaic.Lib.Claim
public import Idealize.ShloMosaic.Lib.Pipeline.ValueKit
public import proofs.«01_k».proof.Defs
public import proofs.«01_k».proof.Proof.Gen.ProjInDx.Frame
public import proofs.«01_k».proof.Proof.Gen.ProjInDxIdeal.Value
public import proofs.«01_k».proof.Proof.Gen.ProjInDxRefIdeal.Run
public import proofs.«01_k».proof.Proof.Gen.ProjInDxRefIdeal.Read

@[expose] public section

set_option maxRecDepth 16384

noncomputable section

namespace ProjInDx

open Cert.ProjInDxIdeal Cert.ProjInDxIdeal.Gen Idealize.ShloMosaic Idealize.ShloMosaic.TcCoe Idealize.SL.Sem
open Cert.ProjInDxRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ (grid0.coords t 1).val = 0 := by decide +kernel

/-- The reference's result of the run's arguments. -/
abbrev ref (a : FVec Ideal S2048x2560 .bf16) (b : FVec Ideal S2048x2560 .f32) : FVec Ideal S2048x2048 .f32 := val_main_v3 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v3, val_main_v2, val_main_v1, val_main_v0, val_main_cst]
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end ProjInDx
-- ==== Proof.ProjInDw.lean ====
/- The gradient of the input projection's weight, transposed: `d_projᵀ xn`: every block the kernel writes is the reference's. -/
module

public import Idealize.ShloMosaic.Lib.Claim
public import Idealize.ShloMosaic.Lib.Pipeline.ValueKit
public import proofs.«01_k».proof.Defs
public import proofs.«01_k».proof.Proof.Gen.ProjInDw.Frame
public import proofs.«01_k».proof.Proof.Gen.ProjInDwIdeal.Value
public import proofs.«01_k».proof.Proof.Gen.ProjInDwRefIdeal.Run
public import proofs.«01_k».proof.Proof.Gen.ProjInDwRefIdeal.Read

@[expose] public section

set_option maxRecDepth 16384

noncomputable section

namespace ProjInDw

open Cert.ProjInDwIdeal Cert.ProjInDwIdeal.Gen Idealize.ShloMosaic Idealize.ShloMosaic.TcCoe Idealize.SL.Sem
open Cert.ProjInDwRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 2).val, (grid0.coords t 0).val]
    ∧ win0_1.index t = ![(grid0.coords t 2).val, (grid0.coords t 1).val]
    ∧ win0_2.index t = ![(grid0.coords t 0).val, (grid0.coords t 1).val]
    ∧ (grid0.coords t 1).val = 0 ∧ (grid0.coords t 2).val = 0 := by decide +kernel

/-- The reference's result of the run's arguments. -/
abbrev ref (a : FVec Ideal S2048x2560 .bf16) (b : FVec Ideal S2048x2048 .bf16) : FVec Ideal S2560x2048 .bf16 := val_main_v7 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v7, val_main_v6, val_main_v5, val_main_v4, val_main_v3, val_main_v2, val_main_v1, val_main_v0, val_main_cst]
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end ProjInDw
-- ==== Proof.MixOut.lean ====
/- The mixer's output projection `mixed w_o`: every block the kernel writes is the reference's. -/
module

public import Idealize.ShloMosaic.Lib.Claim
public import Idealize.ShloMosaic.Lib.Pipeline.ValueKit
public import proofs.«01_k».proof.Defs
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixOutRefIdeal.Read

@[expose] public section

set_option maxRecDepth 16384

noncomputable section

namespace MixOut

open Cert.MixOutIdeal Cert.MixOutIdeal.Gen Idealize.ShloMosaic Idealize.ShloMosaic.TcCoe Idealize.SL.Sem
open Cert.MixOutRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ (grid0.coords t 1).val = 0 := by decide +kernel

/-- The reference's result of the run's arguments. -/
abbrev ref (a : FVec Ideal S2048x2048 .bf16) (b : FVec Ideal S2048x2048 .f32) : FVec Ideal S2048x2048 .f32 := val_main_v1 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v1, val_main_v0]
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end MixOut
-- ==== Proof.MixOutDx.lean ====
/- The gradient of the output projection's activation, `d_mix w_oᵀ`: every block the kernel writes is the reference's. -/
module

public import Idealize.ShloMosaic.Lib.Claim
public import Idealize.ShloMosaic.Lib.Pipeline.ValueKit
public import proofs.«01_k».proof.Defs
public import proofs.«01_k».proof.Proof.Gen.MixOutDx.Frame
public import proofs.«01_k».proof.Proof.Gen.MixOutDxIdeal.Value
public import proofs.«01_k».proof.Proof.Gen.MixOutDxRefIdeal.Run
public import proofs.«01_k».proof.Proof.Gen.MixOutDxRefIdeal.Read

@[expose] public section

set_option maxRecDepth 16384

noncomputable section

namespace MixOutDx

open Cert.MixOutDxIdeal Cert.MixOutDxIdeal.Gen Idealize.ShloMosaic Idealize.ShloMosaic.TcCoe Idealize.SL.Sem
open Cert.MixOutDxRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val]
    ∧ (grid0.coords t 1).val = 0 := by decide +kernel

/-- The reference's result of the run's arguments. -/
abbrev ref (a : FVec Ideal S2048x2048 .bf16) (b : FVec Ideal S2048x2048 .f32) : FVec Ideal S2048x2048 .f32 := val_main_v3 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v3, val_main_v2, val_main_v1, val_main_v0, val_main_cst]
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end MixOutDx
-- ==== Proof.MixOutDw.lean ====
/- The gradient of the output projection's weight, `mixedᵀ d_mix`: every block the kernel writes is the reference's. -/
module

public import Idealize.ShloMosaic.Lib.Claim
public import Idealize.ShloMosaic.Lib.Pipeline.ValueKit
public import proofs.«01_k».proof.Defs
public import proofs.«01_k».proof.Proof.Gen.MixOutDw.Frame
public import proofs.«01_k».proof.Proof.Gen.MixOutDwIdeal.Value
public import proofs.«01_k».proof.Proof.Gen.MixOutDwRefIdeal.Run
public import proofs.«01_k».proof.Proof.Gen.MixOutDwRefIdeal.Read

@[expose] public section

set_option maxRecDepth 16384

noncomputable section

namespace MixOutDw

open Cert.MixOutDwIdeal Cert.MixOutDwIdeal.Gen Idealize.ShloMosaic Idealize.ShloMosaic.TcCoe Idealize.SL.Sem
open Cert.MixOutDwRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 2).val, (grid0.coords t 0).val]
    ∧ win0_1.index t = ![(grid0.coords t 2).val, (grid0.coords t 1).val]
    ∧ win0_2.index t = ![(grid0.coords t 0).val, (grid0.coords t 1).val]
    ∧ (grid0.coords t 1).val = 0 ∧ (grid0.coords t 2).val = 0 := by decide +kernel

/-- The reference's result of the run's arguments. -/
abbrev ref (a : FVec Ideal S2048x2048 .bf16) (b : FVec Ideal S2048x2048 .bf16) : FVec Ideal S2048x2048 .bf16 := val_main_v6 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v6, val_main_v5, val_main_v4, val_main_v3, val_main_v2, val_main_v1, val_main_v0, val_main_cst]
  refine Finset.sum_congr rfl fun k _ => (mul_comm _ _).trans ?_
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end MixOutDw
-- ==== Proof.Gelu.lean ====
/- The kernel's spelling of gelu is the reference's: the same factors, associated differently. -/
module

public import Idealize.ShloMosaic.Lib.Claim
public import Idealize.ShloMosaic.Lib.Pipeline.ValueKit

@[expose] public section

namespace Gelu

open Idealize.ShloMosaic

/-- `(h x)(1 + tanh (k (x + a x x x)))`, the kernel's products from the left, is
    `x (h (1 + tanh (k (x + a (x x x)))))`; products of extended reals associate and commute. -/
theorem spelling (h k a x : EReal) :
    h * x * (1 + Ideal.tanh (k * (x + a * x * x * x))) = x * (h * (1 + Ideal.tanh (k * (x + a * (x * x * x))))) := by
  rw [mul_comm h x, mul_assoc x h, mul_assoc a, mul_assoc a]

end Gelu
-- ==== Proof.GluGate.lean ====
/- The gate's product `gelu(y) w_glu`: every block the kernel writes is the reference's. -/
module

public import Idealize.ShloMosaic.Lib.Claim
public import Idealize.ShloMosaic.Lib.Pipeline.ValueKit
public import proofs.«01_k».proof.Defs
public import proofs.«01_k».proof.Proof.Gen.GluGate.Frame
public import proofs.«01_k».proof.Proof.Gen.GluGateIdeal.Value
public import proofs.«01_k».proof.Proof.Gen.GluGateRefIdeal.Run
public import proofs.«01_k».proof.Proof.Gen.GluGateRefIdeal.Read
public import proofs.«01_k».proof.Proof.Gelu

@[expose] public section

set_option maxRecDepth 16384

noncomputable section

namespace GluGate

open Cert.GluGateIdeal Cert.GluGateIdeal.Gen Idealize.ShloMosaic Idealize.ShloMosaic.TcCoe Idealize.SL.Sem
open Cert.GluGateRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ (grid0.coords t 1).val = 0 := by decide +kernel

/-- The reference's result of the run's arguments. -/
abbrev ref (a : FVec Ideal S2048x1024 .f32) (b : FVec Ideal S1024x1024 .f32) : FVec Ideal S2048x1024 .f32 := val_main_v13 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v13, val_main_v12, val_main_v11, val_main_v10, val_main_cst_2, val_main_v9, val_main_v8, val_main_cst_1, val_main_v7, val_main_v6, val_main_v5, val_main_cst_0, val_main_v4, val_main_v3, val_main_v2, val_main_cst, val_main_v1, val_main_v0]
  simp only [Gelu.spelling]
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end GluGate
-- ==== Proof.GluGateDx.lean ====
/- The gradient of the gate's activation, `d_glu w_gluᵀ`: every block the kernel writes is the reference's. -/
module

public import Idealize.ShloMosaic.Lib.Claim
public import Idealize.ShloMosaic.Lib.Pipeline.ValueKit
public import proofs.«01_k».proof.Defs
public import proofs.«01_k».proof.Proof.Gen.GluGateDx.Frame
public import proofs.«01_k».proof.Proof.Gen.GluGateDxIdeal.Value
public import proofs.«01_k».proof.Proof.Gen.GluGateDxRefIdeal.Run
public import proofs.«01_k».proof.Proof.Gen.GluGateDxRefIdeal.Read

@[expose] public section

set_option maxRecDepth 16384

noncomputable section

namespace GluGateDx

open Cert.GluGateDxIdeal Cert.GluGateDxIdeal.Gen Idealize.ShloMosaic Idealize.ShloMosaic.TcCoe Idealize.SL.Sem
open Cert.GluGateDxRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val]
    ∧ (grid0.coords t 1).val = 0 := by decide +kernel

/-- The reference's result of the run's arguments. -/
abbrev ref (a : FVec Ideal S2048x1024 .bf16) (b : FVec Ideal S1024x1024 .f32) : FVec Ideal S2048x1024 .f32 := val_main_v3 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v3, val_main_v2, val_main_v1, val_main_v0, val_main_cst]
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end GluGateDx
-- ==== Proof.GluGateDw.lean ====
/- The gradient of the gate's weight, `gelu(y)ᵀ d_glu`: every block the kernel writes is the reference's. -/
module

public import Idealize.ShloMosaic.Lib.Claim
public import Idealize.ShloMosaic.Lib.Pipeline.ValueKit
public import proofs.«01_k».proof.Defs
public import proofs.«01_k».proof.Proof.Gen.GluGateDw.Frame
public import proofs.«01_k».proof.Proof.Gen.GluGateDwIdeal.Value
public import proofs.«01_k».proof.Proof.Gen.GluGateDwRefIdeal.Run
public import proofs.«01_k».proof.Proof.Gen.GluGateDwRefIdeal.Read
public import proofs.«01_k».proof.Proof.Gelu

@[expose] public section

set_option maxRecDepth 16384

noncomputable section

namespace GluGateDw

open Cert.GluGateDwIdeal Cert.GluGateDwIdeal.Gen Idealize.ShloMosaic Idealize.ShloMosaic.TcCoe Idealize.SL.Sem
open Cert.GluGateDwRefIdeal.Read

variable (m : (ℓ : Loc nD τ sig) → Buf (Elt Ideal) ℓ) (c : Dev nD)

/-- The windows' places: the result's rows and columns say which of the operands' are read. -/
theorem idx : ∀ t : Fin cfg0.N, win0_0.index t = ![(grid0.coords t 2).val, (grid0.coords t 0).val]
    ∧ win0_1.index t = ![(grid0.coords t 2).val, (grid0.coords t 1).val]
    ∧ win0_2.index t = ![(grid0.coords t 0).val, (grid0.coords t 1).val]
    ∧ (grid0.coords t 1).val = 0 ∧ (grid0.coords t 2).val = 0 := by decide +kernel

/-- The reference's result of the run's arguments. -/
abbrev ref (a : FVec Ideal S2048x1024 .f32) (b : FVec Ideal S2048x1024 .bf16) : FVec Ideal S1024x1024 .bf16 := val_main_v18 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v18, val_main_v17, val_main_v16, val_main_v15, val_main_v14, val_main_v13, val_main_v12, val_main_v11, val_main_cst_3, val_main_v10, val_main_v9, val_main_cst_2, val_main_v8, val_main_v7, val_main_v6, val_main_cst_1, val_main_v5, val_main_v4, val_main_v3, val_main_cst_0, val_main_v2, val_main_v1, val_main_v0, val_main_cst]
  simp only [Gelu.spelling]
  refine Finset.sum_congr rfl fun k _ => (mul_comm _ _).trans ?_
  blk_point [iblk, V, idx t]

/-- So the kernel's result is the reference's. -/
theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end GluGateDw
-- ==== Proof.ProductClaims.lean ====
/- The mixer's nine products as certified: frames, and the kernel's result equal to the reference's. -/
module

public import Idealize.ShloMosaic.Lib.Claim
public import proofs.«01_k».proof.Defs
public import proofs.«01_k».proof.Proof.Gen.ProjIn.Frame
public import proofs.«01_k».proof.Proof.ProjIn
public import proofs.«01_k».proof.Proof.Gen.ProjInDx.Frame
public import proofs.«01_k».proof.Proof.ProjInDx
public import proofs.«01_k».proof.Proof.Gen.ProjInDw.Frame
public import proofs.«01_k».proof.Proof.ProjInDw
public import proofs.«01_k».proof.Proof.Gen.MixOut.Frame
public import proofs.«01_k».proof.Proof.MixOut
public import proofs.«01_k».proof.Proof.Gen.MixOutDx.Frame
public import proofs.«01_k».proof.Proof.MixOutDx
public import proofs.«01_k».proof.Proof.Gen.MixOutDw.Frame
public import proofs.«01_k».proof.Proof.MixOutDw
public import proofs.«01_k».proof.Proof.Gen.GluGate.Frame
public import proofs.«01_k».proof.Proof.GluGate
public import proofs.«01_k».proof.Proof.Gen.GluGateDx.Frame
public import proofs.«01_k».proof.Proof.GluGateDx
public import proofs.«01_k».proof.Proof.Gen.GluGateDw.Frame
public import proofs.«01_k».proof.Proof.GluGateDw

@[expose] public section

set_option maxRecDepth 16384

open Idealize.ShloMosaic Idealize.ShloMosaic.TcCoe Idealize.SL.Sem

namespace ProjIn

theorem frame_k : Cert.quiescent_ProjIn := fun m ρ _ => Cert.ProjIn.Gen.frame m ρ
theorem frame_ki : Cert.quiescent_ProjInIdeal := fun m ρ _ => Cert.ProjInIdeal.Gen.frame m ρ
theorem frame_r : Cert.quiescent_ProjInRefIdeal := by
  intro m g _
  exact (θ_run Cert.ProjInRefIdeal.defs _ _).mono
    (fun r h => ⟨fun c => (h c).2, sem_eq_zero_of_no_sems (by decide) r.2⟩)
    (Cert.ProjInRefIdeal.Value.run m g)
theorem preserves : Cert.preserves_ProjIn_ProjInIdeal := trivial

theorem algebraic : Cert.algebraic_ProjInIdeal_ProjInRefIdeal := by
  pair_intro
  · run_from Cert.ProjInIdeal.Value.run_blocks m g
  · run_from Cert.ProjInRefIdeal.Value.run m' g'
    all_goals obtain ⟨h0, h1⟩ := hagree c
    · refine ((Cert.ProjInRefIdeal.Read.val_main_v1_eq _ _).trans ?_).trans (final m c).symm
      simp only [h0, h1]

end ProjIn

namespace ProjInDx

theorem frame_k : Cert.quiescent_ProjInDx := fun m ρ _ => Cert.ProjInDx.Gen.frame m ρ
theorem frame_ki : Cert.quiescent_ProjInDxIdeal := fun m ρ _ => Cert.ProjInDxIdeal.Gen.frame m ρ
theorem frame_r : Cert.quiescent_ProjInDxRefIdeal := by
  intro m g _
  exact (θ_run Cert.ProjInDxRefIdeal.defs _ _).mono
    (fun r h => ⟨fun c => (h c).2, sem_eq_zero_of_no_sems (by decide) r.2⟩)
    (Cert.ProjInDxRefIdeal.Value.run m g)
theorem preserves : Cert.preserves_ProjInDx_ProjInDxIdeal := trivial

theorem algebraic : Cert.algebraic_ProjInDxIdeal_ProjInDxRefIdeal := by
  pair_intro
  · run_from Cert.ProjInDxIdeal.Value.run_blocks m g
  · run_from Cert.ProjInDxRefIdeal.Value.run m' g'
    all_goals obtain ⟨h0, h1⟩ := hagree c
    · refine ((Cert.ProjInDxRefIdeal.Read.val_main_v3_eq _ _).trans ?_).trans (final m c).symm
      simp only [h0, h1]

end ProjInDx

namespace ProjInDw

theorem frame_k : Cert.quiescent_ProjInDw := fun m ρ _ => Cert.ProjInDw.Gen.frame m ρ
theorem frame_ki : Cert.quiescent_ProjInDwIdeal := fun m ρ _ => Cert.ProjInDwIdeal.Gen.frame m ρ
theorem frame_r : Cert.quiescent_ProjInDwRefIdeal := by
  intro m g _
  exact (θ_run Cert.ProjInDwRefIdeal.defs _ _).mono
    (fun r h => ⟨fun c => (h c).2, sem_eq_zero_of_no_sems (by decide) r.2⟩)
    (Cert.ProjInDwRefIdeal.Value.run m g)
theorem preserves : Cert.preserves_ProjInDw_ProjInDwIdeal := trivial

theorem algebraic : Cert.algebraic_ProjInDwIdeal_ProjInDwRefIdeal := by
  pair_intro
  · run_from Cert.ProjInDwIdeal.Value.run_blocks m g
  · run_from Cert.ProjInDwRefIdeal.Value.run m' g'
    all_goals obtain ⟨h0, h1⟩ := hagree c
    · refine ((Cert.ProjInDwRefIdeal.Read.val_main_v7_eq _ _).trans ?_).trans (final m c).symm
      simp only [h0, h1]

end ProjInDw

namespace MixOut

theorem frame_k : Cert.quiescent_MixOut := fun m ρ _ => Cert.MixOut.Gen.frame m ρ
theorem frame_ki : Cert.quiescent_MixOutIdeal := fun m ρ _ => Cert.MixOutIdeal.Gen.frame m ρ
theorem frame_r : Cert.quiescent_MixOutRefIdeal := by
  intro m g _
  exact (θ_run Cert.MixOutRefIdeal.defs _ _).mono
    (fun r h => ⟨fun c => (h c).2, sem_eq_zero_of_no_sems (by decide) r.2⟩)
    (Cert.MixOutRefIdeal.Value.run m g)
theorem preserves : Cert.preserves_MixOut_MixOutIdeal := trivial

theorem algebraic : Cert.algebraic_MixOutIdeal_MixOutRefIdeal := by
  pair_intro
  · run_from Cert.MixOutIdeal.Value.run_blocks m g
  · run_from Cert.MixOutRefIdeal.Value.run m' g'
    all_goals obtain ⟨h0, h1⟩ := hagree c
    · refine ((Cert.MixOutRefIdeal.Read.val_main_v1_eq _ _).trans ?_).trans (final m c).symm
      simp only [h0, h1]

end MixOut

namespace MixOutDx

theorem frame_k : Cert.quiescent_MixOutDx := fun m ρ _ => Cert.MixOutDx.Gen.frame m ρ
theorem frame_ki : Cert.quiescent_MixOutDxIdeal := fun m ρ _ => Cert.MixOutDxIdeal.Gen.frame m ρ
theorem frame_r : Cert.quiescent_MixOutDxRefIdeal := by
  intro m g _
  exact (θ_run Cert.MixOutDxRefIdeal.defs _ _).mono
    (fun r h => ⟨fun c => (h c).2, sem_eq_zero_of_no_sems (by decide) r.2⟩)
    (Cert.MixOutDxRefIdeal.Value.run m g)
theorem preserves : Cert.preserves_MixOutDx_MixOutDxIdeal := trivial

theorem algebraic : Cert.algebraic_MixOutDxIdeal_MixOutDxRefIdeal := by
  pair_intro
  · run_from Cert.MixOutDxIdeal.Value.run_blocks m g
  · run_from Cert.MixOutDxRefIdeal.Value.run m' g'
    all_goals obtain ⟨h0, h1⟩ := hagree c
    · refine ((Cert.MixOutDxRefIdeal.Read.val_main_v3_eq _ _).trans ?_).trans (final m c).symm
      simp only [h0, h1]

end MixOutDx

namespace MixOutDw

theorem frame_k : Cert.quiescent_MixOutDw := fun m ρ _ => Cert.MixOutDw.Gen.frame m ρ
theorem frame_ki : Cert.quiescent_MixOutDwIdeal := fun m ρ _ => Cert.MixOutDwIdeal.Gen.frame m ρ
theorem frame_r : Cert.quiescent_MixOutDwRefIdeal := by
  intro m g _
  exact (θ_run Cert.MixOutDwRefIdeal.defs _ _).mono
    (fun r h => ⟨fun c => (h c).2, sem_eq_zero_of_no_sems (by decide) r.2⟩)
    (Cert.MixOutDwRefIdeal.Value.run m g)
theorem preserves : Cert.preserves_MixOutDw_MixOutDwIdeal := trivial

theorem algebraic : Cert.algebraic_MixOutDwIdeal_MixOutDwRefIdeal := by
  pair_intro
  · run_from Cert.MixOutDwIdeal.Value.run_blocks m g
  · run_from Cert.MixOutDwRefIdeal.Value.run m' g'
    all_goals obtain ⟨h0, h1⟩ := hagree c
    · refine ((Cert.MixOutDwRefIdeal.Read.val_main_v6_eq _ _).trans ?_).trans (final m c).symm
      simp only [h0, h1]

end MixOutDw

namespace GluGate

theorem frame_k : Cert.quiescent_GluGate := fun m ρ _ => Cert.GluGate.Gen.frame m ρ
theorem frame_ki : Cert.quiescent_GluGateIdeal := fun m ρ _ => Cert.GluGateIdeal.Gen.frame m ρ
theorem frame_r : Cert.quiescent_GluGateRefIdeal := by
  intro m g _
  exact (θ_run Cert.GluGateRefIdeal.defs _ _).mono
    (fun r h => ⟨fun c => (h c).2, sem_eq_zero_of_no_sems (by decide) r.2⟩)
    (Cert.GluGateRefIdeal.Value.run m g)
theorem preserves : Cert.preserves_GluGate_GluGateIdeal := trivial

theorem algebraic : Cert.algebraic_GluGateIdeal_GluGateRefIdeal := by
  pair_intro
  · run_from Cert.GluGateIdeal.Value.run_blocks m g
  · run_from Cert.GluGateRefIdeal.Value.run m' g'
    all_goals obtain ⟨h0, h1⟩ := hagree c
    · refine ((Cert.GluGateRefIdeal.Read.val_main_v13_eq _ _).trans ?_).trans (final m c).symm
      simp only [h0, h1]

end GluGate

namespace GluGateDx

theorem frame_k : Cert.quiescent_GluGateDx := fun m ρ _ => Cert.GluGateDx.Gen.frame m ρ
theorem frame_ki : Cert.quiescent_GluGateDxIdeal := fun m ρ _ => Cert.GluGateDxIdeal.Gen.frame m ρ
theorem frame_r : Cert.quiescent_GluGateDxRefIdeal := by
  intro m g _
  exact (θ_run Cert.GluGateDxRefIdeal.defs _ _).mono
    (fun r h => ⟨fun c => (h c).2, sem_eq_zero_of_no_sems (by decide) r.2⟩)
    (Cert.GluGateDxRefIdeal.Value.run m g)
theorem preserves : Cert.preserves_GluGateDx_GluGateDxIdeal := trivial

theorem algebraic : Cert.algebraic_GluGateDxIdeal_GluGateDxRefIdeal := by
  pair_intro
  · run_from Cert.GluGateDxIdeal.Value.run_blocks m g
  · run_from Cert.GluGateDxRefIdeal.Value.run m' g'
    all_goals obtain ⟨h0, h1⟩ := hagree c
    · refine ((Cert.GluGateDxRefIdeal.Read.val_main_v3_eq _ _).trans ?_).trans (final m c).symm
      simp only [h0, h1]

end GluGateDx

namespace GluGateDw

theorem frame_k : Cert.quiescent_GluGateDw := fun m ρ _ => Cert.GluGateDw.Gen.frame m ρ
theorem frame_ki : Cert.quiescent_GluGateDwIdeal := fun m ρ _ => Cert.GluGateDwIdeal.Gen.frame m ρ
theorem frame_r : Cert.quiescent_GluGateDwRefIdeal := by
  intro m g _
  exact (θ_run Cert.GluGateDwRefIdeal.defs _ _).mono
    (fun r h => ⟨fun c => (h c).2, sem_eq_zero_of_no_sems (by decide) r.2⟩)
    (Cert.GluGateDwRefIdeal.Value.run m g)
theorem preserves : Cert.preserves_GluGateDw_GluGateDwIdeal := trivial

theorem algebraic : Cert.algebraic_GluGateDwIdeal_GluGateDwRefIdeal := by
  pair_intro
  · run_from Cert.GluGateDwIdeal.Value.run_blocks m g
  · run_from Cert.GluGateDwRefIdeal.Value.run m' g'
    all_goals obtain ⟨h0, h1⟩ := hagree c
    · refine ((Cert.GluGateDwRefIdeal.Read.val_main_v18_eq _ _).trans ?_).trans (final m c).symm
      simp only [h0, h1]

end GluGateDw
-- ==== Proof.AdamFfn.lean ====
/- The update of the feed-forward weights (one text for the three): the gradient summed over the chips, the moments, the step. -/
module

public import Idealize.ShloMosaic.Lib.Claim
public import Idealize.ShloMosaic.Lib.Pipeline.ValueKit
public import proofs.«01_k».proof.Defs
public import proofs.«01_k».proof.Proof.Gen.AdamFfn.Frame
public import proofs.«01_k».proof.Proof.Gen.AdamFfnIdeal.Value
public import proofs.«01_k».proof.Proof.Gen.AdamFfnRefIdeal.Run
public import proofs.«01_k».proof.Proof.Gen.AdamFfnRefIdeal.Read

@[expose] public section

set_option maxRecDepth 16384

noncomputable section

namespace AdamFfn

open Cert.AdamFfnIdeal Cert.AdamFfnIdeal.Gen Idealize.ShloMosaic Idealize.ShloMosaic.TcCoe Idealize.SL.Sem
open Cert.AdamFfnRefIdeal.Read

variable (m : (ℓ : Loc nD τ sig) → Buf (Elt Ideal) ℓ) (c : Dev nD)

/-- Every window moves along the rows. -/
theorem idx : ∀ t : Fin cfg0.N, win0_0.index t = ![0, (grid0.coords t 0).val, 0]
    ∧ win0_1.index t = ![(grid0.coords t 0).val, 0] ∧ win0_2.index t = ![(grid0.coords t 0).val, 0]
    ∧ win0_3.index t = ![(grid0.coords t 0).val, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] := by decide +kernel

/-- The reference's gradient of the chips' parts. -/
abbrev grad (g : FVec Ideal S4x704x2048 .bf16) : FVec Ideal S704x2048 .f32 := val_main_v1 (F := Ideal) g
/-- The reference's step, of the parts, the weight and the two moments. -/
abbrev delta (g : FVec Ideal S4x704x2048 .bf16) (w p q : FVec Ideal S704x2048 .f32) : FVec Ideal S704x2048 .f32 := val_main_v25 (F := Ideal) g w p q
/-- The reference's first moment after the step. -/
abbrev first (g : FVec Ideal S4x704x2048 .bf16) (p : FVec Ideal S704x2048 .f32) : FVec Ideal S704x2048 .f32 := val_main_v6 (F := Ideal) g p
/-- The reference's second moment after the step. -/
abbrev second (g : FVec Ideal S4x704x2048 .bf16) (q : FVec Ideal S704x2048 .f32) : FVec Ideal S704x2048 .f32 := val_main_v12 (F := Ideal) g q

/-- The gradient the kernel returns is the reference's. -/
theorem final_grad : (dats m 0 c).arrAt 4 cfg0.N = grad (m ((c : Thread nD τ).loc main_arg0)) := by
  refine (dats m 0 c).arrAt_eq_of_covers 4 _ (by decide +kernel) fun t _ y => ?_
  blk_simp
  rw [after0_4]; frame_out
  pointwise [k0_pay1, k0_pay6, k0_pay5, k0_pay4, k0_pay3, k0_pay2, grad, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its step is the reference's. -/
theorem final_delta : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay6, k0_pay5, k0_pay4, k0_pay3, k0_pay2, delta, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its first moment is the reference's. -/
theorem final_first : (dats m 0 c).arrAt 6 cfg0.N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay6, k0_pay5, k0_pay4, k0_pay3, k0_pay2, first, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its second moment is the reference's. -/
theorem final_second : (dats m 0 c).arrAt 7 cfg0.N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay6, k0_pay5, k0_pay4, k0_pay3, k0_pay2, second, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

end AdamFfn
-- ==== Proof.AdamIn.lean ====
/- The update of the input projection's weight: the gradient summed over the chips, the moments, the step. -/
module

public import Idealize.ShloMosaic.Lib.Claim
public import Idealize.ShloMosaic.Lib.Pipeline.ValueKit
public import proofs.«01_k».proof.Defs
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read

@[expose] public section

set_option maxRecDepth 16384

noncomputable section

namespace AdamIn

open Cert.AdamInIdeal Cert.AdamInIdeal.Gen Idealize.ShloMosaic Idealize.ShloMosaic.TcCoe Idealize.SL.Sem
open Cert.AdamInRefIdeal.Read

variable (m : (ℓ : Loc nD τ sig) → Buf (Elt Ideal) ℓ) (c : Dev nD)

/-- Every window moves along the rows. -/
theorem idx : ∀ t : Fin cfg0.N, win0_0.index t = ![0, (grid0.coords t 0).val, 0]
    ∧ win0_1.index t = ![(grid0.coords t 0).val, 0] ∧ win0_2.index t = ![(grid0.coords t 0).val, 0]
    ∧ win0_3.index t = ![(grid0.coords t 0).val, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] := by decide +kernel

/-- The reference's gradient of the chips' parts. -/
abbrev grad (g : FVec Ideal S4x320x2048 .bf16) : FVec Ideal S320x2048 .f32 := val_main_v1 (F := Ideal) g
/-- The reference's step, of the parts, the weight and the two moments. -/
abbrev delta (g : FVec Ideal S4x320x2048 .bf16) (w p q : FVec Ideal S320x2048 .f32) : FVec Ideal S320x2048 .f32 := val_main_v25 (F := Ideal) g w p q
/-- The reference's first moment after the step. -/
abbrev first (g : FVec Ideal S4x320x2048 .bf16) (p : FVec Ideal S320x2048 .f32) : FVec Ideal S320x2048 .f32 := val_main_v6 (F := Ideal) g p
/-- The reference's second moment after the step. -/
abbrev second (g : FVec Ideal S4x320x2048 .bf16) (q : FVec Ideal S320x2048 .f32) : FVec Ideal S320x2048 .f32 := val_main_v12 (F := Ideal) g q

/-- The gradient the kernel returns is the reference's. -/
theorem final_grad : (dats m 0 c).arrAt 4 cfg0.N = grad (m ((c : Thread nD τ).loc main_arg0)) := by
  refine (dats m 0 c).arrAt_eq_of_covers 4 _ (by decide +kernel) fun t _ y => ?_
  blk_simp
  rw [after0_4]; frame_out
  pointwise [k0_pay1, k0_pay6, k0_pay5, k0_pay4, k0_pay3, k0_pay2, grad, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its step is the reference's. -/
theorem final_delta : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay6, k0_pay5, k0_pay4, k0_pay3, k0_pay2, delta, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its first moment is the reference's. -/
theorem final_first : (dats m 0 c).arrAt 6 cfg0.N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay6, k0_pay5, k0_pay4, k0_pay3, k0_pay2, first, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its second moment is the reference's. -/
theorem final_second : (dats m 0 c).arrAt 7 cfg0.N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay6, k0_pay5, k0_pay4, k0_pay3, k0_pay2, second, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

end AdamIn
-- ==== Proof.AdamO.lean ====
/- The update of the output projection's weight: the gradient summed over the chips, the moments, the step. -/
module

public import Idealize.ShloMosaic.Lib.Claim
public import Idealize.ShloMosaic.Lib.Pipeline.ValueKit
public import proofs.«01_k».proof.Defs
public import proofs.«01_k».proof.Proof.Gen.AdamO.Frame
public import proofs.«01_k».proof.Proof.Gen.AdamOIdeal.Value
public import proofs.«01_k».proof.Proof.Gen.AdamORefIdeal.Run
public import proofs.«01_k».proof.Proof.Gen.AdamORefIdeal.Read

@[expose] public section

set_option maxRecDepth 16384

noncomputable section

namespace AdamO

open Cert.AdamOIdeal Cert.AdamOIdeal.Gen Idealize.ShloMosaic Idealize.ShloMosaic.TcCoe Idealize.SL.Sem
open Cert.AdamORefIdeal.Read

variable (m : (ℓ : Loc nD τ sig) → Buf (Elt Ideal) ℓ) (c : Dev nD)

/-- Every window moves along the rows. -/
theorem idx : ∀ t : Fin cfg0.N, win0_0.index t = ![0, (grid0.coords t 0).val, 0]
    ∧ win0_1.index t = ![(grid0.coords t 0).val, 0] ∧ win0_2.index t = ![(grid0.coords t 0).val, 0]
    ∧ win0_3.index t = ![(grid0.coords t 0).val, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] := by decide +kernel

/-- The reference's gradient of the chips' parts. -/
abbrev grad (g : FVec Ideal S4x256x2048 .bf16) : FVec Ideal S256x2048 .f32 := val_main_v1 (F := Ideal) g
/-- The reference's step, of the parts, the weight and the two moments. -/
abbrev delta (g : FVec Ideal S4x256x2048 .bf16) (w p q : FVec Ideal S256x2048 .f32) : FVec Ideal S256x2048 .f32 := val_main_v25 (F := Ideal) g w p q
/-- The reference's first moment after the step. -/
abbrev first (g : FVec Ideal S4x256x2048 .bf16) (p : FVec Ideal S256x2048 .f32) : FVec Ideal S256x2048 .f32 := val_main_v6 (F := Ideal) g p
/-- The reference's second moment after the step. -/
abbrev second (g : FVec Ideal S4x256x2048 .bf16) (q : FVec Ideal S256x2048 .f32) : FVec Ideal S256x2048 .f32 := val_main_v12 (F := Ideal) g q

/-- The gradient the kernel returns is the reference's. -/
theorem final_grad : (dats m 0 c).arrAt 4 cfg0.N = grad (m ((c : Thread nD τ).loc main_arg0)) := by
  refine (dats m 0 c).arrAt_eq_of_covers 4 _ (by decide +kernel) fun t _ y => ?_
  blk_simp
  rw [after0_4]; frame_out
  pointwise [k0_pay1, k0_pay6, k0_pay5, k0_pay4, k0_pay3, k0_pay2, grad, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its step is the reference's. -/
theorem final_delta : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay6, k0_pay5, k0_pay4, k0_pay3, k0_pay2, delta, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its first moment is the reference's. -/
theorem final_first : (dats m 0 c).arrAt 6 cfg0.N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay6, k0_pay5, k0_pay4, k0_pay3, k0_pay2, first, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its second moment is the reference's. -/
theorem final_second : (dats m 0 c).arrAt 7 cfg0.N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay6, k0_pay5, k0_pay4, k0_pay3, k0_pay2, second, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

end AdamO
-- ==== Proof.AdamGlu.lean ====
/- The update of the gate's weight: the gradient summed over the chips, the moments, the step. -/
module

public import Idealize.ShloMosaic.Lib.Claim
public import Idealize.ShloMosaic.Lib.Pipeline.ValueKit
public import proofs.«01_k».proof.Defs
public import proofs.«01_k».proof.Proof.Gen.AdamGlu.Frame
public import proofs.«01_k».proof.Proof.Gen.AdamGluIdeal.Value
public import proofs.«01_k».proof.Proof.Gen.AdamGluRefIdeal.Run
public import proofs.«01_k».proof.Proof.Gen.AdamGluRefIdeal.Read

@[expose] public section

set_option maxRecDepth 16384

noncomputable section

namespace AdamGlu

open Cert.AdamGluIdeal Cert.AdamGluIdeal.Gen Idealize.ShloMosaic Idealize.ShloMosaic.TcCoe Idealize.SL.Sem
open Cert.AdamGluRefIdeal.Read

variable (m : (ℓ : Loc nD τ sig) → Buf (Elt Ideal) ℓ) (c : Dev nD)

/-- Every window moves along the rows. -/
theorem idx : ∀ t : Fin cfg0.N, win0_0.index t = ![0, (grid0.coords t 0).val, 0]
    ∧ win0_1.index t = ![(grid0.coords t 0).val, 0] ∧ win0_2.index t = ![(grid0.coords t 0).val, 0]
    ∧ win0_3.index t = ![(grid0.coords t 0).val, 0] ∧ win0_4.index t = ![(grid0.coords t 0).val, 0]
    ∧ win0_5.index t = ![(grid0.coords t 0).val, 0] ∧ win0_6.index t = ![(grid0.coords t 0).val, 0]
    ∧ win0_7.index t = ![(grid0.coords t 0).val, 0] := by decide +kernel

/-- The reference's gradient of the chips' parts. -/
abbrev grad (g : FVec Ideal S4x128x1024 .bf16) : FVec Ideal S128x1024 .f32 := val_main_v1 (F := Ideal) g
/-- The reference's step, of the parts, the weight and the two moments. -/
abbrev delta (g : FVec Ideal S4x128x1024 .bf16) (w p q : FVec Ideal S128x1024 .f32) : FVec Ideal S128x1024 .f32 := val_main_v25 (F := Ideal) g w p q
/-- The reference's first moment after the step. -/
abbrev first (g : FVec Ideal S4x128x1024 .bf16) (p : FVec Ideal S128x1024 .f32) : FVec Ideal S128x1024 .f32 := val_main_v6 (F := Ideal) g p
/-- The reference's second moment after the step. -/
abbrev second (g : FVec Ideal S4x128x1024 .bf16) (q : FVec Ideal S128x1024 .f32) : FVec Ideal S128x1024 .f32 := val_main_v12 (F := Ideal) g q

/-- The gradient the kernel returns is the reference's. -/
theorem final_grad : (dats m 0 c).arrAt 4 cfg0.N = grad (m ((c : Thread nD τ).loc main_arg0)) := by
  refine (dats m 0 c).arrAt_eq_of_covers 4 _ (by decide +kernel) fun t _ y => ?_
  blk_simp
  rw [after0_4]; frame_out
  pointwise [k0_pay1, k0_pay6, k0_pay5, k0_pay4, k0_pay3, k0_pay2, grad, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its step is the reference's. -/
theorem final_delta : (dats m 0 c).arrAt 5 cfg0.N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay6, k0_pay5, k0_pay4, k0_pay3, k0_pay2, delta, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its first moment is the reference's. -/
theorem final_first : (dats m 0 c).arrAt 6 cfg0.N = first (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay6, k0_pay5, k0_pay4, k0_pay3, k0_pay2, first, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

/-- Its second moment is the reference's. -/
theorem final_second : (dats m 0 c).arrAt 7 cfg0.N = second (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay1, k0_pay6, k0_pay5, k0_pay4, k0_pay3, k0_pay2, second, val_main_v25, val_main_v24, val_main_cst_8, val_main_v23, val_main_v22, val_main_v21, val_main_cst_7, val_main_v20, val_main_v19, val_main_v18, val_main_cst_6, val_main_v17, val_main_v16, val_main_v15, val_main_cst_5, val_main_v14, val_main_v13, val_main_cst_4, val_main_v12, val_main_v11, val_main_v10, val_main_cst_3, val_main_v9, val_main_v8, val_main_v7, val_main_cst_2, val_main_v6, val_main_v5, val_main_v4, val_main_cst_1, val_main_v3, val_main_v2, val_main_cst_0, val_main_v1, val_main_cst, val_main_v0]
  simp only [Fin.sum_univ_four]
  blk_point [iblk, V, idx t]

end AdamGlu
-- ==== Proof.AdamClaims.lean ====
/- The updates as certified: frames, and the kernel's four results equal to the reference's. -/
module

public import Idealize.ShloMosaic.Lib.Claim
public import proofs.«01_k».proof.Defs
public import proofs.«01_k».proof.Proof.Gen.AdamFfn.Frame
public import proofs.«01_k».proof.Proof.AdamFfn
public import proofs.«01_k».proof.Proof.Gen.AdamIn.Frame
public import proofs.«01_k».proof.Proof.AdamIn
public import proofs.«01_k».proof.Proof.Gen.AdamO.Frame
public import proofs.«01_k».proof.Proof.AdamO
public import proofs.«01_k».proof.Proof.Gen.AdamGlu.Frame
public import proofs.«01_k».proof.Proof.AdamGlu

@[expose] public section

set_option maxRecDepth 16384

open Idealize.ShloMosaic Idealize.ShloMosaic.TcCoe Idealize.SL.Sem

namespace AdamFfn

theorem frame_k : Cert.quiescent_AdamFfn := fun m ρ _ => Cert.AdamFfn.Gen.frame m ρ
theorem frame_ki : Cert.quiescent_AdamFfnIdeal := fun m ρ _ => Cert.AdamFfnIdeal.Gen.frame m ρ
theorem frame_r : Cert.quiescent_AdamFfnRefIdeal := by
  intro m g _
  exact (θ_run Cert.AdamFfnRefIdeal.defs _ _).mono
    (fun r h => ⟨fun c => (h c).2.2.2.2, sem_eq_zero_of_no_sems (by decide) r.2⟩)
    (Cert.AdamFfnRefIdeal.Value.run m g)
theorem preserves : Cert.preserves_AdamFfn_AdamFfnIdeal := trivial

theorem algebraic : Cert.algebraic_AdamFfnIdeal_AdamFfnRefIdeal := by
  intro m g m' g' _ hagree
  refine ⟨fun c => grad (m ((c : Thread Cert.AdamFfnIdeal.nD Cert.AdamFfnIdeal.τ).loc Cert.AdamFfnIdeal.main_arg0)), fun c => delta (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg1)) (m ((c : Thread Cert.AdamFfnIdeal.nD Cert.AdamFfnIdeal.τ).loc Cert.AdamFfnIdeal.main_arg2)) (m ((c : Thread Cert.AdamFfnIdeal.nD Cert.AdamFfnIdeal.τ).loc Cert.AdamFfnIdeal.main_arg3)),
    fun c => first (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg2)), fun c => second (m ((c : Thread Cert.AdamFfnIdeal.nD Cert.AdamFfnIdeal.τ).loc Cert.AdamFfnIdeal.main_arg0)) (m ((c : Thread Cert.AdamFfnIdeal.nD Cert.AdamFfnIdeal.τ).loc Cert.AdamFfnIdeal.main_arg3)),
    θ_run_mono (Cert.AdamFfnIdeal.Value.run_blocks m g) fun r h c => ?_, θ_run_mono (Cert.AdamFfnRefIdeal.Value.run m' g') fun r h c => ?_⟩
  · obtain ⟨a, b, d, e, f⟩ := h c
    exact ⟨a.trans (final_grad m c), b.trans (final_delta m c), d.trans (final_first m c), e.trans (final_second m c), f⟩
  · obtain ⟨a, b, d, e, f⟩ := h c
    obtain ⟨h0, h1, h2, h3⟩ := hagree c
    refine ⟨a.trans ((Cert.AdamFfnRefIdeal.Read.val_main_v1_eq _).trans ?_), b.trans ((Cert.AdamFfnRefIdeal.Read.val_main_v25_eq _ _ _ _).trans ?_),
      d.trans ((Cert.AdamFfnRefIdeal.Read.val_main_v6_eq _ _).trans ?_), e.trans ((Cert.AdamFfnRefIdeal.Read.val_main_v12_eq _ _).trans ?_), f⟩
    all_goals simp only [h0, h1, h2, h3]

end AdamFfn

namespace AdamIn

theorem frame_k : Cert.quiescent_AdamIn := fun m ρ _ => Cert.AdamIn.Gen.frame m ρ
theorem frame_ki : Cert.quiescent_AdamInIdeal := fun m ρ _ => Cert.AdamInIdeal.Gen.frame m ρ
theorem frame_r : Cert.quiescent_AdamInRefIdeal := by
  intro m g _
  exact (θ_run Cert.AdamInRefIdeal.defs _ _).mono
    (fun r h => ⟨fun c => (h c).2.2.2.2, sem_eq_zero_of_no_sems (by decide) r.2⟩)
    (Cert.AdamInRefIdeal.Value.run m g)
theorem preserves : Cert.preserves_AdamIn_AdamInIdeal := trivial

theorem algebraic : Cert.algebraic_AdamInIdeal_AdamInRefIdeal := by
  intro m g m' g' _ hagree
  refine ⟨fun c => grad (m ((c : Thread Cert.AdamInIdeal.nD Cert.AdamInIdeal.τ).loc Cert.AdamInIdeal.main_arg0)), fun c => delta (m ((c : Thread Cert.AdamInIdeal.nD Cert.AdamInIdeal.τ).loc Cert.AdamInIdeal.main_arg0)) (m ((c : Thread Cert.AdamInIdeal.nD Cert.AdamInIdeal.τ).loc Cert.AdamInIdeal.main_arg1)) (m ((c : Thread Cert.AdamInIdeal.nD Cert.AdamInIdeal.τ).loc Cert.AdamInIdeal.main_arg2)) (m ((c : Thread Cert.AdamInIdeal.nD Cert.AdamInIdeal.τ).loc Cert.AdamInIdeal.main_arg3)),
    fun c => first (m ((c : Thread Cert.AdamInIdeal.nD Cert.AdamInIdeal.τ).loc Cert.AdamInIdeal.main_arg0)) (m ((c : Thread Cert.AdamInIdeal.nD Cert.AdamInIdeal.τ).loc Cert.AdamInIdeal.main_arg2)), fun c => second (m ((c : Thread Cert.AdamInIdeal.nD Cert.AdamInIdeal.τ).loc Cert.AdamInIdeal.main_arg0)) (m ((c : Thread Cert.AdamInIdeal.nD Cert.AdamInIdeal.τ).loc Cert.AdamInIdeal.main_arg3)),
    θ_run_mono (Cert.AdamInIdeal.Value.run_blocks m g) fun r h c => ?_, θ_run_mono (Cert.AdamInRefIdeal.Value.run m' g') fun r h c => ?_⟩
  · obtain ⟨a, b, d, e, f⟩ := h c
    exact ⟨a.trans (final_grad m c), b.trans (final_delta m c), d.trans (final_first m c), e.trans (final_second m c), f⟩
  · obtain ⟨a, b, d, e, f⟩ := h c
    obtain ⟨h0, h1, h2, h3⟩ := hagree c
    refine ⟨a.trans ((Cert.AdamInRefIdeal.Read.val_main_v1_eq _).trans ?_), b.trans ((Cert.AdamInRefIdeal.Read.val_main_v25_eq _ _ _ _).trans ?_),
      d.trans ((Cert.AdamInRefIdeal.Read.val_main_v6_eq _ _).trans ?_), e.trans ((Cert.AdamInRefIdeal.Read.val_main_v12_eq _ _).trans ?_), f⟩
    all_goals simp only [h0, h1, h2, h3]

end AdamIn

namespace AdamO

theorem frame_k : Cert.quiescent_AdamO := fun m ρ _ => Cert.AdamO.Gen.frame m ρ
theorem frame_ki : Cert.quiescent_AdamOIdeal := fun m ρ _ => Cert.AdamOIdeal.Gen.frame m ρ
theorem frame_r : Cert.quiescent_AdamORefIdeal := by
  intro m g _
  exact (θ_run Cert.AdamORefIdeal.defs _ _).mono
    (fun r h => ⟨fun c => (h c).2.2.2.2, sem_eq_zero_of_no_sems (by decide) r.2⟩)
    (Cert.AdamORefIdeal.Value.run m g)
theorem preserves : Cert.preserves_AdamO_AdamOIdeal := trivial

theorem algebraic : Cert.algebraic_AdamOIdeal_AdamORefIdeal := by
  intro m g m' g' _ hagree
  refine ⟨fun c => grad (m ((c : Thread Cert.AdamOIdeal.nD Cert.AdamOIdeal.τ).loc Cert.AdamOIdeal.main_arg0)), fun c => delta (m ((c : Thread Cert.AdamOIdeal.nD Cert.AdamOIdeal.τ).loc Cert.AdamOIdeal.main_arg0)) (m ((c : Thread Cert.AdamOIdeal.nD Cert.AdamOIdeal.τ).loc Cert.AdamOIdeal.main_arg1)) (m ((c : Thread Cert.AdamOIdeal.nD Cert.AdamOIdeal.τ).loc Cert.AdamOIdeal.main_arg2)) (m ((c : Thread Cert.AdamOIdeal.nD Cert.AdamOIdeal.τ).loc Cert.AdamOIdeal.main_arg3)),
    fun c => first (m ((c : Thread Cert.AdamOIdeal.nD Cert.AdamOIdeal.τ).loc Cert.AdamOIdeal.main_arg0)) (m ((c : Thread Cert.AdamOIdeal.nD Cert.AdamOIdeal.τ).loc Cert.AdamOIdeal.main_arg2)), fun c => second (m ((c : Thread Cert.AdamOIdeal.nD Cert.AdamOIdeal.τ).loc Cert.AdamOIdeal.main_arg0)) (m ((c : Thread Cert.AdamOIdeal.nD Cert.AdamOIdeal.τ).loc Cert.AdamOIdeal.main_arg3)),
    θ_run_mono (Cert.AdamOIdeal.Value.run_blocks m g) fun r h c => ?_, θ_run_mono (Cert.AdamORefIdeal.Value.run m' g') fun r h c => ?_⟩
  · obtain ⟨a, b, d, e, f⟩ := h c
    exact ⟨a.trans (final_grad m c), b.trans (final_delta m c), d.trans (final_first m c), e.trans (final_second m c), f⟩
  · obtain ⟨a, b, d, e, f⟩ := h c
    obtain ⟨h0, h1, h2, h3⟩ := hagree c
    refine ⟨a.trans ((Cert.AdamORefIdeal.Read.val_main_v1_eq _).trans ?_), b.trans ((Cert.AdamORefIdeal.Read.val_main_v25_eq _ _ _ _).trans ?_),
      d.trans ((Cert.AdamORefIdeal.Read.val_main_v6_eq _ _).trans ?_), e.trans ((Cert.AdamORefIdeal.Read.val_main_v12_eq _ _).trans ?_), f⟩
    all_goals simp only [h0, h1, h2, h3]

end AdamO

namespace AdamGlu

theorem frame_k : Cert.quiescent_AdamGlu := fun m ρ _ => Cert.AdamGlu.Gen.frame m ρ
theorem frame_ki : Cert.quiescent_AdamGluIdeal := fun m ρ _ => Cert.AdamGluIdeal.Gen.frame m ρ
theorem frame_r : Cert.quiescent_AdamGluRefIdeal := by
  intro m g _
  exact (θ_run Cert.AdamGluRefIdeal.defs _ _).mono
    (fun r h => ⟨fun c => (h c).2.2.2.2, sem_eq_zero_of_no_sems (by decide) r.2⟩)
    (Cert.AdamGluRefIdeal.Value.run m g)
theorem preserves : Cert.preserves_AdamGlu_AdamGluIdeal := trivial

theorem algebraic : Cert.algebraic_AdamGluIdeal_AdamGluRefIdeal := by
  intro m g m' g' _ hagree
  refine ⟨fun c => grad (m ((c : Thread Cert.AdamGluIdeal.nD Cert.AdamGluIdeal.τ).loc Cert.AdamGluIdeal.main_arg0)), fun c => delta (m ((c : Thread Cert.AdamGluIdeal.nD Cert.AdamGluIdeal.τ).loc Cert.AdamGluIdeal.main_arg0)) (m ((c : Thread Cert.AdamGluIdeal.nD Cert.AdamGluIdeal.τ).loc Cert.AdamGluIdeal.main_arg1)) (m ((c : Thread Cert.AdamGluIdeal.nD Cert.AdamGluIdeal.τ).loc Cert.AdamGluIdeal.main_arg2)) (m ((c : Thread Cert.AdamGluIdeal.nD Cert.AdamGluIdeal.τ).loc Cert.AdamGluIdeal.main_arg3)),
    fun c => first (m ((c : Thread Cert.AdamGluIdeal.nD Cert.AdamGluIdeal.τ).loc Cert.AdamGluIdeal.main_arg0)) (m ((c : Thread Cert.AdamGluIdeal.nD Cert.AdamGluIdeal.τ).loc Cert.AdamGluIdeal.main_arg2)), fun c => second (m ((c : Thread Cert.AdamGluIdeal.nD Cert.AdamGluIdeal.τ).loc Cert.AdamGluIdeal.main_arg0)) (m ((c : Thread Cert.AdamGluIdeal.nD Cert.AdamGluIdeal.τ).loc Cert.AdamGluIdeal.main_arg3)),
    θ_run_mono (Cert.AdamGluIdeal.Value.run_blocks m g) fun r h c => ?_, θ_run_mono (Cert.AdamGluRefIdeal.Value.run m' g') fun r h c => ?_⟩
  · obtain ⟨a, b, d, e, f⟩ := h c
    exact ⟨a.trans (final_grad m c), b.trans (final_delta m c), d.trans (final_first m c), e.trans (final_second m c), f⟩
  · obtain ⟨a, b, d, e, f⟩ := h c
    obtain ⟨h0, h1, h2, h3⟩ := hagree c
    refine ⟨a.trans ((Cert.AdamGluRefIdeal.Read.val_main_v1_eq _).trans ?_), b.trans ((Cert.AdamGluRefIdeal.Read.val_main_v25_eq _ _ _ _).trans ?_),
      d.trans ((Cert.AdamGluRefIdeal.Read.val_main_v6_eq _ _).trans ?_), e.trans ((Cert.AdamGluRefIdeal.Read.val_main_v12_eq _ _).trans ?_), f⟩
    all_goals simp only [h0, h1, h2, h3]

end AdamGlu

end
-- ==== Proof.FfnIn.lean ====
/- The two products of the feed-forward input and the gated hidden rows. -/
module

public import Idealize.ShloMosaic.Lib.Claim
public import Idealize.ShloMosaic.Lib.Pipeline.ValueKit
public import proofs.«01_k».proof.Defs
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read

@[expose] public section

set_option maxRecDepth 16384

noncomputable section

namespace FfnIn

open Cert.FfnInIdeal Cert.FfnInIdeal.Gen Idealize.ShloMosaic Idealize.ShloMosaic.TcCoe Idealize.SL.Sem
open Cert.FfnInRefIdeal.Read

variable (m : (ℓ : Loc nD τ sig) → Buf (Elt Ideal) ℓ) (c : Dev nD)

/-- The windows' places: the rows of the left operand are the result's rows, those of the weights its columns. -/
theorem idx : ∀ t : Fin cfg0.N, win0_0.index t = ![(grid0.coords t 1).val, 0] ∧ win0_1.index t = ![(grid0.coords t 0).val, 0]
    ∧ win0_2.index t = ![(grid0.coords t 0).val, 0] ∧ win0_3.index t = ![(grid0.coords t 1).val, (grid0.coords t 0).val]
    ∧ win0_4.index t = ![(grid0.coords t 1).val, (grid0.coords t 0).val]
    ∧ win0_5.index t = ![(grid0.coords t 1).val, (grid0.coords t 0).val] := by decide +kernel

/-- The reference's gate, up and hidden rows at the run's arguments. -/
abbrev refGate (x : FVec Ideal S2048x2048 .bf16) (w : FVec Ideal S2048x5632 .f32) : FVec Ideal S2048x5632 .bf16 := val_main_v3 (F := Ideal) x w
abbrev refUp (x : FVec Ideal S2048x2048 .bf16) (w : FVec Ideal S2048x5632 .f32) : FVec Ideal S2048x5632 .bf16 := val_main_v4 (F := Ideal) x w
abbrev refHid (x : FVec Ideal S2048x2048 .bf16) (w v : FVec Ideal S2048x5632 .f32) : FVec Ideal S2048x5632 .bf16 := val_main_v7 (F := Ideal) x w v

theorem gate (t : Fin cfg0.N) (y) : k0_pay3 (iblk m c 0 t) (iblk m c 1 t) y
    = refGate (m ((c : Thread nD τ).loc main_arg0)) (m ((c : Thread nD τ).loc main_arg1)) (((cfg0.win 3).blk t).view.emb y) := by
  pointwise [k0_pay3, k0_pay1, refGate, val_main_v3, val_main_v1, val_main_v0]
  blk_point [iblk, V, idx t]

theorem up (t : Fin cfg0.N) (y) : k0_pay4 (iblk m c 0 t) (iblk m c 2 t) y
    = refUp (m ((c : Thread nD τ).loc main_arg0)) (m ((c : Thread nD τ).loc main_arg2)) (((cfg0.win 4).blk t).view.emb y) := by
  pointwise [k0_pay4, k0_pay2, refUp, val_main_v4, val_main_v2, val_main_v0]
  blk_point [iblk, V, idx t]

/-- The hidden rows: the gate times its logistic times the up product. -/
theorem hid (t : Fin cfg0.N) (y) : k0_pay5 (iblk m c 0 t) (iblk m c 1 t) (iblk m c 2 t) y
    = refHid (m ((c : Thread nD τ).loc main_arg0)) (m ((c : Thread nD τ).loc main_arg1)) (m ((c : Thread nD τ).loc main_arg2)) (((cfg0.win 5).blk t).view.emb y) := by
  pointwise [k0_pay5, k0_pay2, k0_pay1, refHid, val_main_v7, val_main_v6, val_main_v5, val_main_call0_v5, val_main_call0_cst_0, val_main_call0_cst, val_main_call0_v4, val_main_call0_v3, val_main_call0_v2, val_main_call0_v1, val_main_call0_v0, val_main_v2, val_main_v1, val_main_v0]
  simp only [zero_sub]
  blk_point [iblk, V, idx t]

theorem final_gate : (dats m 0 c).arrAt 3 cfg0.N = refGate (m ((c : Thread nD τ).loc main_arg0)) (m ((c : Thread nD τ).loc main_arg1)) := by
  refine (dats m 0 c).arrAt_eq_of_covers 3 _ (by decide +kernel) fun t _ y => ?_
  blk_simp
  rw [after0_3]; frame_out
  exact gate m c t y

theorem final_up : (dats m 0 c).arrAt 4 cfg0.N = refUp (m ((c : Thread nD τ).loc main_arg0)) (m ((c : Thread nD τ).loc main_arg2)) := by
  refine (dats m 0 c).arrAt_eq_of_covers 4 _ (by decide +kernel) fun t _ y => ?_
  blk_simp
  rw [after0_4]; frame_out
  exact up m c t y

theorem final_hid : (dats m 0 c).arrAt 5 cfg0.N = refHid (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact hid m c t y

end FfnIn
-- ==== Proof.FfnFinite.lean ====
/- The slope of the gated activation on real numbers, in the two spellings; and what the precondition of the
   feed-forward backward call says: every number the call is given is real. -/
module

public import Idealize.ShloMosaic.Lib.Pointwise
public import Idealize.ShloMosaic.Lib.ReduceAll
public import proofs.«01_k».proof.Proof.Gen.Pre_finite_ffn
public import proofs.«01_k».proof.Proof.Finite

@[expose] public section

set_option maxRecDepth 16384

noncomputable section

namespace Ffn

open Cert.Pre_finite_ffn Idealize.ShloMosaic Attn

/-- The logistic as the kernel spells it. -/
def logi (g : EReal) : EReal := Ideal.div 1 (1 + Ideal.exp (0 - g))

theorem logi_real {g : EReal} (h : IsReal g) : IsReal (logi g) := by
  obtain ⟨r, rfl⟩ := h
  have e : (0 : EReal) - (r : EReal) = ((-r : ℝ) : EReal) := by rw [zero_sub, EReal.coe_neg]
  have e' : (1 : EReal) + ((Real.exp (-r) : ℝ) : EReal) = ((1 + Real.exp (-r) : ℝ) : EReal) := by rw [EReal.coe_add, EReal.coe_one]
  have hp : (1 + Real.exp (-r)) ≠ 0 := by positivity
  rw [logi, e, Ideal.exp_coe, e', Ideal.div_coe hp, one_mul]
  exact .coe _

/-- The gradient of the gate: the kernel factors the slope, the chain rule adds two terms. -/
theorem slope {d u g : EReal} (hd : IsReal d) (hu : IsReal u) (hg : IsReal g) :
    d * u * logi g * (1 + g * (1 - logi g)) = d * u * logi g + g * (d * u) * (logi g * (1 - logi g)) := by
  obtain ⟨s, hs⟩ := logi_real hg
  rw [hs]
  obtain ⟨d, rfl⟩ := hd
  obtain ⟨u, rfl⟩ := hu
  obtain ⟨g, rfl⟩ := hg
  rw [← EReal.coe_one]
  norm_cast
  ring

/-- Every number the call is given is real. -/
structure AllReal (x0 : Vec Ideal S2048x2048 .bf16) (x1 x2 : Vec Ideal S2048x5632 .f32) (x3 : Vec Ideal S5632x2048 .f32)
    (x4 : Vec Ideal S2048x2048 .bf16) : Prop where
  h0 : ∀ i k, IsReal (x0 (ix2 i k))
  h1 : ∀ i k, IsReal (x1 (ix2 i k))
  h2 : ∀ i k, IsReal (x2 (ix2 i k))
  h3 : ∀ i k, IsReal (x3 (ix2 i k))
  h4 : ∀ i k, IsReal (x4 (ix2 i k))

theorem all_real (x0 : Vec Ideal S2048x2048 .bf16) (x1 x2 : Vec Ideal S2048x5632 .f32) (x3 : Vec Ideal S5632x2048 .f32)
    (x4 : Vec Ideal S2048x2048 .bf16) (h : fn (F := Ideal) x0 x1 x2 x3 x4 = fun _ => 1#1) : AllReal x0 x1 x2 x3 x4 := by
  have e := congrFun h (fun a => a.elim0)
  have and_one (a b : BitVec 1) (h : IntOp.andi a b = 1#1) : a = 1#1 ∧ b = 1#1 := by revert a b; decide
  obtain ⟨e, e4⟩ := and_one _ _ e
  obtain ⟨e, e3⟩ := and_one _ _ e
  obtain ⟨e, e2⟩ := and_one _ _ e
  obtain ⟨e0, e1⟩ := and_one _ _ e
  exact ⟨fun i k => real_of_abs (Host.reduce_andi_all _ _ _ _ _ e0 (ix2 i k)), fun i k => real_of_abs (Host.reduce_andi_all _ _ _ _ _ e1 (ix2 i k)),
    fun i k => real_of_abs (Host.reduce_andi_all _ _ _ _ _ e2 (ix2 i k)), fun i k => real_of_abs (Host.reduce_andi_all _ _ _ _ _ e3 (ix2 i k)),
    fun i k => real_of_abs (Host.reduce_andi_all _ _ _ _ _ e4 (ix2 i k))⟩

end Ffn
-- ==== Proof.FfnDownDx.lean ====
/- The gradient through the feed-forward output product and the gated activation, over blocks. -/
module

public import Idealize.ShloMosaic.Lib.Claim
public import Idealize.ShloMosaic.Lib.Pipeline.ValueKit
public import proofs.«01_k».proof.Defs
public import proofs.«01_k».proof.Proof.Gen.FfnDownDx.Frame
public import proofs.«01_k».proof.Proof.Gen.FfnDownDxIdeal.Value
public import proofs.«01_k».proof.Proof.Gen.FfnDownDxRefIdeal.Run
public import proofs.«01_k».proof.Proof.Gen.FfnDownDxRefIdeal.Read
public import proofs.«01_k».proof.Proof.FfnFinite

@[expose] public section

set_option maxRecDepth 16384

noncomputable section

namespace FfnDownDx

open Attn Ffn
open Cert.FfnDownDxIdeal Cert.FfnDownDxIdeal.Gen Idealize.ShloMosaic Idealize.ShloMosaic.TcCoe Idealize.SL.Sem
open Cert.FfnDownDxRefIdeal.Read

variable (m : (ℓ : Loc nD τ sig) → Buf (Elt Ideal) ℓ) (c : Dev nD)

/-- The windows' places: the rows of the gradient are read whole, the weight's rows are the results' columns. -/
theorem idx : ∀ t : Fin cfg0.N, win0_0.index t = ![0, 0] ∧ win0_1.index t = ![(grid0.coords t 0).val, 0]
    ∧ win0_2.index t = ![(grid0.coords t 1).val, (grid0.coords t 0).val] ∧ win0_3.index t = ![(grid0.coords t 1).val, (grid0.coords t 0).val]
    ∧ win0_4.index t = ![(grid0.coords t 1).val, (grid0.coords t 0).val]
    ∧ win0_5.index t = ![(grid0.coords t 1).val, (grid0.coords t 0).val] := by decide +kernel

/-- Where a point's rows of the gradient start. -/
theorem off : ∀ t : Fin cfg0.N, k0_off1 (grid0.coords t) = ![1024 * (grid0.coords t 1).val, 0] := by decide +kernel

/-- The reference's two gradients at the run's arguments. -/
abbrev refGate (x : FVec Ideal S2048x2048 .bf16) (w v : FVec Ideal S2048x5632 .f32) (u : FVec Ideal S5632x2048 .f32)
    (d : FVec Ideal S2048x2048 .bf16) : FVec Ideal S2048x5632 .bf16 := val_main_v11 (F := Ideal) x w v u d
abbrev refUp (x : FVec Ideal S2048x2048 .bf16) (w : FVec Ideal S2048x5632 .f32) (u : FVec Ideal S5632x2048 .f32)
    (d : FVec Ideal S2048x2048 .bf16) : FVec Ideal S2048x5632 .bf16 := val_main_v12 (F := Ideal) x w u d

/-- The gate and up rows the host hands over are the reference's. -/
theorem gate_rows : V m c main_v4 = (val_main_v1 (F := Ideal) (m ((c : Thread nD τ).loc main_arg0)) (m ((c : Thread nD τ).loc main_arg1)) : S2048x5632.Idx → EReal) := by
  funext i
  entry_read
  pointwise [val_main_v1, val_main_v0]

theorem up_rows : V m c main_v5 = (val_main_v2 (F := Ideal) (m ((c : Thread nD τ).loc main_arg0)) (m ((c : Thread nD τ).loc main_arg2)) : S2048x5632.Idx → EReal) := by
  funext i
  entry_read
  pointwise [val_main_v2, val_main_v0]

variable (t : Fin cfg0.N) (y : S1024x512.Idx)

theorem gate : iblk m c 2 t y = val_main_v1 (F := Ideal) (m ((c : Thread nD τ).loc main_arg0)) (m ((c : Thread nD τ).loc main_arg1)) (((cfg0.win 4).blk t).view.emb y) := by
  rw [← gate_rows]
  blk_point [iblk, V, idx t]

theorem up : iblk m c 3 t y = val_main_v2 (F := Ideal) (m ((c : Thread nD τ).loc main_arg0)) (m ((c : Thread nD τ).loc main_arg2)) (((cfg0.win 4).blk t).view.emb y) := by
  rw [← up_rows]
  blk_point [iblk, V, idx t]

/-- The gradient of the hidden rows at a point. -/
theorem hid : k0_pay1 (View.ld (iblk m c 0 t) (Rect.unit (k0_off1 (grid0.coords t)) ![1024, 2048] (k0_off1_inb (grid0.coords t)))) (iblk m c 1 t) y
    = val_main_v7 (F := Ideal) (m ((c : Thread nD τ).loc main_arg3)) (m ((c : Thread nD τ).loc main_arg4)) (((cfg0.win 4).blk t).view.emb y) := by
  pointwise [k0_pay1, val_main_v7, val_main_v6]
  blk_point [iblk, V, idx t, off t]

/-- The two windows of results lie alike. -/
theorem emb5 : ((cfg0.win 5).blk t).view.emb y = ((cfg0.win 4).blk t).view.emb y := by
  rfl

/-- The reference's products and gradients at an index. -/
theorem v1_at (x : FVec Ideal S2048x2048 .bf16) (w : FVec Ideal S2048x5632 .f32) (i : S2048x5632.Idx) :
    val_main_v1 (F := Ideal) x w i = ∑ k : Fin 2048, x (ix2 (i 0) k) * w (ix2 k (i 1)) := by
  pointwise [val_main_v1, val_main_v0]

theorem v2_at (x : FVec Ideal S2048x2048 .bf16) (w : FVec Ideal S2048x5632 .f32) (i : S2048x5632.Idx) :
    val_main_v2 (F := Ideal) x w i = ∑ k : Fin 2048, x (ix2 (i 0) k) * w (ix2 k (i 1)) := v1_at x w i

theorem v7_at (u : FVec Ideal S5632x2048 .f32) (d : FVec Ideal S2048x2048 .bf16) (i : S2048x5632.Idx) :
    val_main_v7 (F := Ideal) u d i = ∑ k : Fin 2048, d (ix2 (i 0) k) * u (ix2 (i 1) k) := by
  pointwise [val_main_v7, val_main_v6]

variable (x : FVec Ideal S2048x2048 .bf16) (w v : FVec Ideal S2048x5632 .f32) (u : FVec Ideal S5632x2048 .f32)
  (d : FVec Ideal S2048x2048 .bf16) (i : S2048x5632.Idx)

theorem refGate_at : refGate x w v u d i = val_main_v7 (F := Ideal) u d i * val_main_v2 (F := Ideal) x v i * logi (val_main_v1 (F := Ideal) x w i)
    + val_main_v1 (F := Ideal) x w i * (val_main_v7 (F := Ideal) u d i * val_main_v2 (F := Ideal) x v i)
      * (logi (val_main_v1 (F := Ideal) x w i) * (1 - logi (val_main_v1 (F := Ideal) x w i))) := by
  simp only [logi, zero_sub]
  pointwise [refGate, val_main_v11, val_main_v10, val_main_call1_v2, val_main_call1_v1, val_main_call1_v0, val_main_v9, val_main_v3_1,
    val_main_call0_v7, val_main_call0_v6, val_main_call0_cst_1, val_main_v3_2, val_main_call0_v4, val_main_call0_cst_0, val_main_call0_v3,
    val_main_call0_v2, val_main_call0_cst, val_main_call0_v1, val_main_call0_v0]

theorem refUp_at : refUp x w u d i
    = val_main_v1 (F := Ideal) x w i * logi (val_main_v1 (F := Ideal) x w i) * val_main_v7 (F := Ideal) u d i := by
  simp only [logi, zero_sub]
  pointwise [refUp, val_main_v12, val_main_v8, val_main_v3_0, val_main_v3_2, val_main_call0_v4, val_main_call0_cst_0, val_main_call0_v3,
    val_main_call0_v2, val_main_call0_cst, val_main_call0_v1, val_main_call0_v0]

theorem point_gate (R : AllReal (m ((c : Thread nD τ).loc main_arg0)) (m ((c : Thread nD τ).loc main_arg1)) (m ((c : Thread nD τ).loc main_arg2)) (m ((c : Thread nD τ).loc main_arg3)) (m ((c : Thread nD τ).loc main_arg4))) : (outsAt0 m c t).1 y = refGate (m ((c : Thread nD τ).loc main_arg0)) (m ((c : Thread nD τ).loc main_arg1)) (m ((c : Thread nD τ).loc main_arg2)) (m ((c : Thread nD τ).loc main_arg3)) (m ((c : Thread nD τ).loc main_arg4)) (((cfg0.win 4).blk t).view.emb y) := by
  unfold outsAt0
  frame_out
  refine Eq.trans ?_ ((slope ?_ ?_ ?_).trans (refGate_at _ _ _ _ _ _).symm)
  · refine Eq.trans ?_ (congrArg₂ (fun a b : EReal => a * b) (congrArg₂ (fun a b : EReal => a * b) (congrArg₂ (fun a b : EReal => a * b) (hid m c t y) (up m c t y)) (congrArg logi (gate m c t y)))
      (congrArg (fun g : EReal => 1 + g * (1 - logi g)) (gate m c t y)))
    pointwise [k0_pay4, k0_pay3, k0_pay2, logi]
    rfl
  · rw [v7_at]; exact IsReal.sum _ _ fun k _ => (R.h4 _ _).mul (R.h3 _ _)
  · rw [v2_at]; exact IsReal.sum _ _ fun k _ => (R.h0 _ _).mul (R.h2 _ _)
  · rw [v1_at]; exact IsReal.sum _ _ fun k _ => (R.h0 _ _).mul (R.h1 _ _)

theorem point_up : (outsAt0 m c t).2 y = refUp (m ((c : Thread nD τ).loc main_arg0)) (m ((c : Thread nD τ).loc main_arg1)) (m ((c : Thread nD τ).loc main_arg3)) (m ((c : Thread nD τ).loc main_arg4)) (((cfg0.win 5).blk t).view.emb y) := by
  unfold outsAt0
  frame_out
  rw [emb5]
  refine Eq.trans (b := val_main_v7 (F := Ideal) (m ((c : Thread nD τ).loc main_arg3)) (m ((c : Thread nD τ).loc main_arg4)) (((cfg0.win 4).blk t).view.emb y) * val_main_v1 (F := Ideal) (m ((c : Thread nD τ).loc main_arg0)) (m ((c : Thread nD τ).loc main_arg1)) (((cfg0.win 4).blk t).view.emb y)
      * logi (val_main_v1 (F := Ideal) (m ((c : Thread nD τ).loc main_arg0)) (m ((c : Thread nD τ).loc main_arg1)) (((cfg0.win 4).blk t).view.emb y))) ?_ (((mul_assoc _ _ _).trans (mul_comm _ _)).trans (refUp_at _ _ _ _ _).symm)
  refine Eq.trans ?_ (congrArg₂ (fun a b : EReal => a * b) (congrArg₂ (fun a b : EReal => a * b) (hid m c t y) (gate m c t y)) (congrArg logi (gate m c t y)))
  pointwise [k0_pay5, k0_pay3, k0_pay2, logi]
  rfl

theorem final_gate (R : AllReal (m ((c : Thread nD τ).loc main_arg0)) (m ((c : Thread nD τ).loc main_arg1)) (m ((c : Thread nD τ).loc main_arg2)) (m ((c : Thread nD τ).loc main_arg3)) (m ((c : Thread nD τ).loc main_arg4))) : (dats m 0 c).arrAt 4 cfg0.N = refGate (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  exact point_gate m c t y R

theorem final_up : (dats m 0 c).arrAt 5 cfg0.N = refUp (m ((c : Thread nD τ).loc main_arg0)) (m ((c : Thread nD τ).loc main_arg1)) (m ((c : Thread nD τ).loc main_arg3)) (m ((c : Thread nD τ).loc main_arg4)) := by
  refine (dats m 0 c).arrAt_eq_of_covers 5 _ (by decide +kernel) fun t _ y => ?_
  blk_simp
  rw [after0_5]
  exact point_up m c t y

end FfnDownDx
-- ==== Proof.FfnDown.lean ====
/- The feed-forward output product, hidden rows times the down weight. -/
module

public import Idealize.ShloMosaic.Lib.Claim
public import Idealize.ShloMosaic.Lib.Pipeline.ValueKit
public import proofs.«01_k».proof.Defs
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read

@[expose] public section

set_option maxRecDepth 16384

noncomputable section

namespace FfnDown

open Cert.FfnDownIdeal Cert.FfnDownIdeal.Gen Idealize.ShloMosaic Idealize.ShloMosaic.TcCoe Idealize.SL.Sem
open Cert.FfnDownRefIdeal.Read

variable (m : (ℓ : Loc nD τ sig) → Buf (Elt Ideal) ℓ) (c : Dev nD)

/-- The windows' places: the left operand's rows and the right operand's columns move with the result's. -/
theorem idx : ∀ t : Fin cfg0.N, win0_0.index t = ![(grid0.coords t 0).val, 0] ∧ win0_1.index t = ![0, (grid0.coords t 1).val]
    ∧ win0_2.index t = ![(grid0.coords t 0).val, (grid0.coords t 1).val] := by decide +kernel

/-- The reference's product of the run's arguments. -/
abbrev ref (a : FVec Ideal S2048x5632 .bf16) (b : FVec Ideal S5632x2048 .f32) : FVec Ideal S2048x2048 .f32 := val_main_v1 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v1, val_main_v0]
  blk_point [iblk, V, idx t]

theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end FfnDown
-- ==== Proof.FfnInDx.lean ====
/- The gradient of the feed-forward input: the second of its two products, which adds the first. -/
module

public import Idealize.ShloMosaic.Lib.Claim
public import Idealize.ShloMosaic.Lib.Pipeline.ValueKit
public import proofs.«01_k».proof.Defs
public import proofs.«01_k».proof.Proof.Gen.FfnInDx.Frame
public import proofs.«01_k».proof.Proof.Gen.FfnInDxIdeal.Value
public import proofs.«01_k».proof.Proof.Gen.FfnInDxRefIdeal.Run
public import proofs.«01_k».proof.Proof.Gen.FfnInDxRefIdeal.Read

@[expose] public section

set_option maxRecDepth 16384

noncomputable section

namespace FfnInDx

open Cert.FfnInDxIdeal Cert.FfnInDxIdeal.Gen Idealize.ShloMosaic Idealize.ShloMosaic.TcCoe Idealize.SL.Sem
open Cert.FfnInDxRefIdeal.Read

variable (m : (ℓ : Loc nD τ sig) → Buf (Elt Ideal) ℓ) (c : Dev nD)

/-- The windows' places: the left operand's rows and the right operand's columns move with the result's. -/
theorem idx : ∀ t : Fin cfg0.N, win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val, (grid0.coords t 1).val] := by decide +kernel

/-- The reference's gradient at the run's arguments. -/
abbrev ref (a b : FVec Ideal S2048x5632 .bf16) (w v : FVec Ideal S2048x5632 .f32) : FVec Ideal S2048x2048 .f32 := val_main_v7 (F := Ideal) a b w v

/-- The gradient through the gate, which the host hands over, is the reference's first product. -/
theorem before : V m c main_v1 = val_main_v6 (F := Ideal) (m ((c : Thread nD τ).loc main_arg0)) (m ((c : Thread nD τ).loc main_arg2)) := by
  funext i
  entry_read
  pointwise [val_main_v6, val_main_v3, val_main_v1]

/-- What a grid point stores is the reference's block there. -/
theorem point (t : Fin cfg0.N) (y) : k0_pay1 (iblk m c 0 t) (iblk m c 1 t) (iblk m c 2 t) y
    = ref (m ((c : Thread nD τ).loc main_arg0)) (m ((c : Thread nD τ).loc main_arg1))
      (m ((c : Thread nD τ).loc main_arg2)) (m ((c : Thread nD τ).loc main_arg3)) (((cfg0.win 3).blk t).view.emb y) := by
  pointwise [k0_pay1, ref, val_main_v7, val_main_v5, val_main_v4]
  blk_point [iblk, V, idx t]

theorem final : (dats m 0 c).arrAt 3 cfg0.N = ref (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

end FfnInDx
-- ==== Proof.FfnDw.lean ====
/- The gradient of a feed-forward weight, a product over the rows: what `ffn_down_dw` (and the two calls of its text) leaves is the derivative. -/
module

public import Idealize.ShloMosaic.Lib.Claim
public import Idealize.ShloMosaic.Lib.Pipeline.ValueKit
public import proofs.«01_k».proof.Defs
public import proofs.«01_k».proof.Proof.Gen.FfnDw.Frame
public import proofs.«01_k».proof.Proof.Gen.FfnDwIdeal.Value
public import proofs.«01_k».proof.Proof.Gen.FfnDwRefIdeal.Run
public import proofs.«01_k».proof.Proof.Gen.FfnDwRefIdeal.Read

@[expose] public section

set_option maxRecDepth 16384

noncomputable section

namespace FfnDw

open Cert.FfnDwIdeal Cert.FfnDwIdeal.Gen Idealize.ShloMosaic Idealize.ShloMosaic.TcCoe Idealize.SL.Sem
open Cert.FfnDwRefIdeal.Read

variable (m : (ℓ : Loc nD τ sig) → Buf (Elt Ideal) ℓ) (c : Dev nD)

/-- The windows' places: the columns of the left operand move with the result's rows. -/
theorem idx : ∀ t : Fin cfg0.N, win0_0.index t = ![(grid0.coords t 2).val, (grid0.coords t 0).val]
    ∧ win0_1.index t = ![(grid0.coords t 2).val, (grid0.coords t 1).val]
    ∧ win0_2.index t = ![(grid0.coords t 0).val, (grid0.coords t 1).val]
    ∧ (grid0.coords t 1).val = 0 ∧ (grid0.coords t 2).val = 0 := by decide +kernel

/-- The reference's gradient of the run's arguments. -/
abbrev ref (a : FVec Ideal S2048x5632 .bf16) (b : FVec Ideal S2048x2048 .bf16) : FVec Ideal S5632x2048 .bf16 := val_main_v6 (F := Ideal) a b

/-- What a grid point stores is the reference's block there. -/
theorem point (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v6, val_main_v5, val_main_v4, val_main_v3, val_main_v2, val_main_v1, val_main_v0]
  refine Finset.sum_congr rfl fun k _ => (mul_comm _ _).trans ?_
  blk_point [iblk, V, idx t]

theorem final : (dats m 0 c).arrAt 2 cfg0.N = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end FfnDw
-- ==== Proof.FfnClaims.lean ====
/- The claims of the feed-forward calls: each program leaves the machine quiet, and its results are the reference's. -/
module

public import Idealize.ShloMosaic.Lib.Claim
public import proofs.«01_k».proof.Defs
public import proofs.«01_k».proof.Proof.Gen.FfnIn.Frame
public import proofs.«01_k».proof.Proof.FfnIn
public import proofs.«01_k».proof.Proof.Gen.FfnDownDx.Frame
public import proofs.«01_k».proof.Proof.FfnDownDx
public import proofs.«01_k».proof.Proof.Gen.FfnDown.Frame
public import proofs.«01_k».proof.Proof.FfnDown
public import proofs.«01_k».proof.Proof.Gen.FfnInDx.Frame
public import proofs.«01_k».proof.Proof.FfnInDx
public import proofs.«01_k».proof.Proof.Gen.FfnDw.Frame
public import proofs.«01_k».proof.Proof.FfnDw

@[expose] public section

set_option maxRecDepth 16384

open Idealize.ShloMosaic Idealize.ShloMosaic.TcCoe Idealize.SL.Sem

namespace FfnIn

theorem frame_k : Cert.quiescent_FfnIn := fun m ρ _ => Cert.FfnIn.Gen.frame m ρ
theorem frame_ki : Cert.quiescent_FfnInIdeal := fun m ρ _ => Cert.FfnInIdeal.Gen.frame m ρ
theorem frame_r : Cert.quiescent_FfnInRefIdeal := by
  intro m g _
  exact (θ_run Cert.FfnInRefIdeal.defs _ _).mono
    (fun r h => ⟨fun c => (h c).2.2.2, sem_eq_zero_of_no_sems (by decide) r.2⟩)
    (Cert.FfnInRefIdeal.Value.run m g)
theorem preserves : Cert.preserves_FfnIn_FfnInIdeal := trivial

theorem algebraic : Cert.algebraic_FfnInIdeal_FfnInRefIdeal := by
  pair_intro
  · run_from Cert.FfnInIdeal.Value.run_blocks m g
  · run_from Cert.FfnInRefIdeal.Value.run m' g'
    all_goals obtain ⟨h0, h1, h2⟩ := hagree c
    · refine ((Cert.FfnInRefIdeal.Read.val_main_v3_eq _ _).trans ?_).trans (final_gate m c).symm
      simp only [h0, h1, h2]
    · refine ((Cert.FfnInRefIdeal.Read.val_main_v4_eq _ _).trans ?_).trans (final_up m c).symm
      simp only [h0, h1, h2]
    · refine ((Cert.FfnInRefIdeal.Read.val_main_v7_eq _ _ _).trans ?_).trans (final_hid m c).symm
      simp only [h0, h1, h2]

end FfnIn

namespace FfnDownDx

theorem frame_k : Cert.quiescent_FfnDownDx := fun m ρ _ => Cert.FfnDownDx.Gen.frame m ρ
theorem frame_ki : Cert.quiescent_FfnDownDxIdeal := fun m ρ _ => Cert.FfnDownDxIdeal.Gen.frame m ρ
theorem frame_r : Cert.quiescent_FfnDownDxRefIdeal := by
  intro m g _
  exact (θ_run Cert.FfnDownDxRefIdeal.defs _ _).mono
    (fun r h => ⟨fun c => (h c).2.2, sem_eq_zero_of_no_sems (by decide) r.2⟩)
    (Cert.FfnDownDxRefIdeal.Value.run m g)
theorem frame_ki_pre : Cert.quiescent_FfnDownDxIdeal_pre_finite_ffn := fun m ρ _ => frame_ki m ρ trivial
theorem frame_r_pre : Cert.quiescent_FfnDownDxRefIdeal_pre_finite_ffn := fun m g _ => frame_r m g trivial
theorem preserves : Cert.preserves_FfnDownDx_FfnDownDxIdeal := trivial

theorem algebraic : Cert.algebraic_FfnDownDxIdeal_FfnDownDxRefIdeal_pre_finite_ffn := by
  pair_intro
  · run_from Cert.FfnDownDxIdeal.Value.run_blocks m g
  · run_from Cert.FfnDownDxRefIdeal.Value.run m' g'
    all_goals obtain ⟨h0, h1, h2, h3, h4⟩ := hagree c
    · refine ((Cert.FfnDownDxRefIdeal.Read.val_main_v11_eq _ _ _ _ _).trans ?_).trans (final_gate m c (Ffn.all_real _ _ _ _ _ (hpre c))).symm
      simp only [h0, h1, h2, h3, h4]
    · refine ((Cert.FfnDownDxRefIdeal.Read.val_main_v12_eq _ _ _ _).trans ?_).trans (final_up m c).symm
      simp only [h0, h1, h2, h3, h4]

end FfnDownDx

namespace FfnDown

theorem frame_k : Cert.quiescent_FfnDown := fun m ρ _ => Cert.FfnDown.Gen.frame m ρ
theorem frame_ki : Cert.quiescent_FfnDownIdeal := fun m ρ _ => Cert.FfnDownIdeal.Gen.frame m ρ
theorem frame_r : Cert.quiescent_FfnDownRefIdeal := by
  intro m g _
  exact (θ_run Cert.FfnDownRefIdeal.defs _ _).mono
    (fun r h => ⟨fun c => (h c).2, sem_eq_zero_of_no_sems (by decide) r.2⟩)
    (Cert.FfnDownRefIdeal.Value.run m g)
theorem preserves : Cert.preserves_FfnDown_FfnDownIdeal := trivial

theorem algebraic : Cert.algebraic_FfnDownIdeal_FfnDownRefIdeal := by
  pair_intro
  · run_from Cert.FfnDownIdeal.Value.run_blocks m g
  · run_from Cert.FfnDownRefIdeal.Value.run m' g'
    all_goals obtain ⟨h0, h1⟩ := hagree c
    · refine ((Cert.FfnDownRefIdeal.Read.val_main_v1_eq _ _).trans ?_).trans (final m c).symm
      simp only [h0, h1]

end FfnDown

namespace FfnInDx

theorem frame_k : Cert.quiescent_FfnInDx := fun m ρ _ => Cert.FfnInDx.Gen.frame m ρ
theorem frame_ki : Cert.quiescent_FfnInDxIdeal := fun m ρ _ => Cert.FfnInDxIdeal.Gen.frame m ρ
theorem frame_r : Cert.quiescent_FfnInDxRefIdeal := by
  intro m g _
  exact (θ_run Cert.FfnInDxRefIdeal.defs _ _).mono
    (fun r h => ⟨fun c => (h c).2, sem_eq_zero_of_no_sems (by decide) r.2⟩)
    (Cert.FfnInDxRefIdeal.Value.run m g)
theorem preserves : Cert.preserves_FfnInDx_FfnInDxIdeal := trivial

theorem algebraic : Cert.algebraic_FfnInDxIdeal_FfnInDxRefIdeal := by
  pair_intro
  · run_from Cert.FfnInDxIdeal.Value.run_blocks m g
  · run_from Cert.FfnInDxRefIdeal.Value.run m' g'
    all_goals obtain ⟨h0, h1, h2, h3⟩ := hagree c
    · refine ((Cert.FfnInDxRefIdeal.Read.val_main_v7_eq _ _ _ _).trans ?_).trans (final m c).symm
      simp only [h0, h1, h2, h3]

end FfnInDx

namespace FfnDw

theorem frame_k : Cert.quiescent_FfnDw := fun m ρ _ => Cert.FfnDw.Gen.frame m ρ
theorem frame_ki : Cert.quiescent_FfnDwIdeal := fun m ρ _ => Cert.FfnDwIdeal.Gen.frame m ρ
theorem frame_r : Cert.quiescent_FfnDwRefIdeal := by
  intro m g _
  exact (θ_run Cert.FfnDwRefIdeal.defs _ _).mono
    (fun r h => ⟨fun c => (h c).2, sem_eq_zero_of_no_sems (by decide) r.2⟩)
    (Cert.FfnDwRefIdeal.Value.run m g)
theorem preserves : Cert.preserves_FfnDw_FfnDwIdeal := trivial

theorem algebraic : Cert.algebraic_FfnDwIdeal_FfnDwRefIdeal := by
  pair_intro
  · run_from Cert.FfnDwIdeal.Value.run_blocks m g
  · run_from Cert.FfnDwRefIdeal.Value.run m' g'
    all_goals obtain ⟨h0, h1⟩ := hagree c
    · refine ((Cert.FfnDwRefIdeal.Read.val_main_v6_eq _ _).trans ?_).trans (final m c).symm
      simp only [h0, h1]

end FfnDw

end
-- ==== Proof.lean ====
/- The proof of the certificate's claims (proofs.«01_k».Defs): each is proved in Proof/Claims.lean or Proof/FfnClaims.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjInRefIdeal.Read
public import proofs.«01_k».proof.Proof.Gen.ProjInDx
public import proofs.«01_k».proof.Proof.Gen.ProjInDx.Frame
public import proofs.«01_k».proof.Proof.Gen.ProjInDxIdeal
public import proofs.«01_k».proof.Proof.Gen.ProjInDxIdeal.Frame
public import proofs.«01_k».proof.Proof.Gen.ProjInDxIdeal.Value
public import proofs.«01_k».proof.Proof.Gen.ProjInDxRefIdeal
public import proofs.«01_k».proof.Proof.Gen.ProjInDxRefIdeal.Run
public import proofs.«01_k».proof.Proof.Gen.ProjInDxRefIdeal.Read
public import proofs.«01_k».proof.Proof.Gen.ProjInDw
public import proofs.«01_k».proof.Proof.Gen.ProjInDw.Frame
public import proofs.«01_k».proof.Proof.Gen.ProjInDwIdeal
public import proofs.«01_k».proof.Proof.Gen.ProjInDwIdeal.Frame
public import proofs.«01_k».proof.Proof.Gen.ProjInDwIdeal.Value
public import proofs.«01_k».proof.Proof.Gen.ProjInDwRefIdeal
public import proofs.«01_k».proof.Proof.Gen.ProjInDwRefIdeal.Run
public import proofs.«01_k».proof.Proof.Gen.ProjInDwRefIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixOutDx
public import proofs.«01_k».proof.Proof.Gen.MixOutDx.Frame
public import proofs.«01_k».proof.Proof.Gen.MixOutDxIdeal
public import proofs.«01_k».proof.Proof.Gen.MixOutDxIdeal.Frame
public import proofs.«01_k».proof.Proof.Gen.MixOutDxIdeal.Value
public import proofs.«01_k».proof.Proof.Gen.MixOutDxRefIdeal
public import proofs.«01_k».proof.Proof.Gen.MixOutDxRefIdeal.Run
public import proofs.«01_k».proof.Proof.Gen.MixOutDxRefIdeal.Read
public import proofs.«01_k».proof.Proof.Gen.MixOutDw
public import proofs.«01_k».proof.Proof.Gen.MixOutDw.Frame
public import proofs.«01_k».proof.Proof.Gen.MixOutDwIdeal
public import proofs.«01_k».proof.Proof.Gen.MixOutDwIdeal.Frame
public import proofs.«01_k».proof.Proof.Gen.MixOutDwIdeal.Value
public import proofs.«01_k».proof.Proof.Gen.MixOutDwRefIdeal
public import proofs.«01_k».proof.Proof.Gen.MixOutDwRefIdeal.Run
public import proofs.«01_k».proof.Proof.Gen.MixOutDwRefIdeal.Read
public import proofs.«01_k».proof.Proof.Gen.GluGate
public import proofs.«01_k».proof.Proof.Gen.GluGate.Frame
public import proofs.«01_k».proof.Proof.Gen.GluGateIdeal
public import proofs.«01_k».proof.Proof.Gen.GluGateIdeal.Frame
public import proofs.«01_k».proof.Proof.Gen.GluGateIdeal.Value
public import proofs.«01_k».proof.Proof.Gen.GluGateRefIdeal
public import proofs.«01_k».proof.Proof.Gen.GluGateRefIdeal.Run
public import proofs.«01_k».proof.Proof.Gen.GluGateRefIdeal.Read
public import proofs.«01_k».proof.Proof.Gen.GluGateDx
public import proofs.«01_k».proof.Proof.Gen.GluGateDx.Frame
public import proofs.«01_k».proof.Proof.Gen.GluGateDxIdeal
public import proofs.«01_k».proof.Proof.Gen.GluGateDxIdeal.Frame
public import proofs.«01_k».proof.Proof.Gen.GluGateDxIdeal.Value
public import proofs.«01_k».proof.Proof.Gen.GluGateDxRefIdeal
public import proofs.«01_k».proof.Proof.Gen.GluGateDxRefIdeal.Run
public import proofs.«01_k».proof.Proof.Gen.GluGateDxRefIdeal.Read
public import proofs.«01_k».proof.Proof.Gen.GluGateDw
public import proofs.«01_k».proof.Proof.Gen.GluGateDw.Frame
public import proofs.«01_k».proof.Proof.Gen.GluGateDwIdeal
public import proofs.«01_k».proof.Proof.Gen.GluGateDwIdeal.Frame
public import proofs.«01_k».proof.Proof.Gen.GluGateDwIdeal.Value
public import proofs.«01_k».proof.Proof.Gen.GluGateDwRefIdeal
public import proofs.«01_k».proof.Proof.Gen.GluGateDwRefIdeal.Run
public import proofs.«01_k».proof.Proof.Gen.GluGateDwRefIdeal.Read
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamO
public import proofs.«01_k».proof.Proof.Gen.AdamO.Frame
public import proofs.«01_k».proof.Proof.Gen.AdamOIdeal
public import proofs.«01_k».proof.Proof.Gen.AdamOIdeal.Frame
public import proofs.«01_k».proof.Proof.Gen.AdamOIdeal.Value
public import proofs.«01_k».proof.Proof.Gen.AdamORefIdeal
public import proofs.«01_k».proof.Proof.Gen.AdamORefIdeal.Run
public import proofs.«01_k».proof.Proof.Gen.AdamORefIdeal.Read
public import proofs.«01_k».proof.Proof.Gen.AdamGlu
public import proofs.«01_k».proof.Proof.Gen.AdamGlu.Frame
public import proofs.«01_k».proof.Proof.Gen.AdamGluIdeal
public import proofs.«01_k».proof.Proof.Gen.AdamGluIdeal.Frame
public import proofs.«01_k».proof.Proof.Gen.AdamGluIdeal.Value
public import proofs.«01_k».proof.Proof.Gen.AdamGluRefIdeal
public import proofs.«01_k».proof.Proof.Gen.AdamGluRefIdeal.Run
public import proofs.«01_k».proof.Proof.Gen.AdamGluRefIdeal.Read
public import proofs.«01_k».proof.Proof.Claims
public import proofs.«01_k».proof.Proof.ProductClaims
public import proofs.«01_k».proof.Proof.AdamClaims
public import proofs.«01_k».proof.Proof.FfnClaims
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.FfnDownDx
public import proofs.«01_k».proof.Proof.Gen.FfnDownDx.Frame
public import proofs.«01_k».proof.Proof.Gen.FfnDownDxIdeal
public import proofs.«01_k».proof.Proof.Gen.FfnDownDxIdeal.Frame
public import proofs.«01_k».proof.Proof.Gen.FfnDownDxIdeal.Value
public import proofs.«01_k».proof.Proof.Gen.FfnDownDxRefIdeal
public import proofs.«01_k».proof.Proof.Gen.FfnDownDxRefIdeal.Run
public import proofs.«01_k».proof.Proof.Gen.FfnDownDxRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnInDxRefIdeal.Read
public import proofs.«01_k».proof.Proof.Gen.FfnDw
public import proofs.«01_k».proof.Proof.Gen.FfnDw.Frame
public import proofs.«01_k».proof.Proof.Gen.FfnDwIdeal
public import proofs.«01_k».proof.Proof.Gen.FfnDwIdeal.Frame
public import proofs.«01_k».proof.Proof.Gen.FfnDwIdeal.Value
public import proofs.«01_k».proof.Proof.Gen.FfnDwRefIdeal
public import proofs.«01_k».proof.Proof.Gen.FfnDwRefIdeal.Run
public import proofs.«01_k».proof.Proof.Gen.FfnDwRefIdeal.Read
public import proofs.«01_k».proof.Proof.Gen.Pre_finite_ffn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.FfnIn.Gen.facts, Cert.FfnInIdeal.Gen.facts, Cert.FfnInRefIdeal.Gen.facts, Cert.FfnDownDx.Gen.facts, Cert.FfnDownDxIdeal.Gen.facts, Cert.FfnDownDxRefIdeal.Gen.facts, Cert.FfnDown.Gen.facts, Cert.FfnDownIdeal.Gen.facts, Cert.FfnDownRefIdeal.Gen.facts, Cert.FfnInDx.Gen.facts, Cert.FfnInDxIdeal.Gen.facts, Cert.FfnInDxRefIdeal.Gen.facts, Cert.FfnDw.Gen.facts, Cert.FfnDwIdeal.Gen.facts, Cert.FfnDwRefIdeal.Gen.facts, Cert.ProjIn.Gen.facts, Cert.ProjInIdeal.Gen.facts, Cert.ProjInRefIdeal.Gen.facts, Cert.ProjInDx.Gen.facts, Cert.ProjInDxIdeal.Gen.facts, Cert.ProjInDxRefIdeal.Gen.facts, Cert.ProjInDw.Gen.facts, Cert.ProjInDwIdeal.Gen.facts, Cert.ProjInDwRefIdeal.Gen.facts, Cert.MixOut.Gen.facts, Cert.MixOutIdeal.Gen.facts, Cert.MixOutRefIdeal.Gen.facts, Cert.MixOutDx.Gen.facts, Cert.MixOutDxIdeal.Gen.facts, Cert.MixOutDxRefIdeal.Gen.facts, Cert.MixOutDw.Gen.facts, Cert.MixOutDwIdeal.Gen.facts, Cert.MixOutDwRefIdeal.Gen.facts, Cert.GluGate.Gen.facts, Cert.GluGateIdeal.Gen.facts, Cert.GluGateRefIdeal.Gen.facts, Cert.GluGateDx.Gen.facts, Cert.GluGateDxIdeal.Gen.facts, Cert.GluGateDxRefIdeal.Gen.facts, Cert.GluGateDw.Gen.facts, Cert.GluGateDwIdeal.Gen.facts, Cert.GluGateDwRefIdeal.Gen.facts, Cert.AdamFfn.Gen.facts, Cert.AdamFfnIdeal.Gen.facts, Cert.AdamFfnRefIdeal.Gen.facts, Cert.AdamIn.Gen.facts, Cert.AdamInIdeal.Gen.facts, Cert.AdamInRefIdeal.Gen.facts, Cert.AdamO.Gen.facts, Cert.AdamOIdeal.Gen.facts, Cert.AdamORefIdeal.Gen.facts, Cert.AdamGlu.Gen.facts, Cert.AdamGluIdeal.Gen.facts, Cert.AdamGluRefIdeal.Gen.facts, Cert.Pre_finite.Gen.facts, Cert.Pre_finite_ffn.Gen.facts,
  Attn.frame_k, Attn.frame_ki, Attn.frame_ki_pre, Attn.frame_r, Attn.frame_r_pre,
  FfnIn.frame_k, FfnIn.frame_ki, FfnIn.frame_r,
  FfnDownDx.frame_k, FfnDownDx.frame_ki, FfnDownDx.frame_ki_pre, FfnDownDx.frame_r, FfnDownDx.frame_r_pre,
  FfnDown.frame_k, FfnDown.frame_ki, FfnDown.frame_r,
  FfnInDx.frame_k, FfnInDx.frame_ki, FfnInDx.frame_r,
  FfnDw.frame_k, FfnDw.frame_ki, FfnDw.frame_r,
  ProjIn.frame_k, ProjIn.frame_ki, ProjIn.frame_r,
  ProjInDx.frame_k, ProjInDx.frame_ki, ProjInDx.frame_r,
  ProjInDw.frame_k, ProjInDw.frame_ki, ProjInDw.frame_r,
  MixOut.frame_k, MixOut.frame_ki, MixOut.frame_r,
  MixOutDx.frame_k, MixOutDx.frame_ki, MixOutDx.frame_r,
  MixOutDw.frame_k, MixOutDw.frame_ki, MixOutDw.frame_r,
  GluGate.frame_k, GluGate.frame_ki, GluGate.frame_r,
  GluGateDx.frame_k, GluGateDx.frame_ki, GluGateDx.frame_r,
  GluGateDw.frame_k, GluGateDw.frame_ki, GluGateDw.frame_r,
  AdamFfn.frame_k, AdamFfn.frame_ki, AdamFfn.frame_r,
  AdamIn.frame_k, AdamIn.frame_ki, AdamIn.frame_r,
  AdamO.frame_k, AdamO.frame_ki, AdamO.frame_r,
  AdamGlu.frame_k, AdamGlu.frame_ki, AdamGlu.frame_r,
  Attn.preserves, Attn.algebraic,
  FfnIn.preserves, FfnIn.algebraic, FfnDownDx.preserves, FfnDownDx.algebraic, FfnDown.preserves, FfnDown.algebraic, FfnInDx.preserves, FfnInDx.algebraic, FfnDw.preserves, FfnDw.algebraic,
  ProjIn.preserves, ProjIn.algebraic, ProjInDx.preserves, ProjInDx.algebraic, ProjInDw.preserves, ProjInDw.algebraic, MixOut.preserves, MixOut.algebraic, MixOutDx.preserves, MixOutDx.algebraic, MixOutDw.preserves, MixOutDw.algebraic, GluGate.preserves, GluGate.algebraic, GluGateDx.preserves, GluGateDx.algebraic, GluGateDw.preserves, GluGateDw.algebraic, AdamFfn.preserves, AdamFfn.algebraic, AdamIn.preserves, AdamIn.algebraic, AdamO.preserves, AdamO.algebraic, AdamGlu.preserves, AdamGlu.algebraic⟩

end Cert.Proof

end
